-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_tokens_and_router_finite [hPre_tokens_and_router_finite : Cert.Pre_tokens_and_router_finite.Facts] (m : (ℓ : Loc Cert.MoeIdeal.nD Cert.MoeIdeal.τ Cert.MoeIdeal.sig) → Buf (Elt Ideal) ℓ) : Prop :=
  ∀ c : Dev Cert.MoeIdeal.nD,
    (Cert.Pre_tokens_and_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_tokens_and_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_tokens_and_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_tokens_and_router_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tokens_and_router_finite [hPre_tokens_and_router_finite : Cert.Pre_tokens_and_router_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tokens_and_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).1 = (fun _ => 1#1)
    ∧ (Cert.Pre_tokens_and_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.1 = (fun _ => 1#1)
    ∧ (Cert.Pre_tokens_and_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.1 = (fun _ => 1#1)
    ∧ (Cert.Pre_tokens_and_router_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Seq (m : (ℓ : Loc Cert.Seq.nD Cert.Seq.τ Cert.Seq.sig) → Buf (Elt Bits) ℓ) : Prop :=
  True

def Pre_SeqIdeal (m : (ℓ : Loc Cert.SeqIdeal.nD Cert.SeqIdeal.τ Cert.SeqIdeal.sig) → Buf (Elt Ideal) ℓ) : Prop :=
  True

def Pre_SeqIdeal_attention_finite [hPre_attention_finite : Cert.Pre_attention_finite.Facts] (m : (ℓ : Loc Cert.SeqIdeal.nD Cert.SeqIdeal.τ Cert.SeqIdeal.sig) → Buf (Elt Ideal) ℓ) : Prop :=
  ∀ c : Dev Cert.SeqIdeal.nD,
    (Cert.Pre_attention_finite.fn (F := Ideal) (m ((c.tc : Thread Cert.SeqIdeal.nD Cert.SeqIdeal.τ).loc Cert.SeqIdeal.main_arg0)) (m ((c.tc : Thread Cert.SeqIdeal.nD Cert.SeqIdeal.τ).loc Cert.SeqIdeal.main_arg1)) (m ((c.tc : Thread Cert.SeqIdeal.nD Cert.SeqIdeal.τ).loc Cert.SeqIdeal.main_arg2)) (m ((c.tc : Thread Cert.SeqIdeal.nD Cert.SeqIdeal.τ).loc Cert.SeqIdeal.main_arg3)) (m ((c.tc : Thread Cert.SeqIdeal.nD Cert.SeqIdeal.τ).loc Cert.SeqIdeal.main_arg4)) (m ((c.tc : Thread Cert.SeqIdeal.nD Cert.SeqIdeal.τ).loc Cert.SeqIdeal.main_arg5)) (m ((c.tc : Thread Cert.SeqIdeal.nD Cert.SeqIdeal.τ).loc Cert.SeqIdeal.main_arg6)) (m ((c.tc : Thread Cert.SeqIdeal.nD Cert.SeqIdeal.τ).loc Cert.SeqIdeal.main_arg7)) (m ((c.tc : Thread Cert.SeqIdeal.nD Cert.SeqIdeal.τ).loc Cert.SeqIdeal.main_arg8)) (m ((c.tc : Thread Cert.SeqIdeal.nD Cert.SeqIdeal.τ).loc Cert.SeqIdeal.main_arg9))).1 = (fun _ => 1#1)
    ∧ (Cert.Pre_attention_finite.fn (F := Ideal) (m ((c.tc : Thread Cert.SeqIdeal.nD Cert.SeqIdeal.τ).loc Cert.SeqIdeal.main_arg0)) (m ((c.tc : Thread Cert.SeqIdeal.nD Cert.SeqIdeal.τ).loc Cert.SeqIdeal.main_arg1)) (m ((c.tc : Thread Cert.SeqIdeal.nD Cert.SeqIdeal.τ).loc Cert.SeqIdeal.main_arg2)) (m ((c.tc : Thread Cert.SeqIdeal.nD Cert.SeqIdeal.τ).loc Cert.SeqIdeal.main_arg3)) (m ((c.tc : Thread Cert.SeqIdeal.nD Cert.SeqIdeal.τ).loc Cert.SeqIdeal.main_arg4)) (m ((c.tc : Thread Cert.SeqIdeal.nD Cert.SeqIdeal.τ).loc Cert.SeqIdeal.main_arg5)) (m ((c.tc : Thread Cert.SeqIdeal.nD Cert.SeqIdeal.τ).loc Cert.SeqIdeal.main_arg6)) (m ((c.tc : Thread Cert.SeqIdeal.nD Cert.SeqIdeal.τ).loc Cert.SeqIdeal.main_arg7)) (m ((c.tc : Thread Cert.SeqIdeal.nD Cert.SeqIdeal.τ).loc Cert.SeqIdeal.main_arg8)) (m ((c.tc : Thread Cert.SeqIdeal.nD Cert.SeqIdeal.τ).loc Cert.SeqIdeal.main_arg9))).2.1 = (fun _ => 1#1)
    ∧ (Cert.Pre_attention_finite.fn (F := Ideal) (m ((c.tc : Thread Cert.SeqIdeal.nD Cert.SeqIdeal.τ).loc Cert.SeqIdeal.main_arg0)) (m ((c.tc : Thread Cert.SeqIdeal.nD Cert.SeqIdeal.τ).loc Cert.SeqIdeal.main_arg1)) (m ((c.tc : Thread Cert.SeqIdeal.nD Cert.SeqIdeal.τ).loc Cert.SeqIdeal.main_arg2)) (m ((c.tc : Thread Cert.SeqIdeal.nD Cert.SeqIdeal.τ).loc Cert.SeqIdeal.main_arg3)) (m ((c.tc : Thread Cert.SeqIdeal.nD Cert.SeqIdeal.τ).loc Cert.SeqIdeal.main_arg4)) (m ((c.tc : Thread Cert.SeqIdeal.nD Cert.SeqIdeal.τ).loc Cert.SeqIdeal.main_arg5)) (m ((c.tc : Thread Cert.SeqIdeal.nD Cert.SeqIdeal.τ).loc Cert.SeqIdeal.main_arg6)) (m ((c.tc : Thread Cert.SeqIdeal.nD Cert.SeqIdeal.τ).loc Cert.SeqIdeal.main_arg7)) (m ((c.tc : Thread Cert.SeqIdeal.nD Cert.SeqIdeal.τ).loc Cert.SeqIdeal.main_arg8)) (m ((c.tc : Thread Cert.SeqIdeal.nD Cert.SeqIdeal.τ).loc Cert.SeqIdeal.main_arg9))).2.2.1 = (fun _ => 1#1)
    ∧ (Cert.Pre_attention_finite.fn (F := Ideal) (m ((c.tc : Thread Cert.SeqIdeal.nD Cert.SeqIdeal.τ).loc Cert.SeqIdeal.main_arg0)) (m ((c.tc : Thread Cert.SeqIdeal.nD Cert.SeqIdeal.τ).loc Cert.SeqIdeal.main_arg1)) (m ((c.tc : Thread Cert.SeqIdeal.nD Cert.SeqIdeal.τ).loc Cert.SeqIdeal.main_arg2)) (m ((c.tc : Thread Cert.SeqIdeal.nD Cert.SeqIdeal.τ).loc Cert.SeqIdeal.main_arg3)) (m ((c.tc : Thread Cert.SeqIdeal.nD Cert.SeqIdeal.τ).loc Cert.SeqIdeal.main_arg4)) (m ((c.tc : Thread Cert.SeqIdeal.nD Cert.SeqIdeal.τ).loc Cert.SeqIdeal.main_arg5)) (m ((c.tc : Thread Cert.SeqIdeal.nD Cert.SeqIdeal.τ).loc Cert.SeqIdeal.main_arg6)) (m ((c.tc : Thread Cert.SeqIdeal.nD Cert.SeqIdeal.τ).loc Cert.SeqIdeal.main_arg7)) (m ((c.tc : Thread Cert.SeqIdeal.nD Cert.SeqIdeal.τ).loc Cert.SeqIdeal.main_arg8)) (m ((c.tc : Thread Cert.SeqIdeal.nD Cert.SeqIdeal.τ).loc Cert.SeqIdeal.main_arg9))).2.2.2 = (fun _ => 1#1)

def Pre_SeqRefIdeal (m : (ℓ : Loc Cert.SeqRefIdeal.nD Cert.SeqRefIdeal.τ Cert.SeqRefIdeal.sig) → Buf (Elt Ideal) ℓ) : Prop :=
  True

def Pre_SeqRefIdeal_attention_finite [hPre_attention_finite : Cert.Pre_attention_finite.Facts] (m : (ℓ : Loc Cert.SeqRefIdeal.nD Cert.SeqRefIdeal.τ Cert.SeqRefIdeal.sig) → Buf (Elt Ideal) ℓ) : Prop :=
  ∀ c : Dev Cert.SeqRefIdeal.nD,
    (Cert.Pre_attention_finite.fn (F := Ideal) (m ((c.tc : Thread Cert.SeqRefIdeal.nD Cert.SeqRefIdeal.τ).loc Cert.SeqRefIdeal.main_arg0)) (m ((c.tc : Thread Cert.SeqRefIdeal.nD Cert.SeqRefIdeal.τ).loc Cert.SeqRefIdeal.main_arg1)) (m ((c.tc : Thread Cert.SeqRefIdeal.nD Cert.SeqRefIdeal.τ).loc Cert.SeqRefIdeal.main_arg2)) (m ((c.tc : Thread Cert.SeqRefIdeal.nD Cert.SeqRefIdeal.τ).loc Cert.SeqRefIdeal.main_arg3)) (m ((c.tc : Thread Cert.SeqRefIdeal.nD Cert.SeqRefIdeal.τ).loc Cert.SeqRefIdeal.main_arg4)) (m ((c.tc : Thread Cert.SeqRefIdeal.nD Cert.SeqRefIdeal.τ).loc Cert.SeqRefIdeal.main_arg5)) (m ((c.tc : Thread Cert.SeqRefIdeal.nD Cert.SeqRefIdeal.τ).loc Cert.SeqRefIdeal.main_arg6)) (m ((c.tc : Thread Cert.SeqRefIdeal.nD Cert.SeqRefIdeal.τ).loc Cert.SeqRefIdeal.main_arg7)) (m ((c.tc : Thread Cert.SeqRefIdeal.nD Cert.SeqRefIdeal.τ).loc Cert.SeqRefIdeal.main_arg8)) (m ((c.tc : Thread Cert.SeqRefIdeal.nD Cert.SeqRefIdeal.τ).loc Cert.SeqRefIdeal.main_arg9))).1 = (fun _ => 1#1)
    ∧ (Cert.Pre_attention_finite.fn (F := Ideal) (m ((c.tc : Thread Cert.SeqRefIdeal.nD Cert.SeqRefIdeal.τ).loc Cert.SeqRefIdeal.main_arg0)) (m ((c.tc : Thread Cert.SeqRefIdeal.nD Cert.SeqRefIdeal.τ).loc Cert.SeqRefIdeal.main_arg1)) (m ((c.tc : Thread Cert.SeqRefIdeal.nD Cert.SeqRefIdeal.τ).loc Cert.SeqRefIdeal.main_arg2)) (m ((c.tc : Thread Cert.SeqRefIdeal.nD Cert.SeqRefIdeal.τ).loc Cert.SeqRefIdeal.main_arg3)) (m ((c.tc : Thread Cert.SeqRefIdeal.nD Cert.SeqRefIdeal.τ).loc Cert.SeqRefIdeal.main_arg4)) (m ((c.tc : Thread Cert.SeqRefIdeal.nD Cert.SeqRefIdeal.τ).loc Cert.SeqRefIdeal.main_arg5)) (m ((c.tc : Thread Cert.SeqRefIdeal.nD Cert.SeqRefIdeal.τ).loc Cert.SeqRefIdeal.main_arg6)) (m ((c.tc : Thread Cert.SeqRefIdeal.nD Cert.SeqRefIdeal.τ).loc Cert.SeqRefIdeal.main_arg7)) (m ((c.tc : Thread Cert.SeqRefIdeal.nD Cert.SeqRefIdeal.τ).loc Cert.SeqRefIdeal.main_arg8)) (m ((c.tc : Thread Cert.SeqRefIdeal.nD Cert.SeqRefIdeal.τ).loc Cert.SeqRefIdeal.main_arg9))).2.1 = (fun _ => 1#1)
    ∧ (Cert.Pre_attention_finite.fn (F := Ideal) (m ((c.tc : Thread Cert.SeqRefIdeal.nD Cert.SeqRefIdeal.τ).loc Cert.SeqRefIdeal.main_arg0)) (m ((c.tc : Thread Cert.SeqRefIdeal.nD Cert.SeqRefIdeal.τ).loc Cert.SeqRefIdeal.main_arg1)) (m ((c.tc : Thread Cert.SeqRefIdeal.nD Cert.SeqRefIdeal.τ).loc Cert.SeqRefIdeal.main_arg2)) (m ((c.tc : Thread Cert.SeqRefIdeal.nD Cert.SeqRefIdeal.τ).loc Cert.SeqRefIdeal.main_arg3)) (m ((c.tc : Thread Cert.SeqRefIdeal.nD Cert.SeqRefIdeal.τ).loc Cert.SeqRefIdeal.main_arg4)) (m ((c.tc : Thread Cert.SeqRefIdeal.nD Cert.SeqRefIdeal.τ).loc Cert.SeqRefIdeal.main_arg5)) (m ((c.tc : Thread Cert.SeqRefIdeal.nD Cert.SeqRefIdeal.τ).loc Cert.SeqRefIdeal.main_arg6)) (m ((c.tc : Thread Cert.SeqRefIdeal.nD Cert.SeqRefIdeal.τ).loc Cert.SeqRefIdeal.main_arg7)) (m ((c.tc : Thread Cert.SeqRefIdeal.nD Cert.SeqRefIdeal.τ).loc Cert.SeqRefIdeal.main_arg8)) (m ((c.tc : Thread Cert.SeqRefIdeal.nD Cert.SeqRefIdeal.τ).loc Cert.SeqRefIdeal.main_arg9))).2.2.1 = (fun _ => 1#1)
    ∧ (Cert.Pre_attention_finite.fn (F := Ideal) (m ((c.tc : Thread Cert.SeqRefIdeal.nD Cert.SeqRefIdeal.τ).loc Cert.SeqRefIdeal.main_arg0)) (m ((c.tc : Thread Cert.SeqRefIdeal.nD Cert.SeqRefIdeal.τ).loc Cert.SeqRefIdeal.main_arg1)) (m ((c.tc : Thread Cert.SeqRefIdeal.nD Cert.SeqRefIdeal.τ).loc Cert.SeqRefIdeal.main_arg2)) (m ((c.tc : Thread Cert.SeqRefIdeal.nD Cert.SeqRefIdeal.τ).loc Cert.SeqRefIdeal.main_arg3)) (m ((c.tc : Thread Cert.SeqRefIdeal.nD Cert.SeqRefIdeal.τ).loc Cert.SeqRefIdeal.main_arg4)) (m ((c.tc : Thread Cert.SeqRefIdeal.nD Cert.SeqRefIdeal.τ).loc Cert.SeqRefIdeal.main_arg5)) (m ((c.tc : Thread Cert.SeqRefIdeal.nD Cert.SeqRefIdeal.τ).loc Cert.SeqRefIdeal.main_arg6)) (m ((c.tc : Thread Cert.SeqRefIdeal.nD Cert.SeqRefIdeal.τ).loc Cert.SeqRefIdeal.main_arg7)) (m ((c.tc : Thread Cert.SeqRefIdeal.nD Cert.SeqRefIdeal.τ).loc Cert.SeqRefIdeal.main_arg8)) (m ((c.tc : Thread Cert.SeqRefIdeal.nD Cert.SeqRefIdeal.τ).loc Cert.SeqRefIdeal.main_arg9))).2.2.2 = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_tokens_and_router_finite [hMoeIdeal : Cert.MoeIdeal.Facts] [hPre_tokens_and_router_finite : Cert.Pre_tokens_and_router_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_tokens_and_router_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_tokens_and_router_finite [hMoeRefIdeal : Cert.MoeRefIdeal.Facts] [hPre_tokens_and_router_finite : Cert.Pre_tokens_and_router_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tokens_and_router_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Seq [hSeq : Cert.Seq.Facts] : Prop :=
  ∀ (m : (ℓ : Loc Cert.Seq.nD Cert.Seq.τ Cert.Seq.sig) → Buf (Elt Bits) ℓ) (g : Dev Cert.Seq.nD → PrngReg), Pre_Seq m →
    θ_run (Cert.Seq.defs (F := Bits)) (onTc (τ := Cert.Seq.τ) (Cert.Seq.main (F := Bits))) ⟨m, fun _ => 0, g⟩ (fun r => (∀ c : Dev Cert.Seq.nD,
      r.2.mem ((c.tc : Thread Cert.Seq.nD Cert.Seq.τ).loc Cert.Seq.main_arg0) = m ((c.tc : Thread Cert.Seq.nD Cert.Seq.τ).loc Cert.Seq.main_arg0)
      ∧ r.2.mem ((c.tc : Thread Cert.Seq.nD Cert.Seq.τ).loc Cert.Seq.main_arg1) = m ((c.tc : Thread Cert.Seq.nD Cert.Seq.τ).loc Cert.Seq.main_arg1)
      ∧ r.2.mem ((c.tc : Thread Cert.Seq.nD Cert.Seq.τ).loc Cert.Seq.main_arg2) = m ((c.tc : Thread Cert.Seq.nD Cert.Seq.τ).loc Cert.Seq.main_arg2)
      ∧ r.2.mem ((c.tc : Thread Cert.Seq.nD Cert.Seq.τ).loc Cert.Seq.main_arg3) = m ((c.tc : Thread Cert.Seq.nD Cert.Seq.τ).loc Cert.Seq.main_arg3)
      ∧ r.2.mem ((c.tc : Thread Cert.Seq.nD Cert.Seq.τ).loc Cert.Seq.main_arg4) = m ((c.tc : Thread Cert.Seq.nD Cert.Seq.τ).loc Cert.Seq.main_arg4)
      ∧ r.2.mem ((c.tc : Thread Cert.Seq.nD Cert.Seq.τ).loc Cert.Seq.main_arg5) = m ((c.tc : Thread Cert.Seq.nD Cert.Seq.τ).loc Cert.Seq.main_arg5)
      ∧ r.2.mem ((c.tc : Thread Cert.Seq.nD Cert.Seq.τ).loc Cert.Seq.main_arg6) = m ((c.tc : Thread Cert.Seq.nD Cert.Seq.τ).loc Cert.Seq.main_arg6)
      ∧ r.2.mem ((c.tc : Thread Cert.Seq.nD Cert.Seq.τ).loc Cert.Seq.main_arg7) = m ((c.tc : Thread Cert.Seq.nD Cert.Seq.τ).loc Cert.Seq.main_arg7)
      ∧ r.2.mem ((c.tc : Thread Cert.Seq.nD Cert.Seq.τ).loc Cert.Seq.main_arg8) = m ((c.tc : Thread Cert.Seq.nD Cert.Seq.τ).loc Cert.Seq.main_arg8)
      ∧ r.2.mem ((c.tc : Thread Cert.Seq.nD Cert.Seq.τ).loc Cert.Seq.main_arg9) = m ((c.tc : Thread Cert.Seq.nD Cert.Seq.τ).loc Cert.Seq.main_arg9))
      ∧ r.2.sem = fun _ => 0)

def quiescent_SeqIdeal [hSeqIdeal : Cert.SeqIdeal.Facts] : Prop :=
  ∀ (m : (ℓ : Loc Cert.SeqIdeal.nD Cert.SeqIdeal.τ Cert.SeqIdeal.sig) → Buf (Elt Ideal) ℓ) (g : Dev Cert.SeqIdeal.nD → PrngReg), Pre_SeqIdeal m →
    θ_run (Cert.SeqIdeal.defs (F := Ideal)) (onTc (τ := Cert.SeqIdeal.τ) (Cert.SeqIdeal.main (F := Ideal))) ⟨m, fun _ => 0, g⟩ (fun r => (∀ c : Dev Cert.SeqIdeal.nD,
      r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
      ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
      ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
      ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
      ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
      ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5)
      ∧ r.2.mem ((c.tc : Thread Cert.SeqIdeal.nD Cert.SeqIdeal.τ).loc Cert.SeqIdeal.main_arg6) = m ((c.tc : Thread Cert.SeqIdeal.nD Cert.SeqIdeal.τ).loc Cert.SeqIdeal.main_arg6)
      ∧ r.2.mem ((c.tc : Thread Cert.SeqIdeal.nD Cert.SeqIdeal.τ).loc Cert.SeqIdeal.main_arg7) = m ((c.tc : Thread Cert.SeqIdeal.nD Cert.SeqIdeal.τ).loc Cert.SeqIdeal.main_arg7)
      ∧ r.2.mem ((c.tc : Thread Cert.SeqIdeal.nD Cert.SeqIdeal.τ).loc Cert.SeqIdeal.main_arg8) = m ((c.tc : Thread Cert.SeqIdeal.nD Cert.SeqIdeal.τ).loc Cert.SeqIdeal.main_arg8)
      ∧ r.2.mem ((c.tc : Thread Cert.SeqIdeal.nD Cert.SeqIdeal.τ).loc Cert.SeqIdeal.main_arg9) = m ((c.tc : Thread Cert.SeqIdeal.nD Cert.SeqIdeal.τ).loc Cert.SeqIdeal.main_arg9))
      ∧ r.2.sem = fun _ => 0)

def quiescent_SeqIdeal_pre_attention_finite [hSeqIdeal : Cert.SeqIdeal.Facts] [hPre_attention_finite : Cert.Pre_attention_finite.Facts] : Prop :=
  ∀ (m : (ℓ : Loc Cert.SeqIdeal.nD Cert.SeqIdeal.τ Cert.SeqIdeal.sig) → Buf (Elt Ideal) ℓ) (g : Dev Cert.SeqIdeal.nD → PrngReg), Pre_SeqIdeal_attention_finite m →
    θ_run (Cert.SeqIdeal.defs (F := Ideal)) (onTc (τ := Cert.SeqIdeal.τ) (Cert.SeqIdeal.main (F := Ideal))) ⟨m, fun _ => 0, g⟩ (fun r => (∀ c : Dev Cert.SeqIdeal.nD,
      r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
      ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
      ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
      ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
      ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
      ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5)
      ∧ r.2.mem ((c.tc : Thread Cert.SeqIdeal.nD Cert.SeqIdeal.τ).loc Cert.SeqIdeal.main_arg6) = m ((c.tc : Thread Cert.SeqIdeal.nD Cert.SeqIdeal.τ).loc Cert.SeqIdeal.main_arg6)
      ∧ r.2.mem ((c.tc : Thread Cert.SeqIdeal.nD Cert.SeqIdeal.τ).loc Cert.SeqIdeal.main_arg7) = m ((c.tc : Thread Cert.SeqIdeal.nD Cert.SeqIdeal.τ).loc Cert.SeqIdeal.main_arg7)
      ∧ r.2.mem ((c.tc : Thread Cert.SeqIdeal.nD Cert.SeqIdeal.τ).loc Cert.SeqIdeal.main_arg8) = m ((c.tc : Thread Cert.SeqIdeal.nD Cert.SeqIdeal.τ).loc Cert.SeqIdeal.main_arg8)
      ∧ r.2.mem ((c.tc : Thread Cert.SeqIdeal.nD Cert.SeqIdeal.τ).loc Cert.SeqIdeal.main_arg9) = m ((c.tc : Thread Cert.SeqIdeal.nD Cert.SeqIdeal.τ).loc Cert.SeqIdeal.main_arg9))
      ∧ r.2.sem = fun _ => 0)

def quiescent_SeqRefIdeal [hSeqRefIdeal : Cert.SeqRefIdeal.Facts] : Prop :=
  ∀ (m : (ℓ : Loc Cert.SeqRefIdeal.nD Cert.SeqRefIdeal.τ Cert.SeqRefIdeal.sig) → Buf (Elt Ideal) ℓ) (g : Dev Cert.SeqRefIdeal.nD → PrngReg), Pre_SeqRefIdeal m →
    θ_run (Cert.SeqRefIdeal.defs (F := Ideal)) (onTc (τ := Cert.SeqRefIdeal.τ) (Cert.SeqRefIdeal.main (F := Ideal))) ⟨m, fun _ => 0, g⟩ (fun r => (∀ c : Dev Cert.SeqRefIdeal.nD,
      r.2.mem ((c.tc : Thread Cert.SeqRefIdeal.nD Cert.SeqRefIdeal.τ).loc Cert.SeqRefIdeal.main_arg0) = m ((c.tc : Thread Cert.SeqRefIdeal.nD Cert.SeqRefIdeal.τ).loc Cert.SeqRefIdeal.main_arg0)
      ∧ r.2.mem ((c.tc : Thread Cert.SeqRefIdeal.nD Cert.SeqRefIdeal.τ).loc Cert.SeqRefIdeal.main_arg1) = m ((c.tc : Thread Cert.SeqRefIdeal.nD Cert.SeqRefIdeal.τ).loc Cert.SeqRefIdeal.main_arg1)
      ∧ r.2.mem ((c.tc : Thread Cert.SeqRefIdeal.nD Cert.SeqRefIdeal.τ).loc Cert.SeqRefIdeal.main_arg2) = m ((c.tc : Thread Cert.SeqRefIdeal.nD Cert.SeqRefIdeal.τ).loc Cert.SeqRefIdeal.main_arg2)
      ∧ r.2.mem ((c.tc : Thread Cert.SeqRefIdeal.nD Cert.SeqRefIdeal.τ).loc Cert.SeqRefIdeal.main_arg3) = m ((c.tc : Thread Cert.SeqRefIdeal.nD Cert.SeqRefIdeal.τ).loc Cert.SeqRefIdeal.main_arg3)
      ∧ r.2.mem ((c.tc : Thread Cert.SeqRefIdeal.nD Cert.SeqRefIdeal.τ).loc Cert.SeqRefIdeal.main_arg4) = m ((c.tc : Thread Cert.SeqRefIdeal.nD Cert.SeqRefIdeal.τ).loc Cert.SeqRefIdeal.main_arg4)
      ∧ r.2.mem ((c.tc : Thread Cert.SeqRefIdeal.nD Cert.SeqRefIdeal.τ).loc Cert.SeqRefIdeal.main_arg5) = m ((c.tc : Thread Cert.SeqRefIdeal.nD Cert.SeqRefIdeal.τ).loc Cert.SeqRefIdeal.main_arg5)
      ∧ r.2.mem ((c.tc : Thread Cert.SeqRefIdeal.nD Cert.SeqRefIdeal.τ).loc Cert.SeqRefIdeal.main_arg6) = m ((c.tc : Thread Cert.SeqRefIdeal.nD Cert.SeqRefIdeal.τ).loc Cert.SeqRefIdeal.main_arg6)
      ∧ r.2.mem ((c.tc : Thread Cert.SeqRefIdeal.nD Cert.SeqRefIdeal.τ).loc Cert.SeqRefIdeal.main_arg7) = m ((c.tc : Thread Cert.SeqRefIdeal.nD Cert.SeqRefIdeal.τ).loc Cert.SeqRefIdeal.main_arg7)
      ∧ r.2.mem ((c.tc : Thread Cert.SeqRefIdeal.nD Cert.SeqRefIdeal.τ).loc Cert.SeqRefIdeal.main_arg8) = m ((c.tc : Thread Cert.SeqRefIdeal.nD Cert.SeqRefIdeal.τ).loc Cert.SeqRefIdeal.main_arg8)
      ∧ r.2.mem ((c.tc : Thread Cert.SeqRefIdeal.nD Cert.SeqRefIdeal.τ).loc Cert.SeqRefIdeal.main_arg9) = m ((c.tc : Thread Cert.SeqRefIdeal.nD Cert.SeqRefIdeal.τ).loc Cert.SeqRefIdeal.main_arg9))
      ∧ r.2.sem = fun _ => 0)

def quiescent_SeqRefIdeal_pre_attention_finite [hSeqRefIdeal : Cert.SeqRefIdeal.Facts] [hPre_attention_finite : Cert.Pre_attention_finite.Facts] : Prop :=
  ∀ (m : (ℓ : Loc Cert.SeqRefIdeal.nD Cert.SeqRefIdeal.τ Cert.SeqRefIdeal.sig) → Buf (Elt Ideal) ℓ) (g : Dev Cert.SeqRefIdeal.nD → PrngReg), Pre_SeqRefIdeal_attention_finite m →
    θ_run (Cert.SeqRefIdeal.defs (F := Ideal)) (onTc (τ := Cert.SeqRefIdeal.τ) (Cert.SeqRefIdeal.main (F := Ideal))) ⟨m, fun _ => 0, g⟩ (fun r => (∀ c : Dev Cert.SeqRefIdeal.nD,
      r.2.mem ((c.tc : Thread Cert.SeqRefIdeal.nD Cert.SeqRefIdeal.τ).loc Cert.SeqRefIdeal.main_arg0) = m ((c.tc : Thread Cert.SeqRefIdeal.nD Cert.SeqRefIdeal.τ).loc Cert.SeqRefIdeal.main_arg0)
      ∧ r.2.mem ((c.tc : Thread Cert.SeqRefIdeal.nD Cert.SeqRefIdeal.τ).loc Cert.SeqRefIdeal.main_arg1) = m ((c.tc : Thread Cert.SeqRefIdeal.nD Cert.SeqRefIdeal.τ).loc Cert.SeqRefIdeal.main_arg1)
      ∧ r.2.mem ((c.tc : Thread Cert.SeqRefIdeal.nD Cert.SeqRefIdeal.τ).loc Cert.SeqRefIdeal.main_arg2) = m ((c.tc : Thread Cert.SeqRefIdeal.nD Cert.SeqRefIdeal.τ).loc Cert.SeqRefIdeal.main_arg2)
      ∧ r.2.mem ((c.tc : Thread Cert.SeqRefIdeal.nD Cert.SeqRefIdeal.τ).loc Cert.SeqRefIdeal.main_arg3) = m ((c.tc : Thread Cert.SeqRefIdeal.nD Cert.SeqRefIdeal.τ).loc Cert.SeqRefIdeal.main_arg3)
      ∧ r.2.mem ((c.tc : Thread Cert.SeqRefIdeal.nD Cert.SeqRefIdeal.τ).loc Cert.SeqRefIdeal.main_arg4) = m ((c.tc : Thread Cert.SeqRefIdeal.nD Cert.SeqRefIdeal.τ).loc Cert.SeqRefIdeal.main_arg4)
      ∧ r.2.mem ((c.tc : Thread Cert.SeqRefIdeal.nD Cert.SeqRefIdeal.τ).loc Cert.SeqRefIdeal.main_arg5) = m ((c.tc : Thread Cert.SeqRefIdeal.nD Cert.SeqRefIdeal.τ).loc Cert.SeqRefIdeal.main_arg5)
      ∧ r.2.mem ((c.tc : Thread Cert.SeqRefIdeal.nD Cert.SeqRefIdeal.τ).loc Cert.SeqRefIdeal.main_arg6) = m ((c.tc : Thread Cert.SeqRefIdeal.nD Cert.SeqRefIdeal.τ).loc Cert.SeqRefIdeal.main_arg6)
      ∧ r.2.mem ((c.tc : Thread Cert.SeqRefIdeal.nD Cert.SeqRefIdeal.τ).loc Cert.SeqRefIdeal.main_arg7) = m ((c.tc : Thread Cert.SeqRefIdeal.nD Cert.SeqRefIdeal.τ).loc Cert.SeqRefIdeal.main_arg7)
      ∧ r.2.mem ((c.tc : Thread Cert.SeqRefIdeal.nD Cert.SeqRefIdeal.τ).loc Cert.SeqRefIdeal.main_arg8) = m ((c.tc : Thread Cert.SeqRefIdeal.nD Cert.SeqRefIdeal.τ).loc Cert.SeqRefIdeal.main_arg8)
      ∧ r.2.mem ((c.tc : Thread Cert.SeqRefIdeal.nD Cert.SeqRefIdeal.τ).loc Cert.SeqRefIdeal.main_arg9) = m ((c.tc : Thread Cert.SeqRefIdeal.nD Cert.SeqRefIdeal.τ).loc Cert.SeqRefIdeal.main_arg9))
      ∧ r.2.sem = fun _ => 0)

def preserves_Moe_MoeIdeal : Prop :=
  IdealRules.named_const.Statement Cert.MoeIdeal.κ "mask" .f32 0xF149F2CA#32 ⊥

def algebraic_MoeIdeal_MoeRefIdeal_pre_tokens_and_router_finite [hMoeIdeal : Cert.MoeIdeal.Facts] [hMoeRefIdeal : Cert.MoeRefIdeal.Facts] [hPre_tokens_and_router_finite : Cert.Pre_tokens_and_router_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_tokens_and_router_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v149) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)) (v3 : (c : Dev Cert.InprojIdeal.nD) → Buf (Elt Ideal) ((c.tc : Thread Cert.InprojIdeal.nD Cert.InprojIdeal.τ).loc Cert.InprojIdeal.main_v3_3)) (v4 : (c : Dev Cert.InprojIdeal.nD) → Buf (Elt Ideal) ((c.tc : Thread Cert.InprojIdeal.nD Cert.InprojIdeal.τ).loc Cert.InprojIdeal.main_v3_4)) (v5 : (c : Dev Cert.InprojIdeal.nD) → Buf (Elt Ideal) ((c.tc : Thread Cert.InprojIdeal.nD Cert.InprojIdeal.τ).loc Cert.InprojIdeal.main_v3_5)) (v6 : (c : Dev Cert.InprojIdeal.nD) → Buf (Elt Ideal) ((c.tc : Thread Cert.InprojIdeal.nD Cert.InprojIdeal.τ).loc Cert.InprojIdeal.main_v3_6)) (v7 : (c : Dev Cert.InprojIdeal.nD) → Buf (Elt Ideal) ((c.tc : Thread Cert.InprojIdeal.nD Cert.InprojIdeal.τ).loc Cert.InprojIdeal.main_v3_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_v3_3) = v3 c
          ∧ r.2.mem ((c.tc : Thread Cert.InprojIdeal.nD Cert.InprojIdeal.τ).loc Cert.InprojIdeal.main_v3_4) = v4 c
          ∧ r.2.mem ((c.tc : Thread Cert.InprojIdeal.nD Cert.InprojIdeal.τ).loc Cert.InprojIdeal.main_v3_5) = v5 c
          ∧ r.2.mem ((c.tc : Thread Cert.InprojIdeal.nD Cert.InprojIdeal.τ).loc Cert.InprojIdeal.main_v3_6) = v6 c
          ∧ r.2.mem ((c.tc : Thread Cert.InprojIdeal.nD Cert.InprojIdeal.τ).loc Cert.InprojIdeal.main_v3_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v62) = v0 c
          ∧ r.2.mem ((c.tc : Thread Cert.InprojRefIdeal.nD Cert.InprojRefIdeal.τ).loc Cert.InprojRefIdeal.main_v48) = v1 c
          ∧ r.2.mem ((c.tc : Thread Cert.InprojRefIdeal.nD Cert.InprojRefIdeal.τ).loc Cert.InprojRefIdeal.main_v65) = v2 c
          ∧ r.2.mem ((c.tc : Thread Cert.InprojRefIdeal.nD Cert.InprojRefIdeal.τ).loc Cert.InprojRefIdeal.main_v17) = v3 c
          ∧ r.2.mem ((c.tc : Thread Cert.InprojRefIdeal.nD Cert.InprojRefIdeal.τ).loc Cert.InprojRefIdeal.main_v18) = v4 c
          ∧ r.2.mem ((c.tc : Thread Cert.InprojRefIdeal.nD Cert.InprojRefIdeal.τ).loc Cert.InprojRefIdeal.main_v66) = v5 c
          ∧ r.2.mem ((c.tc : Thread Cert.InprojRefIdeal.nD Cert.InprojRefIdeal.τ).loc Cert.InprojRefIdeal.main_v67) = v6 c
          ∧ r.2.mem ((c.tc : Thread Cert.InprojRefIdeal.nD Cert.InprojRefIdeal.τ).loc Cert.InprojRefIdeal.main_v74) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Seq_SeqIdeal : Prop :=
  True

def algebraic_SeqIdeal_SeqRefIdeal_pre_attention_finite [hSeqIdeal : Cert.SeqIdeal.Facts] [hSeqRefIdeal : Cert.SeqRefIdeal.Facts] [hPre_attention_finite : Cert.Pre_attention_finite.Facts] : Prop :=
  ∀ (m : (ℓ : Loc Cert.SeqIdeal.nD Cert.SeqIdeal.τ Cert.SeqIdeal.sig) → Buf (Elt Ideal) ℓ) (g : Dev Cert.SeqIdeal.nD → PrngReg)
    (m' : (ℓ : Loc Cert.SeqRefIdeal.nD Cert.SeqRefIdeal.τ Cert.SeqRefIdeal.sig) → Buf (Elt Ideal) ℓ) (g' : Dev Cert.SeqRefIdeal.nD → PrngReg), Pre_SeqIdeal_attention_finite m →
    (∀ c : Dev Cert.SeqIdeal.nD,
      m' ((c.tc : Thread Cert.SeqRefIdeal.nD Cert.SeqRefIdeal.τ).loc Cert.SeqRefIdeal.main_arg0) = m ((c.tc : Thread Cert.SeqIdeal.nD Cert.SeqIdeal.τ).loc Cert.SeqIdeal.main_arg0)
      ∧ m' ((c.tc : Thread Cert.SeqRefIdeal.nD Cert.SeqRefIdeal.τ).loc Cert.SeqRefIdeal.main_arg1) = m ((c.tc : Thread Cert.SeqIdeal.nD Cert.SeqIdeal.τ).loc Cert.SeqIdeal.main_arg1)
      ∧ m' ((c.tc : Thread Cert.SeqRefIdeal.nD Cert.SeqRefIdeal.τ).loc Cert.SeqRefIdeal.main_arg2) = m ((c.tc : Thread Cert.SeqIdeal.nD Cert.SeqIdeal.τ).loc Cert.SeqIdeal.main_arg2)
      ∧ m' ((c.tc : Thread Cert.SeqRefIdeal.nD Cert.SeqRefIdeal.τ).loc Cert.SeqRefIdeal.main_arg3) = m ((c.tc : Thread Cert.SeqIdeal.nD Cert.SeqIdeal.τ).loc Cert.SeqIdeal.main_arg3)
      ∧ m' ((c.tc : Thread Cert.SeqRefIdeal.nD Cert.SeqRefIdeal.τ).loc Cert.SeqRefIdeal.main_arg4) = m ((c.tc : Thread Cert.SeqIdeal.nD Cert.SeqIdeal.τ).loc Cert.SeqIdeal.main_arg4)
      ∧ m' ((c.tc : Thread Cert.SeqRefIdeal.nD Cert.SeqRefIdeal.τ).loc Cert.SeqRefIdeal.main_arg5) = m ((c.tc : Thread Cert.SeqIdeal.nD Cert.SeqIdeal.τ).loc Cert.SeqIdeal.main_arg5)
      ∧ m' ((c.tc : Thread Cert.SeqRefIdeal.nD Cert.SeqRefIdeal.τ).loc Cert.SeqRefIdeal.main_arg6) = m ((c.tc : Thread Cert.SeqIdeal.nD Cert.SeqIdeal.τ).loc Cert.SeqIdeal.main_arg6)
      ∧ m' ((c.tc : Thread Cert.SeqRefIdeal.nD Cert.SeqRefIdeal.τ).loc Cert.SeqRefIdeal.main_arg7) = m ((c.tc : Thread Cert.SeqIdeal.nD Cert.SeqIdeal.τ).loc Cert.SeqIdeal.main_arg7)
      ∧ m' ((c.tc : Thread Cert.SeqRefIdeal.nD Cert.SeqRefIdeal.τ).loc Cert.SeqRefIdeal.main_arg8) = m ((c.tc : Thread Cert.SeqIdeal.nD Cert.SeqIdeal.τ).loc Cert.SeqIdeal.main_arg8)
      ∧ m' ((c.tc : Thread Cert.SeqRefIdeal.nD Cert.SeqRefIdeal.τ).loc Cert.SeqRefIdeal.main_arg9) = m ((c.tc : Thread Cert.SeqIdeal.nD Cert.SeqIdeal.τ).loc Cert.SeqIdeal.main_arg9)) →
    ∃ (v0 : (c : Dev Cert.SeqIdeal.nD) → Buf (Elt Ideal) ((c.tc : Thread Cert.SeqIdeal.nD Cert.SeqIdeal.τ).loc Cert.SeqIdeal.main_v15_0)) (v1 : (c : Dev Cert.SeqIdeal.nD) → Buf (Elt Ideal) ((c.tc : Thread Cert.SeqIdeal.nD Cert.SeqIdeal.τ).loc Cert.SeqIdeal.main_v15_1)) (v2 : (c : Dev Cert.SeqIdeal.nD) → Buf (Elt Ideal) ((c.tc : Thread Cert.SeqIdeal.nD Cert.SeqIdeal.τ).loc Cert.SeqIdeal.main_v15_2)),
      θ_run (Cert.SeqIdeal.defs (F := Ideal)) (onTc (τ := Cert.SeqIdeal.τ) (Cert.SeqIdeal.main (F := Ideal))) ⟨m, fun _ => 0, g⟩ (fun r => ∀ c : Dev Cert.SeqIdeal.nD,
          r.2.mem ((c.tc : Thread Cert.SeqIdeal.nD Cert.SeqIdeal.τ).loc Cert.SeqIdeal.main_v15_0) = v0 c
          ∧ r.2.mem ((c.tc : Thread Cert.SeqIdeal.nD Cert.SeqIdeal.τ).loc Cert.SeqIdeal.main_v15_1) = v1 c
          ∧ r.2.mem ((c.tc : Thread Cert.SeqIdeal.nD Cert.SeqIdeal.τ).loc Cert.SeqIdeal.main_v15_2) = v2 c
          ∧ r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
          ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
          ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
          ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
          ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
          ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5)
          ∧ r.2.mem ((c.tc : Thread Cert.SeqIdeal.nD Cert.SeqIdeal.τ).loc Cert.SeqIdeal.main_arg6) = m ((c.tc : Thread Cert.SeqIdeal.nD Cert.SeqIdeal.τ).loc Cert.SeqIdeal.main_arg6)
          ∧ r.2.mem ((c.tc : Thread Cert.SeqIdeal.nD Cert.SeqIdeal.τ).loc Cert.SeqIdeal.main_arg7) = m ((c.tc : Thread Cert.SeqIdeal.nD Cert.SeqIdeal.τ).loc Cert.SeqIdeal.main_arg7)
          ∧ r.2.mem ((c.tc : Thread Cert.SeqIdeal.nD Cert.SeqIdeal.τ).loc Cert.SeqIdeal.main_arg8) = m ((c.tc : Thread Cert.SeqIdeal.nD Cert.SeqIdeal.τ).loc Cert.SeqIdeal.main_arg8)
          ∧ r.2.mem ((c.tc : Thread Cert.SeqIdeal.nD Cert.SeqIdeal.τ).loc Cert.SeqIdeal.main_arg9) = m ((c.tc : Thread Cert.SeqIdeal.nD Cert.SeqIdeal.τ).loc Cert.SeqIdeal.main_arg9))
      ∧ θ_run (Cert.SeqRefIdeal.defs (F := Ideal)) (onTc (τ := Cert.SeqRefIdeal.τ) (Cert.SeqRefIdeal.main (F := Ideal))) ⟨m', fun _ => 0, g'⟩ (fun r => ∀ c : Dev Cert.SeqRefIdeal.nD,
          r.2.mem ((c.tc : Thread Cert.SeqRefIdeal.nD Cert.SeqRefIdeal.τ).loc Cert.SeqRefIdeal.main_v62) = v0 c
          ∧ r.2.mem ((c.tc : Thread Cert.SeqRefIdeal.nD Cert.SeqRefIdeal.τ).loc Cert.SeqRefIdeal.main_v64) = v1 c
          ∧ r.2.mem ((c.tc : Thread Cert.SeqRefIdeal.nD Cert.SeqRefIdeal.τ).loc Cert.SeqRefIdeal.main_v65) = v2 c
          ∧ r.2.mem ((c.tc : Thread Cert.SeqRefIdeal.nD Cert.SeqRefIdeal.τ).loc Cert.SeqRefIdeal.main_arg0) = m' ((c.tc : Thread Cert.SeqRefIdeal.nD Cert.SeqRefIdeal.τ).loc Cert.SeqRefIdeal.main_arg0)
          ∧ r.2.mem ((c.tc : Thread Cert.SeqRefIdeal.nD Cert.SeqRefIdeal.τ).loc Cert.SeqRefIdeal.main_arg1) = m' ((c.tc : Thread Cert.SeqRefIdeal.nD Cert.SeqRefIdeal.τ).loc Cert.SeqRefIdeal.main_arg1)
          ∧ r.2.mem ((c.tc : Thread Cert.SeqRefIdeal.nD Cert.SeqRefIdeal.τ).loc Cert.SeqRefIdeal.main_arg2) = m' ((c.tc : Thread Cert.SeqRefIdeal.nD Cert.SeqRefIdeal.τ).loc Cert.SeqRefIdeal.main_arg2)
          ∧ r.2.mem ((c.tc : Thread Cert.SeqRefIdeal.nD Cert.SeqRefIdeal.τ).loc Cert.SeqRefIdeal.main_arg3) = m' ((c.tc : Thread Cert.SeqRefIdeal.nD Cert.SeqRefIdeal.τ).loc Cert.SeqRefIdeal.main_arg3)
          ∧ r.2.mem ((c.tc : Thread Cert.SeqRefIdeal.nD Cert.SeqRefIdeal.τ).loc Cert.SeqRefIdeal.main_arg4) = m' ((c.tc : Thread Cert.SeqRefIdeal.nD Cert.SeqRefIdeal.τ).loc Cert.SeqRefIdeal.main_arg4)
          ∧ r.2.mem ((c.tc : Thread Cert.SeqRefIdeal.nD Cert.SeqRefIdeal.τ).loc Cert.SeqRefIdeal.main_arg5) = m' ((c.tc : Thread Cert.SeqRefIdeal.nD Cert.SeqRefIdeal.τ).loc Cert.SeqRefIdeal.main_arg5)
          ∧ r.2.mem ((c.tc : Thread Cert.SeqRefIdeal.nD Cert.SeqRefIdeal.τ).loc Cert.SeqRefIdeal.main_arg6) = m' ((c.tc : Thread Cert.SeqRefIdeal.nD Cert.SeqRefIdeal.τ).loc Cert.SeqRefIdeal.main_arg6)
          ∧ r.2.mem ((c.tc : Thread Cert.SeqRefIdeal.nD Cert.SeqRefIdeal.τ).loc Cert.SeqRefIdeal.main_arg7) = m' ((c.tc : Thread Cert.SeqRefIdeal.nD Cert.SeqRefIdeal.τ).loc Cert.SeqRefIdeal.main_arg7)
          ∧ r.2.mem ((c.tc : Thread Cert.SeqRefIdeal.nD Cert.SeqRefIdeal.τ).loc Cert.SeqRefIdeal.main_arg8) = m' ((c.tc : Thread Cert.SeqRefIdeal.nD Cert.SeqRefIdeal.τ).loc Cert.SeqRefIdeal.main_arg8)
          ∧ r.2.mem ((c.tc : Thread Cert.SeqRefIdeal.nD Cert.SeqRefIdeal.τ).loc Cert.SeqRefIdeal.main_arg9) = m' ((c.tc : Thread Cert.SeqRefIdeal.nD Cert.SeqRefIdeal.τ).loc Cert.SeqRefIdeal.main_arg9))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hSeq : Cert.Seq.Facts) (hSeqIdeal : Cert.SeqIdeal.Facts) (hSeqRefIdeal : Cert.SeqRefIdeal.Facts) (hPre_tokens_and_router_finite : Cert.Pre_tokens_and_router_finite.Facts) (hPre_attention_finite : Cert.Pre_attention_finite.Facts),
    quiescent_Moe (hMoe := hMoe)
    ∧ quiescent_MoeIdeal (hMoeIdeal := hMoeIdeal)
    ∧ quiescent_MoeIdeal_pre_tokens_and_router_finite (hMoeIdeal := hMoeIdeal) (hPre_tokens_and_router_finite := hPre_tokens_and_router_finite)
    ∧ quiescent_MoeRefIdeal (hMoeRefIdeal := hMoeRefIdeal)
    ∧ quiescent_MoeRefIdeal_pre_tokens_and_router_finite (hMoeRefIdeal := hMoeRefIdeal) (hPre_tokens_and_router_finite := hPre_tokens_and_router_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Seq (hSeq := hSeq)
    ∧ quiescent_SeqIdeal (hSeqIdeal := hSeqIdeal)
    ∧ quiescent_SeqIdeal_pre_attention_finite (hSeqIdeal := hSeqIdeal) (hPre_attention_finite := hPre_attention_finite)
    ∧ quiescent_SeqRefIdeal (hSeqRefIdeal := hSeqRefIdeal)
    ∧ quiescent_SeqRefIdeal_pre_attention_finite (hSeqRefIdeal := hSeqRefIdeal) (hPre_attention_finite := hPre_attention_finite)
    ∧ preserves_Moe_MoeIdeal
    ∧ algebraic_MoeIdeal_MoeRefIdeal_pre_tokens_and_router_finite (hMoeIdeal := hMoeIdeal) (hMoeRefIdeal := hMoeRefIdeal) (hPre_tokens_and_router_finite := hPre_tokens_and_router_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Seq_SeqIdeal
    ∧ algebraic_SeqIdeal_SeqRefIdeal_pre_attention_finite (hSeqIdeal := hSeqIdeal) (hSeqRefIdeal := hSeqRefIdeal) (hPre_attention_finite := hPre_attention_finite)
-- ==== Pre_attention_finite.lean ====
abbrev S1024x512 : Shape := ⟨2, ![1024, 512]⟩
abbrev S32x512x8x64 : Shape := ⟨4, ![32, 512, 8, 64]⟩
abbrev S32x2x512 : Shape := ⟨3, ![32, 2, 512]⟩
abbrev S8x257 : Shape := ⟨2, ![8, 257]⟩
abbrev S3x512 : Shape := ⟨2, ![3, 512]⟩
abbrev S_ : Shape := ⟨0, ![]⟩

class Facts : Prop where
  bcast_S_S1024x512 : S_.BroadcastsInDim S1024x512 (![] : Fin 0 → Fin S1024x512.rank)
  bcast_S_S32x512x8x64 : S_.BroadcastsInDim S32x512x8x64 (![] : Fin 0 → Fin S32x512x8x64.rank)
  bcast_S_S8x257 : S_.BroadcastsInDim S8x257 (![] : Fin 0 → Fin S8x257.rank)

variable [Facts]

def fn {F : FTy → Type} [FloatOps F] (main_arg0 : FVec F S1024x512 .bf16) (main_arg1 : FVec F S1024x512 .f32) (main_arg2 : FVec F S1024x512 .f32) (main_arg3 : FVec F S32x512x8x64 .f32) (main_arg4 : FVec F S32x512x8x64 .f32) (main_arg5 : FVec F S1024x512 .f32) (main_arg6 : FVec F S1024x512 .bf16) (main_arg7 : FVec F S32x2x512 .f32) (main_arg8 : FVec F S8x257 .f32) (main_arg9 : FVec F S3x512 .f32) : IVec S1024x512 1 × IVec S1024x512 1 × IVec S32x512x8x64 1 × IVec S8x257 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : FVec F S32x512x8x64 .f32 := Host.absf main_arg3
  let main_cst_1 : FVec F S_ .f32 := constant S_ .f32 0x7F800000#32
  let main_v7 : FVec F S32x512x8x64 .f32 := broadcastInDim S32x512x8x64 ![] bcast_S_S32x512x8x64 main_cst_1
  let main_v8 : IVec S32x512x8x64 1 := cmpf .olt main_v6 main_v7
  let main_v9 : FVec F S8x257 .f32 := Host.absf main_arg8
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  (main_v2, main_v5, main_v8, main_v11)
-- ==== Pre_tokens_and_router_finite.lean ====
abbrev S65536x1024 : Shape := ⟨2, ![65536, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S65536x1024 : S_.BroadcastsInDim S65536x1024 (![] : Fin 0 → Fin S65536x1024.rank)
  bcast_S_S1024 : S_.BroadcastsInDim S1024 (![] : Fin 0 → Fin S1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S65536x1024 .f32) (main_arg1 : FVec F S1024 .f32) (main_arg2 : FVec F S1024x8 .f32) (main_arg3 : FVec F S8 .f32) (main_arg4 : FVec F S8x1024x3584 .f32) (main_arg5 : FVec F S8x1024x3584 .f32) (main_arg6 : FVec F S8x3584x1024 .f32) : IVec S65536x1024 1 × IVec S1024 1 × IVec S1024x8 1 × IVec S8 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x8 .f32 := Host.absf main_arg2
  let main_cst_1 : FVec F S_ .f32 := constant S_ .f32 0x7F800000#32
  let main_v7 : FVec F S1024x8 .f32 := broadcastInDim S1024x8 ![] bcast_S_S1024x8 main_cst_1
  let main_v8 : IVec S1024x8 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Moe.lean ====
abbrev S65536x1024 : Shape := ⟨2, ![65536, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S1x1024 : Shape := ⟨2, ![1, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S512x1024 : Shape := ⟨2, ![512, 1024]⟩
abbrev S1x1024x1792 : Shape := ⟨3, ![1, 1024, 1792]⟩
abbrev S1x1792x1024 : Shape := ⟨3, ![1, 1792, 1024]⟩
abbrev S512x128 : Shape := ⟨2, ![512, 128]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 19
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8, .f32⟩
  | .hbm, ⟨3, _⟩ => ⟨S8, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S8x1024x3584, .bf16⟩
  | .hbm, ⟨16, _⟩ => ⟨S8x1024x3584, .bf16⟩
  | .hbm, ⟨17, _⟩ => ⟨S8x3584x1024, .bf16⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1792x1024, .bf16⟩
  | .local _ .vmem, ⟨10, _⟩ => ⟨S1x1792x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x128, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![128, 8, 2], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c1_i32 : BitVec 32 := 1#32
  let v35 : BitVec 1 := Scalar.cmpi .eq arg2 c1_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1792x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MoeIdeal.lean ====
variable {F : FTy → Type} [FloatOps F] [Named F]
def κ : String → Option EReal := fun
  | "mask" => some ⊥
  | _ => none
-- ==== MoeRefIdeal.lean ====
abbrev S65536x1024 : Shape := ⟨2, ![65536, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩
abbrev S1x8 : Shape := ⟨2, ![1, 8]⟩
abbrev S65536x2 : Shape := ⟨2, ![65536, 2]⟩
abbrev S65536x2x1 : Shape := ⟨3, ![65536, 2, 1]⟩
abbrev S1x1x8 : Shape := ⟨3, ![1, 1, 8]⟩
abbrev S65536x2x8 : Shape := ⟨3, ![65536, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S65536x3584 : Shape := ⟨2, ![65536, 3584]⟩

abbrev nBuf : Space → Nat
  | .hbm => 234
  | .vmem => 0
  | .smem => 0
  | _ => 0

abbrev hbmTy0_0 (i : Nat) : BufTy := match i % 128 with
  | 0 => ⟨S65536x1024, .f32⟩
  | 1 => ⟨S1024, .f32⟩
  | 2 => ⟨S1024x8, .f32⟩
  | 3 => ⟨S8, .f32⟩
  | 4 => ⟨S8x1024x3584, .f32⟩
  | 5 => ⟨S8x1024x3584, .f32⟩
  | 6 => ⟨S8x3584x1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .f32⟩
  | 15 => ⟨S65536x1, .f32⟩
  | 16 => ⟨S65536x1, .f32⟩
  | 17 => ⟨S65536x1, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x8, .f32⟩
  | 24 => ⟨S1x8, .f32⟩
  | 25 => ⟨S65536x8, .f32⟩
  | 26 => ⟨S65536x8, .f32⟩
  | 27 => ⟨S65536x2, .f32⟩
  | 28 => ⟨S65536x2, .i32⟩
  | 29 => ⟨S_, .f32⟩
  | 30 => ⟨S65536, .f32⟩
  | 31 => ⟨S_, .f32⟩
  | 32 => ⟨S65536, .f32⟩
  | 33 => ⟨S65536, .f32⟩
  | 34 => ⟨S65536x1, .f32⟩
  | 35 => ⟨S65536x2, .f32⟩
  | 36 => ⟨S65536x2, .f32⟩
  | 37 => ⟨S65536x2, .f32⟩
  | 38 => ⟨S_, .f32⟩
  | 39 => ⟨S65536, .f32⟩
  | 40 => ⟨S65536x1, .f32⟩
  | 41 => ⟨S65536x2, .f32⟩
  | 42 => ⟨S65536x2, .f32⟩
  | 43 => ⟨S65536x2x1, .i32⟩
  | 44 => ⟨S1x1x8, .i32⟩
  | 45 => ⟨S65536x2x8, .i32⟩
  | 46 => ⟨S65536x2x8, .i32⟩
  | 47 => ⟨S65536x2x8, .i1⟩
  | 48 => ⟨S65536x2x8, .f32⟩
  | 49 => ⟨S65536x8, .f32⟩
  | 50 => ⟨S65536x1, .f32⟩
  | 51 => ⟨S1x1024x3584, .f32⟩
  | 52 => ⟨S1024x3584, .f32⟩
  | 53 => ⟨S1x1024x3584, .f32⟩
  | 54 => ⟨S1024x3584, .f32⟩
  | 55 => ⟨S1x3584x1024, .f32⟩
  | 56 => ⟨S3584x1024, .f32⟩
  | 57 => ⟨S65536x3584, .f32⟩
  | 58 => ⟨S65536x3584, .f32⟩
  | 59 => ⟨S65536x3584, .f32⟩
  | 60 => ⟨S65536x3584, .f32⟩
  | 61 => ⟨S_, .f32⟩
  | 62 => ⟨S65536x3584, .f32⟩
  | 63 => ⟨S65536x3584, .f32⟩
  | 64 => ⟨S_, .f32⟩
  | 65 => ⟨S65536x3584, .f32⟩
  | 66 => ⟨S65536x3584, .f32⟩
  | 67 => ⟨S65536x3584, .f32⟩
  | 68 => ⟨S65536x3584, .f32⟩
  | 69 => ⟨S65536x1024, .f32⟩
  | 70 => ⟨S65536x1024, .f32⟩
  | 71 => ⟨S65536x1024, .f32⟩
  | 72 => ⟨S65536x1, .f32⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S65536x3584, .f32⟩
  | 80 => ⟨S65536x3584, .f32⟩
  | 81 => ⟨S65536x3584, .f32⟩
  | 82 => ⟨S65536x3584, .f32⟩
  | 83 => ⟨S_, .f32⟩
  | 84 => ⟨S65536x3584, .f32⟩
  | 85 => ⟨S65536x3584, .f32⟩
  | 86 => ⟨S_, .f32⟩
  | 87 => ⟨S65536x3584, .f32⟩
  | 88 => ⟨S65536x3584, .f32⟩
  | 89 => ⟨S65536x3584, .f32⟩
  | 90 => ⟨S65536x3584, .f32⟩
  | 91 => ⟨S65536x1024, .f32⟩
  | 92 => ⟨S65536x1024, .f32⟩
  | 93 => ⟨S65536x1024, .f32⟩
  | 94 => ⟨S65536x1024, .f32⟩
  | 95 => ⟨S65536x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S65536x3584, .f32⟩
  | 103 => ⟨S65536x3584, .f32⟩
  | 104 => ⟨S65536x3584, .f32⟩
  | 105 => ⟨S65536x3584, .f32⟩
  | 106 => ⟨S_, .f32⟩
  | 107 => ⟨S65536x3584, .f32⟩
  | 108 => ⟨S65536x3584, .f32⟩
  | 109 => ⟨S_, .f32⟩
  | 110 => ⟨S65536x3584, .f32⟩
  | 111 => ⟨S65536x3584, .f32⟩
  | 112 => ⟨S65536x3584, .f32⟩
  | 113 => ⟨S65536x3584, .f32⟩
  | 114 => ⟨S65536x1024, .f32⟩
  | 115 => ⟨S65536x1024, .f32⟩
  | 116 => ⟨S65536x1024, .f32⟩
  | 117 => ⟨S65536x1024, .f32⟩
  | 118 => ⟨S65536x1, .f32⟩
  | 119 => ⟨S1x1024x3584, .f32⟩
  | 120 => ⟨S1024x3584, .f32⟩
  | 121 => ⟨S1x1024x3584, .f32⟩
  | 122 => ⟨S1024x3584, .f32⟩
  | 123 => ⟨S1x3584x1024, .f32⟩
  | 124 => ⟨S3584x1024, .f32⟩
  | 125 => ⟨S65536x3584, .f32⟩
  | 126 => ⟨S65536x3584, .f32⟩
  | 127 => ⟨S65536x3584, .f32⟩
  | _ => ⟨S65536x1024, .f32⟩

abbrev hbmTy0_1 (i : Nat) : BufTy := match i % 128 with
  | 0 => ⟨S65536x3584, .f32⟩
  | 1 => ⟨S_, .f32⟩
  | 2 => ⟨S65536x3584, .f32⟩
  | 3 => ⟨S65536x3584, .f32⟩
  | 4 => ⟨S_, .f32⟩
  | 5 => ⟨S65536x3584, .f32⟩
  | 6 => ⟨S65536x3584, .f32⟩
  | 7 => ⟨S65536x3584, .f32⟩
  | 8 => ⟨S65536x3584, .f32⟩
  | 9 => ⟨S65536x1024, .f32⟩
  | 10 => ⟨S65536x1024, .f32⟩
  | 11 => ⟨S65536x1024, .f32⟩
  | 12 => ⟨S65536x1024, .f32⟩
  | 13 => ⟨S65536x1, .f32⟩
  | 14 => ⟨S1x1024x3584, .f32⟩
  | 15 => ⟨S1024x3584, .f32⟩
  | 16 => ⟨S1x1024x3584, .f32⟩
  | 17 => ⟨S1024x3584, .f32⟩
  | 18 => ⟨S1x3584x1024, .f32⟩
  | 19 => ⟨S3584x1024, .f32⟩
  | 20 => ⟨S65536x3584, .f32⟩
  | 21 => ⟨S65536x3584, .f32⟩
  | 22 => ⟨S65536x3584, .f32⟩
  | 23 => ⟨S65536x3584, .f32⟩
  | 24 => ⟨S_, .f32⟩
  | 25 => ⟨S65536x3584, .f32⟩
  | 26 => ⟨S65536x3584, .f32⟩
  | 27 => ⟨S_, .f32⟩
  | 28 => ⟨S65536x3584, .f32⟩
  | 29 => ⟨S65536x3584, .f32⟩
  | 30 => ⟨S65536x3584, .f32⟩
  | 31 => ⟨S65536x3584, .f32⟩
  | 32 => ⟨S65536x1024, .f32⟩
  | 33 => ⟨S65536x1024, .f32⟩
  | 34 => ⟨S65536x1024, .f32⟩
  | 35 => ⟨S65536x1024, .f32⟩
  | 36 => ⟨S65536x1, .f32⟩
  | 37 => ⟨S1x1024x3584, .f32⟩
  | 38 => ⟨S1024x3584, .f32⟩
  | 39 => ⟨S1x1024x3584, .f32⟩
  | 40 => ⟨S1024x3584, .f32⟩
  | 41 => ⟨S1x3584x1024, .f32⟩
  | 42 => ⟨S3584x1024, .f32⟩
  | 43 => ⟨S65536x3584, .f32⟩
  | 44 => ⟨S65536x3584, .f32⟩
  | 45 => ⟨S65536x3584, .f32⟩
  | 46 => ⟨S65536x3584, .f32⟩
  | 47 => ⟨S_, .f32⟩
  | 48 => ⟨S65536x3584, .f32⟩
  | 49 => ⟨S65536x3584, .f32⟩
  | 50 => ⟨S_, .f32⟩
  | 51 => ⟨S65536x3584, .f32⟩
  | 52 => ⟨S65536x3584, .f32⟩
  | 53 => ⟨S65536x3584, .f32⟩
  | 54 => ⟨S65536x3584, .f32⟩
  | 55 => ⟨S65536x1024, .f32⟩
  | 56 => ⟨S65536x1024, .f32⟩
  | 57 => ⟨S65536x1024, .f32⟩
  | 58 => ⟨S65536x1024, .f32⟩
  | 59 => ⟨S65536x1, .f32⟩
  | 60 => ⟨S1x1024x3584, .f32⟩
  | 61 => ⟨S1024x3584, .f32⟩
  | 62 => ⟨S1x1024x3584, .f32⟩
  | 63 => ⟨S1024x3584, .f32⟩
  | 64 => ⟨S1x3584x1024, .f32⟩
  | 65 => ⟨S3584x1024, .f32⟩
  | 66 => ⟨S65536x3584, .f32⟩
  | 67 => ⟨S65536x3584, .f32⟩
  | 68 => ⟨S65536x3584, .f32⟩
  | 69 => ⟨S65536x3584, .f32⟩
  | 70 => ⟨S_, .f32⟩
  | 71 => ⟨S65536x3584, .f32⟩
  | 72 => ⟨S65536x3584, .f32⟩
  | 73 => ⟨S_, .f32⟩
  | 74 => ⟨S65536x3584, .f32⟩
  | 75 => ⟨S65536x3584, .f32⟩
  | 76 => ⟨S65536x3584, .f32⟩
  | 77 => ⟨S65536x3584, .f32⟩
  | 78 => ⟨S65536x1024, .f32⟩
  | 79 => ⟨S65536x1024, .f32⟩
  | 80 => ⟨S65536x1024, .f32⟩
  | 81 => ⟨S65536x1024, .f32⟩
  | 82 => ⟨S65536x1, .f32⟩
  | 83 => ⟨S1x1024x3584, .f32⟩
  | 84 => ⟨S1024x3584, .f32⟩
  | 85 => ⟨S1x1024x3584, .f32⟩
  | 86 => ⟨S1024x3584, .f32⟩
  | 87 => ⟨S1x3584x1024, .f32⟩
  | 88 => ⟨S3584x1024, .f32⟩
  | 89 => ⟨S65536x3584, .f32⟩
  | 90 => ⟨S65536x3584, .f32⟩
  | 91 => ⟨S65536x3584, .f32⟩
  | 92 => ⟨S65536x3584, .f32⟩
  | 93 => ⟨S_, .f32⟩
  | 94 => ⟨S65536x3584, .f32⟩
  | 95 => ⟨S65536x3584, .f32⟩
  | 96 => ⟨S_, .f32⟩
  | 97 => ⟨S65536x3584, .f32⟩
  | 98 => ⟨S65536x3584, .f32⟩
  | 99 => ⟨S65536x3584, .f32⟩
  | 100 => ⟨S65536x3584, .f32⟩
  | 101 => ⟨S65536x1024, .f32⟩
  | 102 => ⟨S65536x1024, .f32⟩
  | 103 => ⟨S65536x1024, .f32⟩
  | 104 => ⟨S65536x1024, .f32⟩
  | 105 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_call6_v0 : Ref sig .tc := ⟨.hbm, 173, rfl⟩
abbrev main_call6_v1 : Ref sig .tc := ⟨.hbm, 174, rfl⟩
abbrev main_call6_cst : Ref sig .tc := ⟨.hbm, 175, rfl⟩
abbrev main_call6_v2 : Ref sig .tc := ⟨.hbm, 176, rfl⟩
abbrev main_call6_v3 : Ref sig .tc := ⟨.hbm, 177, rfl⟩
abbrev main_call6_cst_0 : Ref sig .tc := ⟨.hbm, 178, rfl⟩
abbrev main_call6_v4 : Ref sig .tc := ⟨.hbm, 179, rfl⟩
abbrev main_call6_v5 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_call7_v0 : Ref sig .tc := ⟨.hbm, 196, rfl⟩
abbrev main_call7_v1 : Ref sig .tc := ⟨.hbm, 197, rfl⟩
abbrev main_call7_cst : Ref sig .tc := ⟨.hbm, 198, rfl⟩
abbrev main_call7_v2 : Ref sig .tc := ⟨.hbm, 199, rfl⟩
abbrev main_call7_v3 : Ref sig .tc := ⟨.hbm, 200, rfl⟩
abbrev main_call7_cst_0 : Ref sig .tc := ⟨.hbm, 201, rfl⟩
abbrev main_call7_v4 : Ref sig .tc := ⟨.hbm, 202, rfl⟩
abbrev main_call7_v5 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_call8_v0 : Ref sig .tc := ⟨.hbm, 219, rfl⟩
abbrev main_call8_v1 : Ref sig .tc := ⟨.hbm, 220, rfl⟩
abbrev main_call8_cst : Ref sig .tc := ⟨.hbm, 221, rfl⟩
abbrev main_call8_v2 : Ref sig .tc := ⟨.hbm, 222, rfl⟩
abbrev main_call8_v3 : Ref sig .tc := ⟨.hbm, 223, rfl⟩
abbrev main_call8_cst_0 : Ref sig .tc := ⟨.hbm, 224, rfl⟩
abbrev main_call8_v4 : Ref sig .tc := ⟨.hbm, 225, rfl⟩
abbrev main_call8_v5 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S1280x1024 : Shape := ⟨2, ![1280, 1024]⟩
abbrev S1024x1536 : Shape := ⟨2, ![1024, 1536]⟩
abbrev S512x1536 : Shape := ⟨2, ![512, 1536]⟩
abbrev S1536x1024 : Shape := ⟨2, ![1536, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Inproj.lean ====
abbrev S65536x1024 : Shape := ⟨2, ![65536, 1024]⟩
abbrev S1024 : Shape := ⟨1, ![1024]⟩
abbrev S1024x7168 : Shape := ⟨2, ![1024, 7168]⟩
abbrev S512 : Shape := ⟨1, ![512]⟩
abbrev S1x1024 : Shape := ⟨2, ![1, 1024]⟩
abbrev S1x512 : Shape := ⟨2, ![1, 512]⟩
abbrev S65536x512 : Shape := ⟨2, ![65536, 512]⟩
abbrev S65536x3072 : Shape := ⟨2, ![65536, 3072]⟩
abbrev S512x1024 : Shape := ⟨2, ![512, 1024]⟩
abbrev S512x512 : Shape := ⟨2, ![512, 512]⟩
abbrev S512x3072 : Shape := ⟨2, ![512, 3072]⟩
abbrev S512x1 : Shape := ⟨2, ![512, 1]⟩
abbrev S1024x512 : Shape := ⟨2, ![1024, 512]⟩

abbrev nBuf : Space → Nat
  | .hbm => 15
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x7168, .f32⟩
  | .hbm, ⟨3, _⟩ => ⟨S512, .f32⟩
  | .hbm, ⟨4, _⟩ => ⟨S1x1024, .f32⟩
  | .hbm, ⟨5, _⟩ => ⟨S1x512, .f32⟩
  | .hbm, ⟨6, _⟩ => ⟨S1024x7168, .bf16⟩
  | .hbm, ⟨7, _⟩ => ⟨S65536x512, .bf16⟩
  | .hbm, ⟨8, _⟩ => ⟨S65536x512, .f32⟩
  | .hbm, ⟨9, _⟩ => ⟨S65536x512, .bf16⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S65536x512, .bf16⟩
  | .hbm, ⟨14, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7168, .bf16⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x3072, .bf16⟩
  | .local _ .vmem, ⟨20, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S65536x1024 : Shape := ⟨2, ![65536, 1024]⟩
abbrev S1024 : Shape := ⟨1, ![1024]⟩
abbrev S1024x7168 : Shape := ⟨2, ![1024, 7168]⟩
abbrev S512 : Shape := ⟨1, ![512]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x7168 : Shape := ⟨2, ![65536, 7168]⟩
abbrev S65536x512 : Shape := ⟨2, ![65536, 512]⟩
abbrev S65536x3072 : Shape := ⟨2, ![65536, 3072]⟩
abbrev S1x512 : Shape := ⟨2, ![1, 512]⟩

abbrev nBuf : Space → Nat
  | .hbm => 96
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x7168, .f32⟩
  | .hbm, ⟨3, _⟩ => ⟨S512, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x7168, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x3072, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S_, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S_, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x1, .f32⟩
  | .hbm, ⟨58, _⟩ => ⟨S65536x512, .f32⟩
  | .hbm, ⟨59, _⟩ => ⟨S65536x512, .f32⟩
  | .hbm, ⟨60, _⟩ => ⟨S1x512, .f32⟩
  | .hbm, ⟨61, _⟩ => ⟨S65536x512, .f32⟩
  | .hbm, ⟨62, _⟩ => ⟨S65536x512, .f32⟩
  | .hbm, ⟨63, _⟩ => ⟨S65536x512, .f32⟩
  | .hbm, ⟨64, _⟩ => ⟨S65536x512, .f32⟩
  | .hbm, ⟨65, _⟩ => ⟨S_, .f32⟩
  | .hbm, ⟨66, _⟩ => ⟨S65536x512, .f32⟩
  | .hbm, ⟨67, _⟩ => ⟨S65536x512, .f32⟩
  | .hbm, ⟨68, _⟩ => ⟨S65536x512, .f32⟩
  | .hbm, ⟨69, _⟩ => ⟨S_, .f32⟩
  | .hbm, ⟨70, _⟩ => ⟨S65536x512, .f32⟩
  | .hbm, ⟨71, _⟩ => ⟨S65536x512, .f32⟩
  | .hbm, ⟨72, _⟩ => ⟨S65536x512, .f32⟩
  | .hbm, ⟨73, _⟩ => ⟨S_, .f32⟩
  | .hbm, ⟨74, _⟩ => ⟨S65536x512, .f32⟩
  | .hbm, ⟨75, _⟩ => ⟨S65536x512, .f32⟩
  | .hbm, ⟨76, _⟩ => ⟨S_, .f32⟩
  | .hbm, ⟨77, _⟩ => ⟨S65536x512, .f32⟩
  | .hbm, ⟨78, _⟩ => ⟨S65536x512, .f32⟩
  | .hbm, ⟨79, _⟩ => ⟨S65536x512, .f32⟩
  | .hbm, ⟨80, _⟩ => ⟨S65536x512, .bf16⟩
  | .hbm, ⟨81, _⟩ => ⟨S_, .f32⟩
  | .hbm, ⟨82, _⟩ => ⟨S65536x512, .f32⟩
  | .hbm, ⟨83, _⟩ => ⟨S65536x512, .f32⟩
  | .hbm, ⟨84, _⟩ => ⟨S65536x512, .bf16⟩
  | .hbm, ⟨85, _⟩ => ⟨S65536x512, .f32⟩
  | .hbm, ⟨86, _⟩ => ⟨S65536x512, .bf16⟩
  | .hbm, ⟨87, _⟩ => ⟨S65536x3072, .f32⟩
  | .hbm, ⟨88, _⟩ => ⟨S65536x3072, .f32⟩
  | .hbm, ⟨89, _⟩ => ⟨S_, .f32⟩
  | .hbm, ⟨90, _⟩ => ⟨S65536x3072, .f32⟩
  | .hbm, ⟨91, _⟩ => ⟨S65536x3072, .f32⟩
  | .hbm, ⟨92, _⟩ => ⟨S_, .f32⟩
  | .hbm, ⟨93, _⟩ => ⟨S65536x3072, .f32⟩
  | .hbm, ⟨94, _⟩ => ⟨S65536x3072, .f32⟩
  | .hbm, ⟨95, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Merge.lean ====
abbrev S65536x512 : Shape := ⟨2, ![65536, 512]⟩
abbrev S65536x3072 : Shape := ⟨2, ![65536, 3072]⟩
abbrev S65536x1024 : Shape := ⟨2, ![65536, 1024]⟩
abbrev S4x128x128 : Shape := ⟨3, ![4, 128, 128]⟩
abbrev S4x128 : Shape := ⟨2, ![4, 128]⟩
abbrev S3x512x1024 : Shape := ⟨3, ![3, 512, 1024]⟩
abbrev S1024x1024 : Shape := ⟨2, ![1024, 1024]⟩
abbrev S128x128 : Shape := ⟨2, ![128, 128]⟩
abbrev S1x128x128 : Shape := ⟨3, ![1, 128, 128]⟩
abbrev S_ : Shape := ⟨0, ![]⟩
abbrev S1x4x1x128 : Shape := ⟨4, ![1, 4, 1, 128]⟩
abbrev S4x128x1 : Shape := ⟨3, ![4, 128, 1]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩

abbrev nBuf : Space → Nat
  | .hbm => 26
  | .vmem => 19
  | .smem => 0
  | _ => 0

abbrev bufTy : (tb : Table) → Fin (tcTables nBuf tb) → BufTy
  | .hbm, ⟨0, _⟩ => ⟨S65536x512, .bf16⟩
  | .hbm, ⟨1, _⟩ => ⟨S65536x512, .f32⟩
  | .hbm, ⟨2, _⟩ => ⟨S65536x512, .bf16⟩
  | .hbm, ⟨3, _⟩ => ⟨S65536x512, .bf16⟩
  | .hbm, ⟨4, _⟩ => ⟨S65536x3072, .bf16⟩
  | .hbm, ⟨5, _⟩ => ⟨S65536x1024, .f32⟩
  | .hbm, ⟨6, _⟩ => ⟨S4x128x128, .f32⟩
  | .hbm, ⟨7, _⟩ => ⟨S4x128, .f32⟩
  | .hbm, ⟨8, _⟩ => ⟨S3x512x1024, .f32⟩
  | .hbm, ⟨9, _⟩ => ⟨S1024x1024, .f32⟩
  | .hbm, ⟨10, _⟩ => ⟨S128x128, .i1⟩
  | .hbm, ⟨11, _⟩ => ⟨S1x128x128, .i1⟩
  | .hbm, ⟨12, _⟩ => ⟨S3x512x1024, .bf16⟩
  | .hbm, ⟨13, _⟩ => ⟨S1024x1024, .bf16⟩
  | .hbm, ⟨14, _⟩ => ⟨S_, .i32⟩
  | .hbm, ⟨15, _⟩ => ⟨S_, .f32⟩
  | .hbm, ⟨16, _⟩ => ⟨S4x128x128, .i1⟩
  | .hbm, ⟨17, _⟩ => ⟨S4x128x128, .f32⟩
  | .hbm, ⟨18, _⟩ => ⟨S4x128x128, .f32⟩
  | .hbm, ⟨19, _⟩ => ⟨S1x4x1x128, .f32⟩
  | .hbm, ⟨20, _⟩ => ⟨S1x4x1x128, .f32⟩
  | .hbm, ⟨21, _⟩ => ⟨S4x128, .f32⟩
  | .hbm, ⟨22, _⟩ => ⟨S4x128x1, .f32⟩
  | .hbm, ⟨23, _⟩ => ⟨S4x128x128, .f32⟩
  | .hbm, ⟨24, _⟩ => ⟨S4x128x128, .bf16⟩
  | .hbm, ⟨25, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S4x128x128, .bf16⟩
  | .local _ .vmem, ⟨13, _⟩ => ⟨S4x128x128, .f32⟩
  | .local _ .vmem, ⟨14, _⟩ => ⟨S3x512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x512, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S65536x512 : Shape := ⟨2, ![65536, 512]⟩
abbrev S65536x3072 : Shape := ⟨2, ![65536, 3072]⟩
abbrev S65536x1024 : Shape := ⟨2, ![65536, 1024]⟩
abbrev S4x128x128 : Shape := ⟨3, ![4, 128, 128]⟩
abbrev S4x128 : Shape := ⟨2, ![4, 128]⟩
abbrev S3x512x1024 : Shape := ⟨3, ![3, 512, 1024]⟩
abbrev S1024x1024 : Shape := ⟨2, ![1024, 1024]⟩
abbrev S128x128 : Shape := ⟨2, ![128, 128]⟩
abbrev S1x128x128 : Shape := ⟨3, ![1, 128, 128]⟩
abbrev S32x2048x512 : Shape := ⟨3, ![32, 2048, 512]⟩
abbrev S_ : Shape := ⟨0, ![]⟩
abbrev S32x16x128x4x128 : Shape := ⟨5, ![32, 16, 128, 4, 128]⟩
abbrev S4x32x16x128x128 : Shape := ⟨5, ![4, 32, 16, 128, 128]⟩
abbrev S128x4 : Shape := ⟨2, ![128, 4]⟩
abbrev S1x1x128x4x1 : Shape := ⟨5, ![1, 1, 128, 4, 1]⟩
abbrev S32x2048x3072 : Shape := ⟨3, ![32, 2048, 3072]⟩
abbrev S32x2048x1x512 : Shape := ⟨4, ![32, 2048, 1, 512]⟩
abbrev S32x2048x3x512 : Shape := ⟨4, ![32, 2048, 3, 512]⟩
abbrev S3x1024x32x2048 : Shape := ⟨4, ![3, 1024, 32, 2048]⟩
abbrev S32x2048x3x1024 : Shape := ⟨4, ![32, 2048, 3, 1024]⟩
abbrev S32x2048x1024 : Shape := ⟨3, ![32, 2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .f32⟩
  | .hbm, ⟨2, _⟩ => ⟨S65536x512, .bf16⟩
  | .hbm, ⟨3, _⟩ => ⟨S65536x512, .bf16⟩
  | .hbm, ⟨4, _⟩ => ⟨S65536x3072, .bf16⟩
  | .hbm, ⟨5, _⟩ => ⟨S65536x1024, .f32⟩
  | .hbm, ⟨6, _⟩ => ⟨S4x128x128, .f32⟩
  | .hbm, ⟨7, _⟩ => ⟨S4x128, .f32⟩
  | .hbm, ⟨8, _⟩ => ⟨S3x512x1024, .f32⟩
  | .hbm, ⟨9, _⟩ => ⟨S1024x1024, .f32⟩
  | .hbm, ⟨10, _⟩ => ⟨S128x128, .i1⟩
  | .hbm, ⟨11, _⟩ => ⟨S1x128x128, .i1⟩
  | .hbm, ⟨12, _⟩ => ⟨S65536x512, .f32⟩
  | .hbm, ⟨13, _⟩ => ⟨S32x2048x512, .f32⟩
  | .hbm, ⟨14, _⟩ => ⟨S32x2048x512, .f32⟩
  | .hbm, ⟨15, _⟩ => ⟨S_, .i32⟩
  | .hbm, ⟨16, _⟩ => ⟨S_, .f32⟩
  | .hbm, ⟨17, _⟩ => ⟨S4x128x128, .i1⟩
  | .hbm, ⟨18, _⟩ => ⟨S4x128x128, .f32⟩
  | .hbm, ⟨19, _⟩ => ⟨S4x128x128, .f32⟩
  | .hbm, ⟨20, _⟩ => ⟨S32x16x128x4x128, .f32⟩
  | .hbm, ⟨21, _⟩ => ⟨S4x32x16x128x128, .f32⟩
  | .hbm, ⟨22, _⟩ => ⟨S32x16x128x4x128, .f32⟩
  | .hbm, ⟨23, _⟩ => ⟨S128x4, .f32⟩
  | .hbm, ⟨24, _⟩ => ⟨S1x1x128x4x1, .f32⟩
  | .hbm, ⟨25, _⟩ => ⟨S32x16x128x4x128, .f32⟩
  | .hbm, ⟨26, _⟩ => ⟨S32x16x128x4x128, .f32⟩
  | .hbm, ⟨27, _⟩ => ⟨S32x2048x512, .f32⟩
  | .hbm, ⟨28, _⟩ => ⟨S32x2048x512, .f32⟩
  | .hbm, ⟨29, _⟩ => ⟨S65536x512, .f32⟩
  | .hbm, ⟨30, _⟩ => ⟨S32x2048x512, .f32⟩
  | .hbm, ⟨31, _⟩ => ⟨S65536x512, .f32⟩
  | .hbm, ⟨32, _⟩ => ⟨S32x2048x512, .f32⟩
  | .hbm, ⟨33, _⟩ => ⟨S65536x3072, .f32⟩
  | .hbm, ⟨34, _⟩ => ⟨S32x2048x3072, .f32⟩
  | .hbm, ⟨35, _⟩ => ⟨S32x2048x1x512, .f32⟩
  | .hbm, ⟨36, _⟩ => ⟨S32x2048x1x512, .f32⟩
  | .hbm, ⟨37, _⟩ => ⟨S32x2048x1x512, .f32⟩
  | .hbm, ⟨38, _⟩ => ⟨S32x2048x3x512, .f32⟩
  | .hbm, ⟨39, _⟩ => ⟨S3x1024x32x2048, .f32⟩
  | .hbm, ⟨40, _⟩ => ⟨S32x2048x3x1024, .f32⟩
  | .hbm, ⟨41, _⟩ => ⟨S32x2048x3x1024, .f32⟩
  | .hbm, ⟨42, _⟩ => ⟨S32x2048x3x1024, .f32⟩
  | .hbm, ⟨43, _⟩ => ⟨S_, .f32⟩
  | .hbm, ⟨44, _⟩ => ⟨S32x2048x1024, .f32⟩
  | .hbm, ⟨45, _⟩ => ⟨S32x2048x1024, .f32⟩
  | .hbm, ⟨46, _⟩ => ⟨S65536x1024, .f32⟩
  | .hbm, ⟨47, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Norm.lean ====
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x1, .f32⟩
  | .hbm, ⟨13, _⟩ => ⟨S65536x1024, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Seq.lean ====
abbrev S1024x512 : Shape := ⟨2, ![1024, 512]⟩
abbrev S32x512x8x64 : Shape := ⟨4, ![32, 512, 8, 64]⟩
abbrev S32x2x512 : Shape := ⟨3, ![32, 2, 512]⟩
abbrev S8x257 : Shape := ⟨2, ![8, 257]⟩
abbrev S3x512 : Shape := ⟨2, ![3, 512]⟩
abbrev S32x512x512 : Shape := ⟨3, ![32, 512, 512]⟩
abbrev S32 : Shape := ⟨1, ![32]⟩
abbrev S32x1 : Shape := ⟨2, ![32, 1]⟩
abbrev S_ : Shape := ⟨0, ![]⟩
abbrev S544 : Shape := ⟨1, ![544]⟩
abbrev S1x544 : Shape := ⟨2, ![1, 544]⟩
abbrev S32x544 : Shape := ⟨2, ![32, 544]⟩
abbrev S32x544x1 : Shape := ⟨3, ![32, 544, 1]⟩
abbrev S1 : Shape := ⟨1, ![1]⟩
abbrev S1x1x1 : Shape := ⟨3, ![1, 1, 1]⟩
abbrev S8x32x544 : Shape := ⟨3, ![8, 32, 544]⟩
abbrev S32x512 : Shape := ⟨2, ![32, 512]⟩
abbrev S1x512x512 : Shape := ⟨3, ![1, 512, 512]⟩
abbrev S1x2x512 : Shape := ⟨3, ![1, 2, 512]⟩
abbrev S544x512 : Shape := ⟨2, ![544, 512]⟩
abbrev S40x512 : Shape := ⟨2, ![40, 512]⟩
abbrev S512x512 : Shape := ⟨2, ![512, 512]⟩
abbrev S2x512 : Shape := ⟨2, ![2, 512]⟩
abbrev S32x128 : Shape := ⟨2, ![32, 128]⟩
abbrev S544x128 : Shape := ⟨2, ![544, 128]⟩
abbrev S1x32x544 : Shape := ⟨3, ![1, 32, 544]⟩
abbrev S1x512 : Shape := ⟨2, ![1, 512]⟩

abbrev nBuf : Space → Nat
  | .hbm => 59
  | .vmem => 27
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .hbm, ⟨2, _⟩ => ⟨S1024x512, .f32⟩
  | .hbm, ⟨3, _⟩ => ⟨S32x512x8x64, .f32⟩
  | .hbm, ⟨4, _⟩ => ⟨S32x512x8x64, .f32⟩
  | .hbm, ⟨5, _⟩ => ⟨S1024x512, .f32⟩
  | .hbm, ⟨6, _⟩ => ⟨S1024x512, .bf16⟩
  | .hbm, ⟨7, _⟩ => ⟨S32x2x512, .f32⟩
  | .hbm, ⟨8, _⟩ => ⟨S8x257, .f32⟩
  | .hbm, ⟨9, _⟩ => ⟨S3x512, .f32⟩
  | .hbm, ⟨10, _⟩ => ⟨S32x512x512, .f32⟩
  | .hbm, ⟨11, _⟩ => ⟨S32x512x512, .f32⟩
  | .hbm, ⟨12, _⟩ => ⟨S32, .i32⟩
  | .hbm, ⟨13, _⟩ => ⟨S32x1, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S544, .i32⟩
  | .hbm, ⟨18, _⟩ => ⟨S1x544, .i32⟩
  | .hbm, ⟨19, _⟩ => ⟨S32x544, .i32⟩
  | .hbm, ⟨20, _⟩ => ⟨S32x544, .i32⟩
  | .hbm, ⟨21, _⟩ => ⟨S32x544, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S32x544, .i32⟩
  | .hbm, ⟨26, _⟩ => ⟨S32x544, .i32⟩
  | .hbm, ⟨27, _⟩ => ⟨S_, .i32⟩
  | .hbm, ⟨28, _⟩ => ⟨S32x544, .i32⟩
  | .hbm, ⟨29, _⟩ => ⟨S32x544, .i32⟩
  | .hbm, ⟨30, _⟩ => ⟨S_, .i32⟩
  | .hbm, ⟨31, _⟩ => ⟨S32x544, .i32⟩
  | .hbm, ⟨32, _⟩ => ⟨S32x544, .i32⟩
  | .hbm, ⟨33, _⟩ => ⟨S_, .i32⟩
  | .hbm, ⟨34, _⟩ => ⟨S32x544, .i32⟩
  | .hbm, ⟨35, _⟩ => ⟨S32x544, .i1⟩
  | .hbm, ⟨36, _⟩ => ⟨S_, .i32⟩
  | .hbm, ⟨37, _⟩ => ⟨S32x544, .i32⟩
  | .hbm, ⟨38, _⟩ => ⟨S32x544, .i32⟩
  | .hbm, ⟨39, _⟩ => ⟨S32x544, .i32⟩
  | .hbm, ⟨40, _⟩ => ⟨S32x544x1, .i32⟩
  | .hbm, ⟨41, _⟩ => ⟨S1, .i32⟩
  | .hbm, ⟨42, _⟩ => ⟨S_, .i32⟩
  | .hbm, ⟨43, _⟩ => ⟨S32x544x1, .i32⟩
  | .hbm, ⟨44, _⟩ => ⟨S32x544x1, .i1⟩
  | .hbm, ⟨45, _⟩ => ⟨S1x1x1, .i32⟩
  | .hbm, ⟨46, _⟩ => ⟨S32x544x1, .i32⟩
  | .hbm, ⟨47, _⟩ => ⟨S32x544x1, .i1⟩
  | .hbm, ⟨48, _⟩ => ⟨S32x544x1, .i1⟩
  | .hbm, ⟨49, _⟩ => ⟨S_, .i1⟩
  | .hbm, ⟨50, _⟩ => ⟨S32x544, .i1⟩
  | .hbm, ⟨51, _⟩ => ⟨S8x32x544, .f32⟩
  | .hbm, ⟨52, _⟩ => ⟨S8x32x544, .i1⟩
  | .hbm, ⟨53, _⟩ => ⟨S_, .f32⟩
  | .hbm, ⟨54, _⟩ => ⟨S8x32x544, .f32⟩
  | .hbm, ⟨55, _⟩ => ⟨S8x32x544, .f32⟩
  | .hbm, ⟨56, _⟩ => ⟨S1024x512, .bf16⟩
  | .hbm, ⟨57, _⟩ => ⟨S1024x512, .bf16⟩
  | .hbm, ⟨58, _⟩ => ⟨S32x2x512, .f32⟩
  | .local _ .vmem, ⟨0, _⟩ => ⟨S32x512, .bf16⟩
  | .local _ .vmem, ⟨1, _⟩ => ⟨S32x512, .bf16⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S32x512, .f32⟩
  | .local _ .vmem, ⟨11, _⟩ => ⟨S32x512, .f32⟩
  | .local _ .vmem, ⟨12, _⟩ => ⟨S32x512, .bf16⟩
  | .local _ .vmem, ⟨13, _⟩ => ⟨S32x512, .bf16⟩
  | .local _ .vmem, ⟨14, _⟩ => ⟨S1x2x512, .f32⟩
  | .local _ .vmem, ⟨15, _⟩ => ⟨S1x2x512, .f32⟩
  | .local _ .vmem, ⟨16, _⟩ => ⟨S8x32x544, .f32⟩
  | .local _ .vmem, ⟨17, _⟩ => ⟨S3x512, .f32⟩
  | .local _ .vmem, ⟨18, _⟩ => ⟨S32x512, .bf16⟩
  | .local _ .vmem, ⟨19, _⟩ => ⟨S32x512, .bf16⟩
  | .local _ .vmem, ⟨20, _⟩ => ⟨S32x512, .bf16⟩
  | .local _ .vmem, ⟨21, _⟩ => ⟨S32x512, .bf16⟩
  | .local _ .vmem, ⟨22, _⟩ => ⟨S1x2x512, .f32⟩
  | .local _ .vmem, ⟨23, _⟩ => ⟨S1x2x512, .f32⟩
  | .local _ .vmem, ⟨24, _⟩ => ⟨S544x512, .bf16⟩
  | .local _ .vmem, ⟨25, _⟩ => ⟨S544x512, .bf16⟩
  | .local _ .vmem, ⟨26, _⟩ => ⟨S40x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v14 : Ref sig .tc := ⟨.hbm, 55, rfl⟩
abbrev main_v15_0 : Ref sig .tc := ⟨.hbm, 56, rfl⟩
abbrev main_v15_1 : Ref sig .tc := ⟨.hbm, 57, rfl⟩
abbrev main_v15_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x32x544 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SeqRefIdeal.lean ====
abbrev S1024x512 : Shape := ⟨2, ![1024, 512]⟩
abbrev S32x512x8x64 : Shape := ⟨4, ![32, 512, 8, 64]⟩
abbrev S32x2x512 : Shape := ⟨3, ![32, 2, 512]⟩
abbrev S8x257 : Shape := ⟨2, ![8, 257]⟩
abbrev S3x512 : Shape := ⟨2, ![3, 512]⟩
abbrev S32x32x8x64 : Shape := ⟨4, ![32, 32, 8, 64]⟩
abbrev S32x544x8x64 : Shape := ⟨4, ![32, 544, 8, 64]⟩
abbrev S32 : Shape := ⟨1, ![32]⟩
abbrev S32x1 : Shape := ⟨2, ![32, 1]⟩
abbrev S_ : Shape := ⟨0, ![]⟩
abbrev S544 : Shape := ⟨1, ![544]⟩
abbrev S1x544 : Shape := ⟨2, ![1, 544]⟩
abbrev S32x544 : Shape := ⟨2, ![32, 544]⟩
abbrev S32x544x1 : Shape := ⟨3, ![32, 544, 1]⟩
abbrev S1 : Shape := ⟨1, ![1]⟩
abbrev S1x1x1 : Shape := ⟨3, ![1, 1, 1]⟩
abbrev S8x32x544 : Shape := ⟨3, ![8, 32, 544]⟩
abbrev S32x8x32x544 : Shape := ⟨4, ![32, 8, 32, 544]⟩
abbrev S1x8x32x544 : Shape := ⟨4, ![1, 8, 32, 544]⟩
abbrev S32x8x32 : Shape := ⟨3, ![32, 8, 32]⟩
abbrev S32x8x32x1 : Shape := ⟨4, ![32, 8, 32, 1]⟩
abbrev S32x8x64x32 : Shape := ⟨4, ![32, 8, 64, 32]⟩
abbrev S32x32x512 : Shape := ⟨3, ![32, 32, 512]⟩
abbrev S32x34x512 : Shape := ⟨3, ![32, 34, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 110
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .hbm, ⟨2, _⟩ => ⟨S1024x512, .f32⟩
  | .hbm, ⟨3, _⟩ => ⟨S32x512x8x64, .f32⟩
  | .hbm, ⟨4, _⟩ => ⟨S32x512x8x64, .f32⟩
  | .hbm, ⟨5, _⟩ => ⟨S1024x512, .f32⟩
  | .hbm, ⟨6, _⟩ => ⟨S1024x512, .bf16⟩
  | .hbm, ⟨7, _⟩ => ⟨S32x2x512, .f32⟩
  | .hbm, ⟨8, _⟩ => ⟨S8x257, .f32⟩
  | .hbm, ⟨9, _⟩ => ⟨S3x512, .f32⟩
  | .hbm, ⟨10, _⟩ => ⟨S32x32x8x64, .f32⟩
  | .hbm, ⟨11, _⟩ => ⟨S32x544x8x64, .f32⟩
  | .hbm, ⟨12, _⟩ => ⟨S32x32x8x64, .f32⟩
  | .hbm, ⟨13, _⟩ => ⟨S32x544x8x64, .f32⟩
  | .hbm, ⟨14, _⟩ => ⟨S32, .i32⟩
  | .hbm, ⟨15, _⟩ => ⟨S32x1, .i32⟩
  | .hbm, ⟨16, _⟩ => ⟨S_, .i32⟩
  | .hbm, ⟨17, _⟩ => ⟨S32x1, .i32⟩
  | .hbm, ⟨18, _⟩ => ⟨S32x1, .i32⟩
  | .hbm, ⟨19, _⟩ => ⟨S544, .i32⟩
  | .hbm, ⟨20, _⟩ => ⟨S1x544, .i32⟩
  | .hbm, ⟨21, _⟩ => ⟨S32x544, .i32⟩
  | .hbm, ⟨22, _⟩ => ⟨S32x544, .i32⟩
  | .hbm, ⟨23, _⟩ => ⟨S32x544, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S32x544, .i32⟩
  | .hbm, ⟨28, _⟩ => ⟨S32x544, .i32⟩
  | .hbm, ⟨29, _⟩ => ⟨S_, .i32⟩
  | .hbm, ⟨30, _⟩ => ⟨S32x544, .i32⟩
  | .hbm, ⟨31, _⟩ => ⟨S32x544, .i32⟩
  | .hbm, ⟨32, _⟩ => ⟨S_, .i32⟩
  | .hbm, ⟨33, _⟩ => ⟨S32x544, .i32⟩
  | .hbm, ⟨34, _⟩ => ⟨S32x544, .i32⟩
  | .hbm, ⟨35, _⟩ => ⟨S_, .i32⟩
  | .hbm, ⟨36, _⟩ => ⟨S32x544, .i32⟩
  | .hbm, ⟨37, _⟩ => ⟨S32x544, .i1⟩
  | .hbm, ⟨38, _⟩ => ⟨S_, .i32⟩
  | .hbm, ⟨39, _⟩ => ⟨S32x544, .i32⟩
  | .hbm, ⟨40, _⟩ => ⟨S32x544, .i32⟩
  | .hbm, ⟨41, _⟩ => ⟨S32x544, .i32⟩
  | .hbm, ⟨42, _⟩ => ⟨S32x544x1, .i32⟩
  | .hbm, ⟨43, _⟩ => ⟨S1, .i32⟩
  | .hbm, ⟨44, _⟩ => ⟨S_, .i32⟩
  | .hbm, ⟨45, _⟩ => ⟨S32x544x1, .i32⟩
  | .hbm, ⟨46, _⟩ => ⟨S32x544x1, .i1⟩
  | .hbm, ⟨47, _⟩ => ⟨S1x1x1, .i32⟩
  | .hbm, ⟨48, _⟩ => ⟨S32x544x1, .i32⟩
  | .hbm, ⟨49, _⟩ => ⟨S32x544x1, .i1⟩
  | .hbm, ⟨50, _⟩ => ⟨S32x544x1, .i1⟩
  | .hbm, ⟨51, _⟩ => ⟨S_, .i1⟩
  | .hbm, ⟨52, _⟩ => ⟨S32x544, .i1⟩
  | .hbm, ⟨53, _⟩ => ⟨S8x32x544, .f32⟩
  | .hbm, ⟨54, _⟩ => ⟨S8x32x544, .i1⟩
  | .hbm, ⟨55, _⟩ => ⟨S_, .f32⟩
  | .hbm, ⟨56, _⟩ => ⟨S8x32x544, .f32⟩
  | .hbm, ⟨57, _⟩ => ⟨S8x32x544, .f32⟩
  | .hbm, ⟨58, _⟩ => ⟨S1024x512, .f32⟩
  | .hbm, ⟨59, _⟩ => ⟨S32x32x8x64, .f32⟩
  | .hbm, ⟨60, _⟩ => ⟨S32x8x32x544, .f32⟩
  | .hbm, ⟨61, _⟩ => ⟨S1x8x32x544, .f32⟩
  | .hbm, ⟨62, _⟩ => ⟨S32x8x32x544, .f32⟩
  | .hbm, ⟨63, _⟩ => ⟨S32x8x32x544, .f32⟩
  | .hbm, ⟨64, _⟩ => ⟨S_, .f32⟩
  | .hbm, ⟨65, _⟩ => ⟨S32x8x32, .f32⟩
  | .hbm, ⟨66, _⟩ => ⟨S_, .f32⟩
  | .hbm, ⟨67, _⟩ => ⟨S32x8x32, .f32⟩
  | .hbm, ⟨68, _⟩ => ⟨S32x8x32, .f32⟩
  | .hbm, ⟨69, _⟩ => ⟨S32x8x32x1, .f32⟩
  | .hbm, ⟨70, _⟩ => ⟨S32x8x32x544, .f32⟩
  | .hbm, ⟨71, _⟩ => ⟨S32x8x32x544, .f32⟩
  | .hbm, ⟨72, _⟩ => ⟨S32x8x32x544, .f32⟩
  | .hbm, ⟨73, _⟩ => ⟨S_, .f32⟩
  | .hbm, ⟨74, _⟩ => ⟨S32x8x32, .f32⟩
  | .hbm, ⟨75, _⟩ => ⟨S32x8x32x1, .f32⟩
  | .hbm, ⟨76, _⟩ => ⟨S32x8x32x544, .f32⟩
  | .hbm, ⟨77, _⟩ => ⟨S32x8x32x544, .f32⟩
  | .hbm, ⟨78, _⟩ => ⟨S32x8x64x32, .f32⟩
  | .hbm, ⟨79, _⟩ => ⟨S32x32x8x64, .f32⟩
  | .hbm, ⟨80, _⟩ => ⟨S1024x512, .f32⟩
  | .hbm, ⟨81, _⟩ => ⟨S32x32x512, .f32⟩
  | .hbm, ⟨82, _⟩ => ⟨S32x34x512, .f32⟩
  | .hbm, ⟨83, _⟩ => ⟨S1024x512, .f32⟩
  | .hbm, ⟨84, _⟩ => ⟨S32x32x512, .f32⟩
  | .hbm, ⟨85, _⟩ => ⟨S32x32x512, .f32⟩
  | .hbm, ⟨86, _⟩ => ⟨S1x512, .f32⟩
  | .hbm, ⟨87, _⟩ => ⟨S512, .f32⟩
  | .hbm, ⟨88, _⟩ => ⟨S1x1x512, .f32⟩
  | .hbm, ⟨89, _⟩ => ⟨S32x32x512, .f32⟩
  | .hbm, ⟨90, _⟩ => ⟨S32x32x512, .f32⟩
  | .hbm, ⟨91, _⟩ => ⟨S32x32x512, .f32⟩
  | .hbm, ⟨92, _⟩ => ⟨S1x512, .f32⟩
  | .hbm, ⟨93, _⟩ => ⟨S512, .f32⟩
  | .hbm, ⟨94, _⟩ => ⟨S1x1x512, .f32⟩
  | .hbm, ⟨95, _⟩ => ⟨S32x32x512, .f32⟩
  | .hbm, ⟨96, _⟩ => ⟨S32x32x512, .f32⟩
  | .hbm, ⟨97, _⟩ => ⟨S32x32x512, .f32⟩
  | .hbm, ⟨98, _⟩ => ⟨S32x32x512, .f32⟩
  | .hbm, ⟨99, _⟩ => ⟨S1x512, .f32⟩
  | .hbm, ⟨100, _⟩ => ⟨S512, .f32⟩
  | .hbm, ⟨101, _⟩ => ⟨S1x1x512, .f32⟩
  | .hbm, ⟨102, _⟩ => ⟨S32x32x512, .f32⟩
  | .hbm, ⟨103, _⟩ => ⟨S32x32x512, .f32⟩
  | .hbm, ⟨104, _⟩ => ⟨S32x32x512, .f32⟩
  | .hbm, ⟨105, _⟩ => ⟨S32x32x512, .f32⟩
  | .hbm, ⟨106, _⟩ => ⟨S1024x512, .bf16⟩
  | .hbm, ⟨107, _⟩ => ⟨S1024x512, .f32⟩
  | .hbm, ⟨108, _⟩ => ⟨S1024x512, .bf16⟩
  | .hbm, ⟨109, _⟩ => ⟨S32x2x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst : Ref sig .tc := ⟨.hbm, 64, rfl⟩
abbrev main_v23 : Ref sig .tc := ⟨.hbm, 65, rfl⟩
abbrev main_cst_3 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_4 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩

abbrev nD : Nat := 1
abbrev τ : Topo := Topo.v7x

variable {F : FTy → Type} [FloatOps F]
-- ==== Proof.Reals.lean ====
module
public import Idealize.ShloMosaic.Lib.Pointwise
public import Idealize.ShloMosaic.Lib.IdealHost

/-!
Extended reals that are real numbers, the normalised token and the routing weights, as plain mathematics: nothing here
mentions a program.
-/

@[expose] public section

set_option maxRecDepth 16384

noncomputable section
open Idealize.ShloMosaic

namespace Cert.Layer

/-- The extended real `x` is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A finite sum of reals, read in the extended reals, is the sum there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.ne_bot {x : EReal} (h : IsReal x) : x ≠ ⊥ := by
  obtain ⟨a, rfl⟩ := h; exact EReal.coe_ne_bot a

/-- An extended real whose absolute value is below `+∞` is a real number. -/
theorem isReal_of_abs_lt_top {x : EReal} (h : max x (-x) < ⊤) : IsReal x := by
  induction x using EReal.rec with
  | bot => simp at h
  | top => simp at h
  | coe r => exact ⟨r, rfl⟩

/-- The single-precision word of 1024 is the real number 1024. -/
theorem ofBits_width : Ideal.ofBits .f32 0x44800000#32 = ((1024 : ℝ) : EReal) := by
  simp [Ideal.ofBits, Ideal.ieee, -EReal.coe_mul]; norm_num

/-- The single-precision word of the normalisation's small constant is a positive real number. -/
theorem ofBits_eps : ∃ r : ℝ, 0 < r ∧ Ideal.ofBits .f32 0x358637BD#32 = (r : EReal) := by
  refine ⟨8796093 / 2 ^ 43, by positivity, ?_⟩
  simp [Ideal.ofBits, Ideal.ieee, -EReal.coe_mul]; norm_num

/-- The single-precision word of minus infinity is the least extended real. -/
theorem ofBits_neg_inf : Ideal.ofBits .f32 0xFF800000#32 = (⊥ : EReal) := by
  simp [Ideal.ofBits, Ideal.ieee]

/-- The single-precision word of plus infinity is the greatest extended real. -/
theorem ofBits_pos_inf : Ideal.ofBits .f32 0x7F800000#32 = (⊤ : EReal) := by
  simp [Ideal.ofBits, Ideal.ieee]

/-- A token divided by its root mean square over 1024 channels, times the gain `g`. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- The normalised token of a real token and a real gain is real. -/
theorem normed_real {x g : Fin 1024 → EReal} (hx : ∀ d, IsReal (x d)) (hg : ∀ d, IsReal (g d)) (d : Fin 1024) :
    IsReal (normed x g d) := by
  unfold normed
  refine ((hx d).mul ?_).mul (hg d)
  obtain ⟨e, he, hE⟩ := ofBits_eps
  choose X hX using hx
  have hs : (∑ k, x k * x k) = ((∑ k, X k * X k : ℝ) : EReal) := by
    rw [coe_sum]; exact Finset.sum_congr rfl fun k _ => by rw [hX k, EReal.coe_mul]
  have hn : 0 ≤ ∑ k, X k * X k := Finset.sum_nonneg fun k _ => mul_self_nonneg _
  rw [ofBits_width, hE, hs, Ideal.div_coe (by norm_num), ← EReal.coe_mul, ← EReal.coe_add, Ideal.rsqrt_coe]
  have hp : 0 < (∑ k, X k * X k) * (1 / 1024) + e := by positivity
  rw [if_neg (not_lt.mpr hp.le), if_neg hp.ne']
  exact ⟨_, rfl⟩

/-- The router's logit of expert `e`: the token against the expert's column, plus its bias. -/
def logit (h : Fin 1024 → EReal) (R : Fin 1024 → Fin 8 → EReal) (B : Fin 8 → EReal) (e : Fin 8) : EReal :=
  ∑ k, h k * R k e + B e

theorem logit_real {h : Fin 1024 → EReal} {R : Fin 1024 → Fin 8 → EReal} {B : Fin 8 → EReal} (hh : ∀ k, IsReal (h k))
    (hR : ∀ k e, IsReal (R k e)) (hB : ∀ e, IsReal (B e)) (e : Fin 8) : IsReal (logit h R B e) :=
  (IsReal.sum _ _ fun k => (hh k).mul (hR k e)).add (hB e)

/-! ## The two chosen experts and their weights -/

/-- `a` is the first expert of the greatest logit, `b` the first of the greatest logit among the others. -/
structure Top2 (l : Fin 8 → EReal) (a b : Fin 8) : Prop where
  ne : b ≠ a
  first_le : ∀ e, l e ≤ l a
  first_least : ∀ e, l e = l a → a ≤ e
  second_le : ∀ e, e ≠ a → l e ≤ l b
  second_least : ∀ e, e ≠ a → l e = l b → b ≤ e

/-- In a nonempty set of experts there is a first one of the greatest logit. -/
theorem exists_first_max (l : Fin 8 → EReal) (s : Finset (Fin 8)) (hs : s.Nonempty) :
    ∃ a ∈ s, (∀ e ∈ s, l e ≤ l a) ∧ ∀ e ∈ s, l e = l a → a ≤ e := by
  obtain ⟨m, hm, hmax⟩ := Finset.exists_max_image s l hs
  have hne : (s.filter fun e => l e = l m).Nonempty := ⟨m, Finset.mem_filter.mpr ⟨hm, rfl⟩⟩
  obtain ⟨h1, h2⟩ := Finset.mem_filter.mp (Finset.min'_mem _ hne)
  refine ⟨_, h1, fun e he => (hmax e he).trans_eq h2.symm, fun e he hle => Finset.min'_le _ _ (Finset.mem_filter.mpr ⟨he, hle.trans h2⟩)⟩

/-- Every row of logits has its two chosen experts. -/
theorem exists_top2 (l : Fin 8 → EReal) : ∃ a b, Top2 l a b := by
  obtain ⟨a, -, h1, h2⟩ := exists_first_max l Finset.univ ⟨0, Finset.mem_univ _⟩
  have hne : (Finset.univ.erase a).Nonempty := by
    rw [← Finset.card_pos, Finset.card_erase_of_mem (Finset.mem_univ _)]; decide
  obtain ⟨b, hb, h3, h4⟩ := exists_first_max l (Finset.univ.erase a) hne
  exact ⟨a, b, ⟨Finset.ne_of_mem_erase hb, fun e => h1 e (Finset.mem_univ _), fun e => h2 e (Finset.mem_univ _),
    fun e he => h3 e (Finset.mem_erase.mpr ⟨he, Finset.mem_univ _⟩),
    fun e he => h4 e (Finset.mem_erase.mpr ⟨he, Finset.mem_univ _⟩)⟩⟩

/-- The weight of expert `e` when `a` and `b` are chosen: the softmax of their two logits, taken relative to the first;
    zero for the other six. -/
def weight (l : Fin 8 → EReal) (a b e : Fin 8) : EReal :=
  (if e = a then Ideal.div 1 (1 + Ideal.exp (l b - l a)) else 0)
    + (if e = b then Ideal.div (Ideal.exp (l b - l a)) (1 + Ideal.exp (l b - l a)) else 0)

/-- The exponential of a difference of two real logits is a positive real. -/
theorem exp_sub_pos {x y : EReal} (hx : IsReal x) (hy : IsReal y) : ∃ r : ℝ, 0 < r ∧ Ideal.exp (x - y) = (r : EReal) := by
  obtain ⟨s, hs⟩ := hx.sub hy
  exact ⟨Real.exp s, Real.exp_pos s, by rw [hs, Ideal.exp_coe]⟩

/-- A quotient of a real by a positive real, in the extended reals. -/
theorem div_real {x y : ℝ} (hy : 0 < y) : Ideal.div (x : EReal) (y : EReal) = ((x / y : ℝ) : EReal) := by
  rw [Ideal.div_coe hy.ne', ← EReal.coe_mul, mul_one_div]

/-- A weight is not negative and not `+∞`. -/
theorem weight_nonneg {l : Fin 8 → EReal} (hl : ∀ e, IsReal (l e)) (a b e : Fin 8) :
    0 ≤ weight l a b e ∧ weight l a b e ≠ ⊤ := by
  obtain ⟨r, hr, hE⟩ := exp_sub_pos (hl b) (hl a)
  have h1 : (1 : EReal) + (r : EReal) = ((1 + r : ℝ) : EReal) := by rw [EReal.coe_add, EReal.coe_one]
  have hp : 0 < 1 + r := by positivity
  have key : ∃ s : ℝ, 0 ≤ s ∧ weight l a b e = (s : EReal) := by
    unfold weight
    rw [hE, h1, ← EReal.coe_one, div_real hp, div_real hp]
    refine ⟨(if e = a then 1 / (1 + r) else 0) + (if e = b then r / (1 + r) else 0), by positivity, ?_⟩
    rw [EReal.coe_add]
    congr 1 <;> split_ifs <;> simp
  obtain ⟨s, hs, he⟩ := key
  rw [he]
  exact ⟨EReal.coe_nonneg.mpr hs, EReal.coe_ne_top s⟩

/-! ## One expert -/

/-- The gated activation of an expert at hidden unit `f`: `silu(h·w1) · (h·w3)`. -/
def gated {n : ℕ} (h : Fin 1024 → EReal) (w1 w3 : Fin 1024 → Fin n → EReal) (f : Fin n) : EReal :=
  (∑ k, h k * w1 k f) * Ideal.logistic (∑ k, h k * w1 k f) * ∑ k, h k * w3 k f

/-- The layer's token after the routed experts: the token plus every expert's output times its weight. -/
def routed (x g : Fin 1024 → EReal) (W : Fin 8 → EReal) (w1 w3 : Fin 8 → Fin 1024 → Fin 3584 → EReal)
    (w2 : Fin 8 → Fin 3584 → Fin 1024 → EReal) (d : Fin 1024) : EReal :=
  x d + ∑ e, W e * ∑ f, gated (normed x g) (w1 e) (w3 e) f * w2 e f d

end Cert.Layer
end
-- ==== Proof.Route.lean ====
module
public import proofs.«01_k».proof.Proof.Reals
public import proofs.«01_k».proof.Proof.Gen.MoeIdeal.Skeleton
public import Idealize.ShloMosaic.Lib.SortPrefix
public import Idealize.ShloMosaic.Lib.SortFacts

/-!
The two ways the programs pick the two experts of a token: the kernel's rounds of "greatest lane, first lane that holds
it", and the reference's stable sort.
-/

@[expose] public section

set_option maxRecDepth 16384

noncomputable section
open Idealize.ShloMosaic Idealize.ShloMosaic.TcCoe Idealize.SL.Sem

namespace Cert.Layer

/-! ## Lanes as words -/

/-- Comparing two lane numbers as 32-bit words is comparing the numbers. -/
theorem select_lane {α : Type} (x y : ℕ) (hx : x < 2 ^ 32) (hy : y < 2 ^ 32) (p q : α) :
    Scalar.select (IntOp.cmpi .eq (BitVec.ofNat 32 x) (BitVec.ofNat 32 y)) p q = if x = y then p else q := by
  have h : (BitVec.ofNat 32 x = BitVec.ofNat 32 y) ↔ x = y := by
    constructor
    · intro e
      have := congrArg BitVec.toNat e
      rwa [BitVec.toNat_ofNat, BitVec.toNat_ofNat, Nat.mod_eq_of_lt hx, Nat.mod_eq_of_lt hy] at this
    · rintro rfl; rfl
  by_cases e : x = y
  · rw [if_pos e, e]; simp [Scalar.select, IntOp.cmpi]
  · have : ¬ (BitVec.ofNat 32 x = BitVec.ofNat 32 y) := fun k => e (h.mp k)
    rw [if_neg e]
    show (if BitVec.ofBool (BitVec.ofNat 32 x == BitVec.ofNat 32 y) = 1#1 then p else q) = q
    rw [beq_eq_false_iff_ne.mpr this]; rfl

/-- The signed minimum of two words is the minimum of their values. -/
theorem toInt_minsi (x y : BitVec 32) : (IntOp.minsi x y).toInt = min x.toInt y.toInt := by
  unfold IntOp.minsi
  split_ifs with h
  · rw [BitVec.slt_iff_toInt_lt] at h; rw [min_eq_left h.le]
  · rw [BitVec.slt_iff_toInt_lt] at h; rw [min_eq_right (not_lt.mp h)]

/-- The signed minimum over 128 lanes of "the lane's number where `P` holds, 128 elsewhere" is the first lane of `P`. -/
theorem first_lane (P : Fin 128 → Prop) [DecidablePred P] (a : Fin 128) (ha : P a) (hl : ∀ x, P x → a ≤ x) :
    Finset.fold IntOp.minsi 2147483647#32 (fun x : Fin 128 => if P x then BitVec.ofNat 32 x else 128#32) Finset.univ
      = BitVec.ofNat 32 a := by
  have hv : ∀ x : Fin 128, (BitVec.ofNat 32 x).toInt = (x : ℕ) := fun x => by
    have := x.isLt
    rw [BitVec.toInt_eq_toNat_of_lt (by rw [BitVec.toNat_ofNat]; omega), BitVec.toNat_ofNat, Nat.mod_eq_of_lt (by omega)]
  apply BitVec.eq_of_toInt_eq
  rw [← Finset.fold_hom (op' := min) (fun x y => toInt_minsi x y)]
  apply le_antisymm
  · rw [Finset.fold_min_le]
    exact Or.inr ⟨a, Finset.mem_univ _, by rw [if_pos ha]⟩
  · rw [Finset.le_fold_min]
    have := a.isLt
    refine ⟨by rw [hv]; have : (2147483647#32 : BitVec 32).toInt = 2147483647 := by decide
               omega, fun x _ => ?_⟩
    split_ifs with h
    · rw [hv, hv]; exact_mod_cast hl x h
    · rw [hv]; have : (128#32 : BitVec 32).toInt = 128 := by decide
      omega

/-- The maximum over the lanes from minus infinity, at a lane that is greatest. -/
theorem max_lane (L : Fin 128 → EReal) (a : Fin 128) (h : ∀ x, L x ≤ L a) :
    Finset.fold max (Ideal.ofBits .f32 0xFF800000#32) L Finset.univ = L a := by
  apply le_antisymm
  · rw [Finset.fold_max_le]; exact ⟨by rw [ofBits_neg_inf]; exact bot_le, fun x _ => h x⟩
  · rw [Finset.le_fold_max]; exact Or.inr ⟨a, Finset.mem_univ _, le_rfl⟩

/-! ## The stable sort -/

/-- Sorting an increasing list stably by a relation uses it only on pairs whose second is the smaller. -/
theorem stableSort_congr_of_lt {n : ℕ} (R R' : Fin n → Fin n → Bool) (h : ∀ a b, a < b → R b a = R' b a) :
    ∀ l : List (Fin n), l.Pairwise (· < ·) → stableSort R l = stableSort R' l := by
  intro l
  induction l with
  | nil => intro _; rfl
  | cons a l ih =>
    intro hp
    rw [List.pairwise_cons] at hp
    unfold stableSort
    rw [ih hp.2]
    exact insertBefore_congr R R' a _ fun b hb => h a b (hp.1 b ((perm_stableSort R' l).mem_iff.mp hb))

/-- The first two of eight logits, sorted stably from the greatest, are the two chosen experts. -/
theorem sorted_top2 {l : Fin 8 → EReal} {a b : Fin 8} (T : Top2 l a b) (B : Fin 8 → Fin 8 → Bool)
    (hB : ∀ k k', B k k' = decide (l k' < l k)) : sortedFrom B 0 = a ∧ sortedFrom B 1 = b := by
  classical
  let B' : Fin 8 → Fin 8 → Bool := fun k k' => decide (l k' < l k) || (decide (l k = l k') && decide (k < k'))
  have hS : StrictTotalBefore B' := StrictTotalBefore.of_key_then_position (fun x y : EReal => decide (y < x)) l
    (fun x => by simp) (fun x y z h1 h2 => by
      simp only [decide_eq_true_eq] at h1 h2 ⊢; exact h2.trans h1)
    (fun x y => by
      simp only [decide_eq_true_eq]
      rcases lt_trichotomy x y with h | h | h
      · exact Or.inr (Or.inr h)
      · exact Or.inr (Or.inl h)
      · exact Or.inl h)
  have hpos : sortPositions 8 B = sortPositions 8 B' := by
    unfold sortPositions
    refine stableSort_congr_of_lt B B' (fun x y hxy => ?_) _ ?_
    · rw [hB]; simp [B', not_lt.mpr hxy.le]
    · exact List.pairwise_lt_finRange 8
  have hget : ∀ (u v : List (Fin 8)) (hu : 8 = u.length) (hv : 8 = v.length), u = v →
      ∀ k : Fin 8, u.get (k.cast hu) = v.get (k.cast hv) := by
    rintro u _ hu hv rfl k; rfl
  have hfrom : ∀ k, sortedFrom B k = sortedFrom B' k := fun k => hget _ _ _ _ hpos k
  have key := hS.sortedFrom_eq_of_prefix (k := 2) (by decide) ![a, b] ?_ ?_ ?_
  · rw [hfrom, hfrom]; exact ⟨key 0, key 1⟩
  · intro i j h
    fin_cases i <;> fin_cases j <;> first | rfl | (exact absurd h T.ne.symm) | (exact absurd h T.ne)
  · intro i j hij
    fin_cases i <;> fin_cases j <;> first | (exact absurd hij (by decide)) | skip
    show B' b a = false
    have h1 := T.first_le b
    have h2 := T.first_least b
    simp only [B', Bool.or_eq_false_iff, decide_eq_false_iff_not, Bool.and_eq_false_iff]
    refine ⟨not_lt.mpr h1, ?_⟩
    by_cases e : l b = l a
    · exact Or.inr (not_lt.mpr (h2 e))
    · exact Or.inl e
  · intro i p hp
    have hpa : p ≠ a := fun e => hp 0 e.symm
    have hpb : p ≠ b := fun e => hp 1 e.symm
    have : ∀ q, l p ≤ l q → (l p = l q → q ≤ p) → B' p q = false := fun q h1 h2 => by
      simp only [B', Bool.or_eq_false_iff, decide_eq_false_iff_not, Bool.and_eq_false_iff]
      refine ⟨not_lt.mpr h1, ?_⟩
      by_cases e : l p = l q
      · exact Or.inr (not_lt.mpr (h2 e))
      · exact Or.inl e
    fin_cases i
    · exact this a (T.first_le p) (T.first_least p)
    · exact this b (T.second_le p hpa) (T.second_least p hpa)

end Cert.Layer
end
-- ==== Proof.Body.lean ====
module
public import proofs.«01_k».proof.Proof.Route
public import Idealize.ShloMosaic.Lib.Pointwise

/-!
What the kernel's vector expressions are at one element, in terms of one token's row.
-/

@[expose] public section

set_option maxRecDepth 16384

noncomputable section
open Idealize.ShloMosaic Idealize.ShloMosaic.TcCoe Idealize.SL.Sem

namespace Cert.Layer
open Cert.MoeIdeal Cert.MoeIdeal.Gen

/-- The mask's idealised value is minus infinity. -/
theorem mask_val : (Named.named (F := Ideal) (φ := .f32) κ "mask" 4048155338#32 : EReal) = ⊥ := rfl

/-- The normalised tile at an element. -/
theorem pay2_at (x : FVec Ideal S512x1024 .f32) (g : FVec Ideal S1x1024 .f32) (r : Fin 512) (d : Fin 1024) :
    k0_pay2 (F := Ideal) x g (ix2 r d) = normed (fun k => x (ix2 r k)) (fun k => g (ix2 0 k)) d := by
  unfold normed
  pointwise [k0_pay2]
  try rfl

/-- The tile kept for the experts is the normalised tile. -/
theorem pay3_at (x : FVec Ideal S512x1024 .f32) (g : FVec Ideal S1x1024 .f32) (r : Fin 512) (d : Fin 1024) :
    k0_pay3 (F := Ideal) x g (ix2 r d) = normed (fun k => x (ix2 r k)) (fun k => g (ix2 0 k)) d := by
  rw [← pay2_at]
  pointwise [k0_pay3]

/-- The accumulator starts at the token. -/
theorem pay4_at (x : FVec Ideal S512x1024 .f32) (r : Fin 512) (d : Fin 1024) : k0_pay4 (F := Ideal) x (ix2 r d) = x (ix2 r d) := by
  pointwise [k0_pay4]

/-- A stored accumulator is the vector stored. -/
theorem pay1_at (v : FVec Ideal S512x1024 .f32) (r : Fin 512) (d : Fin 1024) : k0_pay1 (F := Ideal) v (ix2 r d) = v (ix2 r d) := by
  pointwise [k0_pay1]

/-- The 128 lanes of logits: the eight experts' logits, then minus infinity. -/
def lanes (l : Fin 8 → EReal) (x : Fin 128) : EReal := if h : x.val < 8 then l ⟨x, h⟩ else ⊥

/-- The masked logits of a row are the eight experts' logits followed by minus infinity. -/
theorem pay5_at (x : FVec Ideal S512x1024 .f32) (g : FVec Ideal S1x1024 .f32) (R : FVec Ideal S1024x128 .f32)
    (B : FVec Ideal S1x128 .f32) (r : Fin 512) (e : Fin 128) :
    k0_pay5 (F := Ideal) x g R B (ix2 r e) = lanes (logit (normed (fun k => x (ix2 r k)) (fun k => g (ix2 0 k)))
      (fun k e => R (ix2 k (e.castLE (by decide)))) (fun e => B (ix2 0 (e.castLE (by decide))))) e := by
  have h : k0_pay5 (F := Ideal) x g R B (ix2 r e) = Scalar.select (IntOp.cmpi .slt (BitVec.ofNat 32 e) 8#32)
      (∑ k, k0_pay2 (F := Ideal) x g (ix2 r k) * R (ix2 k e) + B (ix2 0 e)) (Named.named (F := Ideal) (φ := .f32) κ "mask" 4048155338#32 : EReal) := by
    pointwise [k0_pay5]
    try rfl
  rw [h, mask_val]
  unfold lanes logit
  have hs : Scalar.select (IntOp.cmpi .slt (BitVec.ofNat 32 e) 8#32)
      (∑ k, k0_pay2 (F := Ideal) x g (ix2 r k) * R (ix2 k e) + B (ix2 0 e)) (⊥ : EReal) = if e.val < 8 then
      (∑ k, k0_pay2 (F := Ideal) x g (ix2 r k) * R (ix2 k e) + B (ix2 0 e)) else ⊥ := by
    generalize (∑ k, k0_pay2 (F := Ideal) x g (ix2 r k) * R (ix2 k e) + B (ix2 0 e)) = z
    have : ∀ e : Fin 128, (BitVec.ofNat 32 e).slt 8#32 = decide (e.val < 8) := by decide
    show (if BitVec.ofBool ((BitVec.ofNat 32 e).slt 8#32) = 1#1 then z else ⊥) = _
    rw [this]
    by_cases h : e.val < 8
    · rw [if_pos h, decide_eq_true h]; rfl
    · rw [if_neg h, decide_eq_false h]; rfl
  rw [hs]
  split_ifs with h8
  · have : (⟨e.val, h8⟩ : Fin 8).castLE (by decide : 8 ≤ 128) = e := rfl
    simp only [this, pay2_at]
  · rfl

/-- The row maximum of the masked logits. -/
theorem pay6_at (x : FVec Ideal S512x1024 .f32) (g : FVec Ideal S1x1024 .f32) (R : FVec Ideal S1024x128 .f32)
    (B : FVec Ideal S1x128 .f32) (r : Fin 512) :
    k0_pay6 (F := Ideal) x g R B (ix2 r 0) = Finset.fold max (Ideal.ofBits .f32 0xFF800000#32) (fun e : Fin 128 => k0_pay5 (F := Ideal) x g R B (ix2 r e)) Finset.univ := by
  pointwise [k0_pay6]
  try rfl

/-- Where the masked logits equal the row maximum. -/
theorem pay7_at (x : FVec Ideal S512x1024 .f32) (g : FVec Ideal S1x1024 .f32) (R : FVec Ideal S1024x128 .f32)
    (B : FVec Ideal S1x128 .f32) (r : Fin 512) (e : Fin 128) :
    k0_pay7 (F := Ideal) x g R B (ix2 r e) = BitVec.ofBool (decide (k0_pay5 (F := Ideal) x g R B (ix2 r e) = k0_pay6 (F := Ideal) x g R B (ix2 r 0))) := by
  rw [pay6_at]
  pointwise [k0_pay7, k0_pay6]
  try rfl

/-- Choosing by a comparison's bit is choosing by the comparison. -/
theorem select_bool {α : Type} (P : Prop) [Decidable P] (p q : α) :
    Scalar.select (BitVec.ofBool (decide P)) p q = if P then p else q := by
  by_cases h : P
  · rw [if_pos h, decide_eq_true h]; rfl
  · rw [if_neg h, decide_eq_false h]; rfl

/-- The greatest lane is the first chosen expert's. -/
theorem lanes_max {l : Fin 8 → EReal} {A B : Fin 8} (T : Top2 l A B) :
    Finset.fold max (Ideal.ofBits .f32 0xFF800000#32) (fun x : Fin 128 => lanes l x) Finset.univ = l A := by
  have hA : lanes l (A.castLE (by decide)) = l A := by unfold lanes; exact dif_pos A.isLt
  rw [max_lane _ (A.castLE (by decide)) ?_, hA]
  intro x
  rw [hA]
  unfold lanes
  split_ifs
  · exact T.first_le _
  · exact bot_le

/-- The combine weights over the lanes: the two rounds of maximum and first lane give the two chosen experts, so the lane
    of expert `e` holds the weight of `e`. -/
theorem pay8_at (a : IVec S512x128 32) (b : FVec Ideal S512x128 .f32) (c : FVec Ideal S512x1 .f32) (d : IVec S512x128 1)
    (r : Fin 512) {l : Fin 8 → EReal} {A B : Fin 8} (hl : ∀ e, IsReal (l e)) (T : Top2 l A B)
    (ha : ∀ x : Fin 128, a (ix2 r x) = BitVec.ofNat 32 x) (hb : ∀ x : Fin 128, b (ix2 r x) = lanes l x)
    (hc : c (ix2 r 0) = l A) (hd : ∀ x : Fin 128, d (ix2 r x) = BitVec.ofBool (decide (lanes l x = l A))) (e : Fin 8) :
    k0_pay8 (F := Ideal) a b c d 128#32 (ix2 r (e.castLE (by decide))) = weight l A B e := by
  let A' : Fin 128 := A.castLE (by decide)
  let B' : Fin 128 := B.castLE (by decide)
  have lane_lt : ∀ x : Fin 128, ∀ h : x.val < 8, lanes l x = l ⟨x, h⟩ := fun x h => by unfold lanes; rw [dif_pos h]
  have lane_ge : ∀ x : Fin 128, ¬ x.val < 8 → lanes l x = ⊥ := fun x h => by unfold lanes; rw [dif_neg h]
  have hA' : lanes l A' = l A := lane_lt A' A.isLt
  have hB' : lanes l B' = l B := lane_lt B' B.isLt
  have I1 : Finset.fold IntOp.minsi 2147483647#32 (fun x : Fin 128 => Scalar.select (d (ix2 r x)) (BitVec.ofNat 32 x.val) 128#32) Finset.univ
      = BitVec.ofNat 32 A' := by
    simp only [hd, select_bool]
    refine first_lane (fun x => lanes l x = l A) A' hA' fun x hx => ?_
    by_cases h : x.val < 8
    · rw [lane_lt x h] at hx; exact T.first_least _ hx
    · rw [lane_ge x h] at hx; exact absurd hx.symm (hl A).ne_bot
  have S2 : ∀ x : Fin 128, Scalar.select (IntOp.cmpi .eq (BitVec.ofNat 32 x.val) (BitVec.ofNat 32 A'.val)) (Named.named (F := Ideal) (φ := .f32) κ "mask" 4048155338#32 : EReal) (b (ix2 r x))
      = if x = A' then ⊥ else lanes l x := fun x => by
    have := x.isLt
    have := A'.isLt
    rw [hb, mask_val, select_lane _ _ (by omega) (by omega)]
    simp only [Fin.ext_iff]
  have hBA : B' ≠ A' := fun h => T.ne (Fin.ext (congrArg (fun z : Fin 128 => z.val) h))
  have M2 : Finset.fold max (Ideal.ofBits .f32 0xFF800000#32) (fun x : Fin 128 => if x = A' then ⊥ else lanes l x) Finset.univ = l B := by
    rw [max_lane _ B' ?_, if_neg hBA, hB']
    intro x
    rw [if_neg hBA, hB']
    split_ifs with h
    · exact bot_le
    · by_cases h8 : x.val < 8
      · rw [lane_lt x h8]; exact T.second_le _ fun e => h (Fin.ext (congrArg (fun z : Fin 8 => z.val) e))
      · rw [lane_ge x h8]; exact bot_le
  have I2 : Finset.fold IntOp.minsi 2147483647#32 (fun x : Fin 128 => if (if x = A' then ⊥ else lanes l x) = l B then BitVec.ofNat 32 x else 128#32) Finset.univ
      = BitVec.ofNat 32 B' := by
    refine first_lane (fun x => (if x = A' then ⊥ else lanes l x) = l B) B' (by rw [if_neg hBA, hB']) fun x hx => ?_
    by_cases h : x = A'
    · rw [if_pos h] at hx; exact absurd hx.symm (hl B).ne_bot
    · rw [if_neg h] at hx
      by_cases h8 : x.val < 8
      · rw [lane_lt x h8] at hx
        exact T.second_least _ (fun e => h (Fin.ext (congrArg (fun z : Fin 8 => z.val) e))) hx
      · rw [lane_ge x h8] at hx; exact absurd hx.symm (hl B).ne_bot
  have he : ∀ (X : Fin 8) (p : EReal), Scalar.select (IntOp.cmpi .eq (BitVec.ofNat 32 (e.castLE (by decide : 8 ≤ 128)).val) (BitVec.ofNat 32 (X.castLE (by decide : 8 ≤ 128)).val)) p 0
      = if e = X then p else 0 := fun X p => by
    have := e.isLt
    have := X.isLt
    rw [select_lane _ _ (by show e.val < _; omega) (by show X.val < _; omega)]
    simp only [Fin.ext_iff]; rfl
  pointwise [k0_pay8]
  simp only [ha, hc]
  simp only [I1, S2, M2, I2]
  unfold weight
  rw [he A, he B]

/-- The accumulator after a point: what it held plus the scale of the point's expert times that half's output. -/
theorem pay9_at (i : grid0.Coords) (h : FVec Ideal S512x1024 .bf16) (w1 w3 : FVec Ideal S1x1024x1792 .bf16) (w2 : FVec Ideal S1x1792x1024 .bf16)
    (cb : FVec Ideal S512x128 .f32) (acc : FVec Ideal S512x1024 .f32) (r : Fin 512) (d : Fin 1024) (e : Fin 8) (he : (i 1).val = e.val) :
    k0_pay9 (F := Ideal) i h w1 w3 w2 cb acc (ix2 r d) = acc (ix2 r d) + cb (ix2 r (e.castLE (by decide))) *
      ∑ f, gated (fun k => h (ix2 r k)) (fun k f => w1 (ix3 0 k f)) (fun k f => w3 (ix3 0 k f)) f * w2 (ix3 0 f d) := by
  have hs : (∑ x : Fin 128, Scalar.select (IntOp.cmpi .eq (BitVec.ofNat 32 x) (BitVec.ofNat 32 (i 1))) (cb (ix2 r x)) (0 : EReal))
      = cb (ix2 r (e.castLE (by decide))) := by
    have h8 := e.isLt
    rw [Finset.sum_congr rfl fun (x : Fin 128) _ => (select_lane x.val (i 1).val (by have := x.isLt; omega) (by omega) (cb (ix2 r x)) (0 : EReal))]
    rw [Finset.sum_eq_single_of_mem (e.castLE (by decide)) (Finset.mem_univ _) fun x _ hx => if_neg fun hxe => hx (Fin.ext (hxe.trans he))]
    exact if_pos he.symm
  unfold gated
  pointwise [k0_pay9]
  rw [hs]
  try rfl

end Cert.Layer
end
-- ==== Proof.State.lean ====
module
public import proofs.«01_k».proof.Proof.Body
public import proofs.«01_k».proof.Proof.Gen.MoeIdeal.Value
public import Idealize.ShloMosaic.Lib.Pipeline.ValueKit
public import Idealize.ShloMosaic.Lib.Pipeline.ReadBack

/-!
What the kernel's pipeline hands each grid point, and what a point leaves for the next.
-/

@[expose] public section

set_option maxRecDepth 16384

noncomputable section
open Idealize.ShloMosaic Idealize.ShloMosaic.TcCoe Idealize.SL.Sem

namespace Cert.Layer
open Cert.MoeIdeal Cert.MoeIdeal.Gen

variable (m : (ℓ : Loc nD τ sig) → Buf (Elt Ideal) ℓ)

/-- The printed index maps, decided over the grid: tile `t / 16`, expert `t / 2 % 8`, half `t % 2`. -/
theorem idx : ∀ t : Fin cfg0.N, win0_0.index t = ![t.val / 16, 0] ∧ win0_1.index t = ![0, 0] ∧ win0_2.index t = ![0, 0] ∧ win0_3.index t = ![0, 0]
   ∧ win0_4.index t = ![t.val / 2 % 8, 0, t.val % 2] ∧ win0_5.index t = ![t.val / 2 % 8, 0, t.val % 2] ∧ win0_6.index t = ![t.val / 2 % 8, t.val % 2, 0]
   ∧ win0_7.index t = ![t.val / 16, 0] ∧ (grid0.coords t 1).val = t.val / 2 % 8 :=
  (by decide +kernel : ∀ t : Fin grid0.N, _)

theorem points (t : Fin cfg0.N) : t.val < 2048 := lt_of_lt_of_eq t.isLt N_0

/-! ## The arguments -/

/-- Token `r` of the first argument. -/
def kTok (c : Dev nD) (r : Fin 65536) (k : Fin 1024) : EReal := m ((c : Thread nD τ).loc main_arg0) (ix2 r k)
/-- The gain. -/
def kGain (c : Dev nD) (k : Fin 1024) : EReal := m ((c : Thread nD τ).loc main_arg1) (ix1 k)
/-- The router's columns. -/
def kCols (c : Dev nD) (k : Fin 1024) (e : Fin 8) : EReal := m ((c : Thread nD τ).loc main_arg2) (ix2 k e)
/-- The router's bias. -/
def kBias (c : Dev nD) (e : Fin 8) : EReal := m ((c : Thread nD τ).loc main_arg3) (ix1 e)
/-- The first projections of the experts. -/
def kUp1 (c : Dev nD) (e : Fin 8) (k : Fin 1024) (f : Fin 3584) : EReal := m ((c : Thread nD τ).loc main_arg4) (ix3 e k f)
/-- The gate projections of the experts. -/
def kUp3 (c : Dev nD) (e : Fin 8) (k : Fin 1024) (f : Fin 3584) : EReal := m ((c : Thread nD τ).loc main_arg5) (ix3 e k f)
/-- The output projections of the experts. -/
def kDown (c : Dev nD) (e : Fin 8) (f : Fin 3584) (d : Fin 1024) : EReal := m ((c : Thread nD τ).loc main_arg6) (ix3 e f d)
/-- The logits of token `r`. -/
def kLogits (c : Dev nD) (r : Fin 65536) : Fin 8 → EReal := logit (normed (kTok m c r) (kGain m c)) (kCols m c) (kBias m c)

/-- Row `r` of tile `q` as a token. -/
def row (q : Fin 128) (r : Fin 512) : Fin 65536 := ⟨512 * q.val + r.val, by have := q.isLt; have := r.isLt; omega⟩
/-- Hidden unit `f` of half `s`. -/
def unit (s : Fin 2) (f : Fin 1792) : Fin 3584 := ⟨1792 * s.val + f.val, by have := s.isLt; have := f.isLt; omega⟩

/-! ## The blocks -/

theorem blk0 (c : Dev nD) (t : Fin cfg0.N) (q : Fin 128) (hq : t.val / 16 = q.val) (r : Fin 512) (k : Fin 1024) :
    (show EReal from iblk m c 0 t (ix2 r k)) = kTok m c (row q r) k := by
  unfold kTok row
  have := points t
  blk_point [iblk, V, idx t, hq]

/-- Padding eight columns to 128 keeps the eight. -/
theorem pad_cols (X : FVec Ideal S1024x8 .f32) (k : Fin 1024) (e : Fin 8) :
    pad S1024x128 ![0, 0] ![0, 120] ![0, 0] X (sitofp (F := Ideal) .f32 (constantI S_ 32 0#32)) pads_S1024x8_S1024x128_000_01200 h_S_
      (ix2 k (e.castLE (by decide))) = X (ix2 k e) := by
  pointwise
  exact dif_pos e.isLt

/-- Padding eight entries to 128 and reading them as one row keeps the eight. -/
theorem pad_bias (X : FVec Ideal S8 .f32) (e : Fin 8) :
    shapeCast S1x128 (pad S128 ![0] ![120] ![0] X (sitofp (F := Ideal) .f32 (constantI S_ 32 0#32)) pads_S8_S128_01200 h_S_)
      shapeCasts_S128_S1x128 (ix2 0 (e.castLE (by decide))) = X (ix1 e) := by
  pointwise
  exact dif_pos e.isLt

/-- The reshaped gain. -/
theorem gain_at (c : Dev nD) (k : Fin 1024) : (show EReal from V m c main_v0 (ix2 0 k)) = kGain m c k := by
  unfold kGain
  show (StableHlo.after [hostOps0, hostOps0_1, hostOps0_2, hostOps0_3, hostOps0_4].flatten (fun b => m (c, b)) (Proc.tc.devRef main_v0) (ix2 0 k)) = _
  simp only [hostOps0, hostOps0_1, hostOps0_2, hostOps0_3, hostOps0_4, List.flatten_cons, List.flatten_nil, List.append_nil, List.cons_append, List.nil_append]
  after_results_simp
  pointwise
  try rfl

/-- The router's columns, padded to 128. -/
theorem cols_at (c : Dev nD) (k : Fin 1024) (e : Fin 8) :
    (show EReal from V m c main_v1 (ix2 k (e.castLE (by decide)))) = kCols m c k e := by
  unfold kCols
  show (StableHlo.after [hostOps0, hostOps0_1, hostOps0_2, hostOps0_3, hostOps0_4].flatten (fun b => m (c, b)) (Proc.tc.devRef main_v1) (ix2 k (e.castLE (by decide)))) = _
  simp only [hostOps0, hostOps0_1, hostOps0_2, hostOps0_3, hostOps0_4, List.flatten_cons, List.flatten_nil, List.append_nil, List.cons_append, List.nil_append]
  after_results_simp
  exact pad_cols (m (c, Proc.tc.devRef main_arg2)) k e

/-- The router's bias, padded to 128. -/
theorem bias_at (c : Dev nD) (e : Fin 8) :
    (show EReal from V m c main_v3 (ix2 0 (e.castLE (by decide)))) = kBias m c e := by
  unfold kBias
  show (StableHlo.after [hostOps0, hostOps0_1, hostOps0_2, hostOps0_3, hostOps0_4].flatten (fun b => m (c, b)) (Proc.tc.devRef main_v3) (ix2 0 (e.castLE (by decide)))) = _
  simp only [hostOps0, hostOps0_1, hostOps0_2, hostOps0_3, hostOps0_4, List.flatten_cons, List.flatten_nil, List.append_nil, List.cons_append, List.nil_append]
  after_results_simp
  exact pad_bias (m (c, Proc.tc.devRef main_arg3)) e

theorem blk1 (c : Dev nD) (t : Fin cfg0.N) (k : Fin 1024) :
    (show EReal from iblk m c 1 t (ix2 0 k)) = kGain m c k := by
  rw [← gain_at]
  have := points t
  blk_ext [iblk, idx t]

theorem blk2 (c : Dev nD) (t : Fin cfg0.N) (k : Fin 1024) (e : Fin 8) :
    (show EReal from iblk m c 2 t (ix2 k (e.castLE (by decide)))) = kCols m c k e := by
  rw [← cols_at]
  have := points t
  blk_ext [iblk, idx t]

theorem blk3 (c : Dev nD) (t : Fin cfg0.N) (e : Fin 8) :
    (show EReal from iblk m c 3 t (ix2 0 (e.castLE (by decide)))) = kBias m c e := by
  rw [← bias_at]
  have := points t
  blk_ext [iblk, idx t]

theorem blk4 (c : Dev nD) (t : Fin cfg0.N) (e : Fin 8) (s : Fin 2) (he : t.val / 2 % 8 = e.val) (hs : t.val % 2 = s.val) (k : Fin 1024) (f : Fin 1792) :
    (show EReal from iblk m c 4 t (ix3 0 k f)) = kUp1 m c e k (unit s f) := by
  unfold kUp1 unit
  have := points t
  blk_point [iblk, V, idx t, he, hs]

theorem blk5 (c : Dev nD) (t : Fin cfg0.N) (e : Fin 8) (s : Fin 2) (he : t.val / 2 % 8 = e.val) (hs : t.val % 2 = s.val) (k : Fin 1024) (f : Fin 1792) :
    (show EReal from iblk m c 5 t (ix3 0 k f)) = kUp3 m c e k (unit s f) := by
  unfold kUp3 unit
  have := points t
  blk_point [iblk, V, idx t, he, hs]

theorem blk6 (c : Dev nD) (t : Fin cfg0.N) (e : Fin 8) (s : Fin 2) (he : t.val / 2 % 8 = e.val) (hs : t.val % 2 = s.val) (f : Fin 1792) (d : Fin 1024) :
    (show EReal from iblk m c 6 t (ix3 0 f d)) = kDown m c e (unit s f) d := by
  unfold kDown unit
  have := points t
  blk_point [iblk, V, idx t, he, hs]

/-! ## What a point leaves -/

/-- The first point of a tile: the normalised tile, the combine weights, and the tile plus the first half-expert. -/
theorem stA (c : Dev nD) (t : Fin cfg0.N) (h0 : t.val % 16 = 0) (h1 : ¬t.val % 16 = 15) :
    (outsAt0 m c t.val t.isLt).2 = (k0_pay3 (iblk m c 0 t) (iblk m c 1 t),
      k0_pay8 (iota Kind.tc S512x128 32 [1] iota_S512x128_d1_w32)
        (k0_pay5 (iblk m c 0 t) (iblk m c 1 t) (iblk m c 2 t) (iblk m c 3 t))
        (k0_pay6 (iblk m c 0 t) (iblk m c 1 t) (iblk m c 2 t) (iblk m c 3 t))
        (k0_pay7 (iblk m c 0 t) (iblk m c 1 t) (iblk m c 2 t) (iblk m c 3 t)) 128#32,
      k0_pay1 (k0_pay9 (grid0.coords t) (k0_pay3 (iblk m c 0 t) (iblk m c 1 t)) (iblk m c 4 t) (iblk m c 5 t) (iblk m c 6 t)
        (k0_pay8 (iota Kind.tc S512x128 32 [1] iota_S512x128_d1_w32)
          (k0_pay5 (iblk m c 0 t) (iblk m c 1 t) (iblk m c 2 t) (iblk m c 3 t))
          (k0_pay6 (iblk m c 0 t) (iblk m c 1 t) (iblk m c 2 t) (iblk m c 3 t))
          (k0_pay7 (iblk m c 0 t) (iblk m c 1 t) (iblk m c 2 t) (iblk m c 3 t)) 128#32)
        (k0_pay4 (iblk m c 0 t)))) := by
  rw [outsAt0_A m c t h0 h1]
  refine Prod.ext ?_ (Prod.ext ?_ ?_)
  all_goals frame_out

/-- The accumulator after a point that starts from what the point before left. -/
def next (c : Dev nD) (t : Fin cfg0.N) : FVec Ideal S512x1024 .f32 :=
  k0_pay1 (F := Ideal) (k0_pay9 (F := Ideal) (grid0.coords t) (outsAt0 m c (t.val - 1) (by have := t.isLt; omega)).2.1 (iblk m c 4 t) (iblk m c 5 t) (iblk m c 6 t)
    (outsAt0 m c (t.val - 1) (by have := t.isLt; omega)).2.2.1 (outsAt0 m c (t.val - 1) (by have := t.isLt; omega)).2.2.2)

/-- A middle point keeps the normalised tile and the weights, and adds its half-expert. -/
theorem stB (c : Dev nD) (t : Fin cfg0.N) (h0 : ¬t.val % 16 = 0) (h1 : ¬t.val % 16 = 15) :
    (outsAt0 m c t.val t.isLt).2 = ((outsAt0 m c (t.val - 1) (by have := t.isLt; omega)).2.1,
      (outsAt0 m c (t.val - 1) (by have := t.isLt; omega)).2.2.1, next m c t) := by
  rw [outsAt0_B m c t h0 h1]
  refine Prod.ext rfl (Prod.ext rfl ?_)
  frame_out
  unfold next
  simp only [read_unread_whole]

/-- The last point of a tile writes the accumulator out. -/
theorem stC (c : Dev nD) (t : Fin cfg0.N) (h0 : ¬t.val % 16 = 0) (h1 : t.val % 16 = 15) :
    (outsAt0 m c t.val t.isLt).1 = next m c t := by
  rw [outsAt0_C m c t h0 h1]
  frame_out
  unfold next
  simp only [read_unread_whole]

end Cert.Layer
end
-- ==== Proof.Final.lean ====
module
public import proofs.«01_k».proof.Proof.State

/-!
The kernel's result at one element: the invariant of a tile's sixteen grid points, and what the last of them writes out.
-/

@[expose] public section

set_option maxRecDepth 16384

noncomputable section
open Idealize.ShloMosaic Idealize.ShloMosaic.TcCoe Idealize.SL.Sem

namespace Cert.Layer
open Cert.MoeIdeal Cert.MoeIdeal.Gen

variable (m : (ℓ : Loc nD τ sig) → Buf (Elt Ideal) ℓ)

/-- One half of one expert's output at a token. -/
def half (c : Dev nD) (R : Fin 65536) (e : Fin 8) (s : Fin 2) (d : Fin 1024) : EReal :=
  ∑ f : Fin 1792, gated (normed (kTok m c R) (kGain m c)) (fun k f => kUp1 m c e k (unit s f)) (fun k f => kUp3 m c e k (unit s f)) f
    * kDown m c e (unit s f) d

/-- What grid point `n` adds to a token: the weight of its expert times its half of the expert's output. -/
def term (c : Dev nD) (R : Fin 65536) (W : Fin 8 → EReal) (d : Fin 1024) (n : ℕ) : EReal :=
  W ⟨n / 2 % 8, Nat.mod_lt _ (by decide)⟩ * half m c R ⟨n / 2 % 8, Nat.mod_lt _ (by decide)⟩ ⟨n % 2, Nat.mod_lt _ (by decide)⟩ d

/-- A point's addition depends on its place in the tile's sixteen points. -/
theorem term_mod (c : Dev nD) (R : Fin 65536) (W : Fin 8 → EReal) (d : Fin 1024) (q p : ℕ) :
    term m c R W d (16 * q + p) = term m c R W d p := by
  unfold term
  have h1 : (16 * q + p) / 2 % 8 = p / 2 % 8 := by omega
  have h2 : (16 * q + p) % 2 = p % 2 := by omega
  simp only [h1, h2]

theorem gated_congr {n : ℕ} {h h' : Fin 1024 → EReal} {w1 w1' w3 w3' : Fin 1024 → Fin n → EReal} (e : h = h') (e1 : w1 = w1') (e3 : w3 = w3')
    (f : Fin n) : gated h w1 w3 f = gated h' w1' w3' f := by rw [e, e1, e3]

/-- The accumulator of a point over any state that holds the normalised token and its weights. -/
theorem step_at (c : Dev nD) (t : Fin cfg0.N) (h : FVec Ideal S512x1024 .bf16) (cb : FVec Ideal S512x128 .f32) (acc : FVec Ideal S512x1024 .f32)
    (R : Fin 65536) (W : Fin 8 → EReal) (r : Fin 512) (d : Fin 1024) (hh : ∀ k, h (ix2 r k) = normed (kTok m c R) (kGain m c) k)
    (hcb : ∀ e : Fin 8, cb (ix2 r (e.castLE (by decide))) = W e) :
    k0_pay1 (F := Ideal) (k0_pay9 (F := Ideal) (grid0.coords t) h (iblk m c 4 t) (iblk m c 5 t) (iblk m c 6 t) cb acc) (ix2 r d)
      = acc (ix2 r d) + term m c R W d t.val := by
  rw [pay1_at]
  refine (pay9_at (grid0.coords t) h (iblk m c 4 t) (iblk m c 5 t) (iblk m c 6 t) cb acc r d ⟨t.val / 2 % 8, Nat.mod_lt _ (by decide)⟩
    (idx t).2.2.2.2.2.2.2.2).trans ?_
  rw [hcb]
  unfold term half
  refine congrArg (fun z => acc (ix2 r d) + W _ * z) (Finset.sum_congr rfl fun f _ => congrArg₂ (fun a b : EReal => a * b) ?_ ?_)
  · exact gated_congr (funext hh) (funext fun k => funext fun f => blk4 m c t _ ⟨t.val % 2, Nat.mod_lt _ (by decide)⟩ rfl rfl k f)
      (funext fun k => funext fun f => blk5 m c t _ ⟨t.val % 2, Nat.mod_lt _ (by decide)⟩ rfl rfl k f) f
  · exact blk6 m c t _ ⟨t.val % 2, Nat.mod_lt _ (by decide)⟩ rfl rfl f d

theorem normed_congr {x x' g g' : Fin 1024 → EReal} (e : x = x') (e' : g = g') (d : Fin 1024) : normed x g d = normed x' g' d := by rw [e, e']

theorem logit_congr {x x' g g' : Fin 1024 → EReal} {R R' : Fin 1024 → Fin 8 → EReal} {B B' : Fin 8 → EReal} (e : x = x') (e' : g = g')
    (e2 : R = R') (e3 : B = B') : logit (normed x g) R B = logit (normed x' g') R' B' := by rw [e, e', e2, e3]

/-- The normalised tile of a point is the normalised tokens of its tile. -/
theorem pay3_row (c : Dev nD) (t : Fin cfg0.N) (q : Fin 128) (hq : t.val / 16 = q.val) (r : Fin 512) (k : Fin 1024) :
    k0_pay3 (F := Ideal) (iblk m c 0 t) (iblk m c 1 t) (ix2 r k) = normed (kTok m c (row q r)) (kGain m c) k := by
  refine (pay3_at (iblk m c 0 t) (iblk m c 1 t) r k).trans ?_
  exact normed_congr (funext fun k => blk0 m c t q hq r k) (funext fun k => blk1 m c t k) k

/-- The masked logits of a point are its tokens' logits, then minus infinity. -/
theorem pay5_row (c : Dev nD) (t : Fin cfg0.N) (q : Fin 128) (hq : t.val / 16 = q.val) (r : Fin 512) (x : Fin 128) :
    k0_pay5 (F := Ideal) (iblk m c 0 t) (iblk m c 1 t) (iblk m c 2 t) (iblk m c 3 t) (ix2 r x) = lanes (kLogits m c (row q r)) x := by
  refine (pay5_at (iblk m c 0 t) (iblk m c 1 t) (iblk m c 2 t) (iblk m c 3 t) r x).trans ?_
  refine congrArg (fun l => lanes l x) ?_
  unfold kLogits
  exact logit_congr (funext fun k => blk0 m c t q hq r k) (funext fun k => blk1 m c t k)
    (funext fun k => funext fun e => blk2 m c t k e) (funext fun e => blk3 m c t e)

/-- The combine weights of a point are its tokens' weights. -/
theorem pay8_row (c : Dev nD) (t : Fin cfg0.N) (q : Fin 128) (hq : t.val / 16 = q.val) (r : Fin 512) {A B : Fin 8}
    (hl : ∀ e, IsReal (kLogits m c (row q r) e)) (T : Top2 (kLogits m c (row q r)) A B) (e : Fin 8) :
    k0_pay8 (F := Ideal) (iota Kind.tc S512x128 32 [1] iota_S512x128_d1_w32)
        (k0_pay5 (iblk m c 0 t) (iblk m c 1 t) (iblk m c 2 t) (iblk m c 3 t))
        (k0_pay6 (iblk m c 0 t) (iblk m c 1 t) (iblk m c 2 t) (iblk m c 3 t))
        (k0_pay7 (iblk m c 0 t) (iblk m c 1 t) (iblk m c 2 t) (iblk m c 3 t)) 128#32 (ix2 r (e.castLE (by decide)))
      = weight (kLogits m c (row q r)) A B e := by
  have h6 : k0_pay6 (F := Ideal) (iblk m c 0 t) (iblk m c 1 t) (iblk m c 2 t) (iblk m c 3 t) (ix2 r 0) = kLogits m c (row q r) A := by
    refine (pay6_at (iblk m c 0 t) (iblk m c 1 t) (iblk m c 2 t) (iblk m c 3 t) r).trans ?_
    rw [← lanes_max T]
    exact congrArg (fun f => Finset.fold max (Ideal.ofBits .f32 0xFF800000#32) f Finset.univ) (funext fun x => pay5_row m c t q hq r x)
  refine pay8_at _ _ _ _ r hl T ?_ (pay5_row m c t q hq r) h6 ?_ e
  · intro x
    pointwise
  · intro x
    refine (pay7_at (iblk m c 0 t) (iblk m c 1 t) (iblk m c 2 t) (iblk m c 3 t) r x).trans ?_
    have h5 := pay5_row m c t q hq r x
    exact congrArg₂ (fun a b : EReal => BitVec.ofBool (decide (a = b))) h5 h6

/-- After `p + 1` of a tile's first fifteen points: the normalised tokens, the weights, and the tokens plus what the points added. -/
theorem inv (c : Dev nD) (q : Fin 128) (r : Fin 512) {A B : Fin 8} (hl : ∀ e, IsReal (kLogits m c (row q r) e))
    (T : Top2 (kLogits m c (row q r)) A B) : ∀ (p : ℕ) (hp : p < 15) (hn : 16 * q.val + p < cfg0.N),
    (∀ k, (outsAt0 m c (16 * q.val + p) hn).2.1 (ix2 r k) = normed (kTok m c (row q r)) (kGain m c) k)
      ∧ (∀ e : Fin 8, (outsAt0 m c (16 * q.val + p) hn).2.2.1 (ix2 r (e.castLE (by decide))) = weight (kLogits m c (row q r)) A B e)
      ∧ ∀ d, (outsAt0 m c (16 * q.val + p) hn).2.2.2 (ix2 r d)
        = kTok m c (row q r) d + ∑ j ∈ Finset.range (p + 1), term m c (row q r) (weight (kLogits m c (row q r)) A B) d j := by
  intro p
  induction p with
  | zero =>
    intro hp hn
    have e : (outsAt0 m c (16 * q.val + 0) hn).2 = _ := stA m c ⟨16 * q.val + 0, hn⟩ (by dsimp only; omega) (by dsimp only; omega)
    have hq : (⟨16 * q.val + 0, hn⟩ : Fin cfg0.N).val / 16 = q.val := by dsimp only; omega
    rw [e]
    refine ⟨fun k => pay3_row m c _ q hq r k, fun x => pay8_row m c _ q hq r hl T x, fun d => ?_⟩
    refine (step_at m c _ _ _ _ (row q r) (weight (kLogits m c (row q r)) A B) r d (fun k => pay3_row m c _ q hq r k)
      (fun x => pay8_row m c _ q hq r hl T x)).trans ?_
    rw [Finset.sum_range_one]
    refine congrArg₂ (fun a b : EReal => a + b) ?_ (term_mod m c _ _ d q.val 0)
    exact (pay4_at (iblk m c 0 _) r d).trans (blk0 m c _ q hq r d)
  | succ p ih =>
    intro hp hn
    obtain ⟨i1, i2, i3⟩ := ih (by omega) (by omega)
    have e : (outsAt0 m c (16 * q.val + (p + 1)) hn).2 = _ := stB m c ⟨16 * q.val + (p + 1), hn⟩ (by dsimp only; omega) (by dsimp only; omega)
    rw [e]
    refine ⟨i1, i2, fun d => ?_⟩
    refine (step_at m c _ _ _ _ (row q r) (weight (kLogits m c (row q r)) A B) r d i1 i2).trans ?_
    rw [Finset.sum_range_succ]
    refine Eq.trans ?_ (add_assoc _ _ _)
    exact congrArg₂ (fun a b : EReal => a + b) (i3 d) (term_mod m c _ _ d q.val (p + 1))

/-- The two halves of an expert are the expert, and eight weighted experts are sixteen weighted halves. -/
theorem sum_terms (c : Dev nD) (R : Fin 65536) (W : Fin 8 → EReal) (hW : ∀ e, 0 ≤ W e ∧ W e ≠ ⊤) (d : Fin 1024) :
    ∑ j ∈ Finset.range 16, term m c R W d j
      = ∑ e, W e * ∑ f, gated (normed (kTok m c R) (kGain m c)) (kUp1 m c e) (kUp3 m c e) f * kDown m c e f d := by
  have hh : ∀ e, ∑ f, gated (normed (kTok m c R) (kGain m c)) (kUp1 m c e) (kUp3 m c e) f * kDown m c e f d
      = half m c R e 0 d + half m c R e 1 d := fun e => by
    rw [Fin.sum_univ_two_halves 1792 1792 rfl]
    unfold half
    refine congrArg₂ (fun a b : EReal => a + b) (Finset.sum_congr rfl fun f _ => ?_) (Finset.sum_congr rfl fun f _ => ?_)
    · have : (⟨f.val, by have := f.isLt; omega⟩ : Fin 3584) = unit 0 f := Fin.ext (by simp [unit])
      simp only [this, gated]
    · have : (⟨1792 + f.val, by have := f.isLt; omega⟩ : Fin 3584) = unit 1 f := Fin.ext (by simp [unit])
      simp only [this, gated]
  have ht : ∀ e : Fin 8, term m c R W d (2 * e.val) + term m c R W d (2 * e.val + 1) = W e * (half m c R e 0 d + half m c R e 1 d) := fun e => by
    have h1 : 2 * e.val / 2 % 8 = e.val := by have := e.isLt; omega
    have h2 : (2 * e.val + 1) / 2 % 8 = e.val := by have := e.isLt; omega
    have h3 : 2 * e.val % 2 = 0 := by omega
    have h4 : (2 * e.val + 1) % 2 = 1 := by omega
    rw [EReal.left_distrib_of_nonneg_of_ne_top (hW e).1 (hW e).2]
    unfold term
    simp only [h1, h2, h3, h4]
    rfl
  simp only [hh]
  rw [Fin.sum_univ_eight, ← ht, ← ht, ← ht, ← ht, ← ht, ← ht, ← ht, ← ht]
  simp only [Finset.sum_range_succ, Finset.sum_range_zero, zero_add, add_assoc]
  rfl

/-- What a tile's last point writes out: the routed experts of its tokens. -/
theorem last_at (c : Dev nD) (q : Fin 128) (r : Fin 512) {A B : Fin 8} (hl : ∀ e, IsReal (kLogits m c (row q r) e))
    (T : Top2 (kLogits m c (row q r)) A B) (d : Fin 1024) : ∀ (n : ℕ) (hn : n < cfg0.N), n = 16 * q.val + 15 →
    (show EReal from (outsAt0 m c n hn).1 (ix2 r d)) = routed (kTok m c (row q r)) (kGain m c) (weight (kLogits m c (row q r)) A B) (kUp1 m c) (kUp3 m c) (kDown m c) d := by
  rintro n hn rfl
  obtain ⟨i1, i2, i3⟩ := inv m c q r hl T 14 (by decide) (by omega)
  have e : (outsAt0 m c (16 * q.val + 15) hn).1 = _ := stC m c ⟨16 * q.val + 15, hn⟩ (by dsimp only; omega) (by dsimp only; omega)
  rw [e]
  refine (step_at m c _ _ _ _ (row q r) (weight (kLogits m c (row q r)) A B) r d i1 i2).trans ?_
  unfold routed
  rw [← sum_terms m c (row q r) _ (weight_nonneg hl A B) d, Finset.sum_range_succ, ← add_assoc]
  exact congrArg₂ (fun a b : EReal => a + b) (i3 d) (term_mod m c _ _ d q.val 15)

/-- The kernel's result at an element. -/
theorem out_at (c : Dev nD) (R : Fin 65536) (d : Fin 1024) {A B : Fin 8} (hl : ∀ e, IsReal (kLogits m c R e))
    (T : Top2 (kLogits m c R) A B) :
    (show EReal from Value.G7 m c (ix2 R d)) = routed (kTok m c R) (kGain m c) (weight (kLogits m c R) A B) (kUp1 m c) (kUp3 m c) (kDown m c) d := by
  have hR := R.isLt
  have hd := d.isLt
  have hrow : R = row ⟨R.val / 512, by omega⟩ ⟨R.val % 512, by omega⟩ := Fin.ext (by simp only [row]; omega)
  have hpt : Value.pt7Of (ix2 R d) = 16 * (R.val / 512) + 15 := by
    show 16 * (1 * (R.val / 512 - 0) + 1 * (d.val / 1024 - 0)) + 15 = _
    omega
  have hN : Value.pt7Of (ix2 R d) < cfg0.N := by rw [hpt, show cfg0.N = 2048 from N_0]; omega
  have hloc : Value.loc7Of (ix2 R d) = ix2 ⟨R.val % 512, by omega⟩ d := by
    funext a
    fin_cases a
    · rfl
    · exact Fin.ext (Nat.mod_eq_of_lt hd)
  show Value.G7 m c (ix2 R d) = _
  unfold Value.G7
  rw [dif_pos hN, ← Value.outsAt0_sweep m c _ hN, hloc]
  rw [hrow] at hl T
  have h := last_at m c ⟨R.val / 512, by omega⟩ ⟨R.val % 512, by omega⟩ hl T d _ hN hpt
  rw [← hrow] at h
  exact h

end Cert.Layer
end
-- ==== Proof.RefRead.lean ====
module
public import proofs.«01_k».proof.Proof.Route
public import proofs.«01_k».proof.Proof.Gen.MoeRefIdeal.Run
public import Idealize.ShloMosaic.Lib.Pointwise

/-!
The reference program's result at one element: the routed experts of one token.
-/

@[expose] public section

set_option maxRecDepth 16384

noncomputable section
open Idealize.ShloMosaic Idealize.ShloMosaic.TcCoe Idealize.SL.Sem Idealize.ShloMosaic.StableHlo

namespace Cert.Layer
open Cert.MoeRefIdeal Cert.MoeRefIdeal.Gen Cert.MoeRefIdeal.Value

/-! ## Sorting and the softmax of two -/

/-- The reference's sorted values and positions: place `k` of a row holds the element, and the position, that the stable
    sort from the greatest puts there. -/
theorem topK_at (v : FVec Ideal S65536x8 .f32) (r : Fin 65536) (k : Fin 2) (l : Fin 8 → EReal) (hl : ∀ e, v (ix2 r e) = l e) :
    (Host.topK S65536x2 1 (FloatOps.cmpfTotal .gt) v sliceFits_S65536x8_S65536x2).1 (ix2 r k)
        = l (sortedFrom (fun p q : Fin 8 => decide (l q < l p)) (k.castLE (by decide)))
      ∧ (Host.topK S65536x2 1 (FloatOps.cmpfTotal .gt) v sliceFits_S65536x8_S65536x2).2 (ix2 r k)
        = BitVec.ofNat 32 (sortedFrom (fun p q : Fin 8 => decide (l q < l p)) (k.castLE (by decide)) : Fin 8).val := by
  have along : ∀ (k e : Fin 8), (ix2 r k : S65536x8.Idx).along 1 e = ix2 r e := fun k e => by
    funext a; fin_cases a <;> rfl
  have hB : (fun p q : Fin 8 => (FloatOps.cmpfTotal (F := Ideal) (φ := .f32) .gt (v (ix2 r p)) (v (ix2 r q)) == 1#1))
      = fun p q : Fin 8 => decide (l q < l p) := by
    funext p q
    rw [hl, hl]
    show (BitVec.ofBool (decide (l q < l p)) == 1#1) = decide (l q < l p)
    generalize decide (l q < l p) = z
    cases z <;> rfl
  have hpos : (sortedFrom (fun p q : Fin 8 => (FloatOps.cmpfTotal (F := Ideal) (φ := .f32) .gt (v ((ix2 r (k.castLE (by decide : 2 ≤ 8)) : S65536x8.Idx).along 1 p))
      (v ((ix2 r (k.castLE (by decide : 2 ≤ 8)) : S65536x8.Idx).along 1 q)) == 1#1)) (k.castLE (by decide)) : Fin 8)
      = sortedFrom (fun p q : Fin 8 => decide (l q < l p)) (k.castLE (by decide)) := by
    simp only [along]
    rw [hB]
  constructor
  · have h : (Host.topK S65536x2 1 (FloatOps.cmpfTotal .gt) v sliceFits_S65536x8_S65536x2).1 (ix2 r k)
        = v ((ix2 r (k.castLE (by decide : 2 ≤ 8)) : S65536x8.Idx).along 1 (sortedFrom (fun p q : Fin 8 => (FloatOps.cmpfTotal (F := Ideal) (φ := .f32) .gt (v ((ix2 r (k.castLE (by decide : 2 ≤ 8)) : S65536x8.Idx).along 1 p))
      (v ((ix2 r (k.castLE (by decide : 2 ≤ 8)) : S65536x8.Idx).along 1 q)) == 1#1)) (k.castLE (by decide)))) := by
      pointwise [Host.topK]
      rfl
    exact h.trans ((congrArg (fun z : Fin 8 => v ((ix2 r (k.castLE (by decide : 2 ≤ 8)) : S65536x8.Idx).along 1 z)) hpos).trans ((congrArg v (along _ _)).trans (hl _)))
  · have h : (Host.topK S65536x2 1 (FloatOps.cmpfTotal .gt) v sliceFits_S65536x8_S65536x2).2 (ix2 r k)
        = BitVec.ofNat 32 (sortedFrom (fun p q : Fin 8 => (FloatOps.cmpfTotal (F := Ideal) (φ := .f32) .gt (v ((ix2 r (k.castLE (by decide : 2 ≤ 8)) : S65536x8.Idx).along 1 p))
      (v ((ix2 r (k.castLE (by decide : 2 ≤ 8)) : S65536x8.Idx).along 1 q)) == 1#1)) (k.castLE (by decide)) : Fin 8).val := by
      pointwise [Host.topK]
      rfl
    exact h.trans (congrArg (fun z : Fin 8 => BitVec.ofNat 32 z.val) hpos)

/-- The maximum of two values from minus infinity. -/
theorem fold_max_two (f : Fin 2 → EReal) :
    Finset.fold max (Ideal.ofBits .f32 0xFF800000#32) f Finset.univ = max (f 0) (f 1) := by
  apply le_antisymm
  · rw [Finset.fold_max_le, ofBits_neg_inf]
    refine ⟨bot_le, fun x _ => ?_⟩
    fin_cases x
    · exact le_max_left _ _
    · exact le_max_right _ _
  · rw [max_le_iff]
    exact ⟨Finset.le_fold_max _ |>.mpr (Or.inr ⟨0, Finset.mem_univ _, le_rfl⟩), Finset.le_fold_max _ |>.mpr (Or.inr ⟨1, Finset.mem_univ _, le_rfl⟩)⟩

/-- The exponentials of a row of two, relative to its maximum. -/
theorem soft_at (v : FVec Ideal S65536x2 .f32) (r : Fin 65536) (k : Fin 2) :
    Host.exp (subf v (broadcastInDim S65536x2 ![0, 1] bcast_S65536x1_S65536x2_0_1 (broadcastInDim S65536x1 ![0] bcast_S65536_S65536x1_0 (maximumf (broadcastInDim S65536 ![] bcast_S_S65536 (constant S_ .f32 0xFF800000#32)) (Host.reduce FloatOps.maximumf v (constant S_ .f32 0xFF800000#32) reducesTo_S65536x2_S65536_d1 h_S_))))) (ix2 r k)
      = Ideal.exp (v (ix2 r k) - max (v (ix2 r 0)) (v (ix2 r 1))) := by
  pointwise
  rw [fold_max_two, ofBits_neg_inf, max_eq_right bot_le]

/-- The combine weight of expert `e`, from the two exponentials and the two positions. -/
theorem comb_at (s : FVec Ideal S65536x2 .f32) (p : IVec S65536x2 32) (r : Fin 65536) (e : Fin 8) :
    Host.dotGeneral dot_S65536x2_S65536x2x8_S65536x8_1_1_n_2_0_0 none (Host.divf s (broadcastInDim S65536x2 ![0, 1] bcast_S65536x1_S65536x2_0_1 (broadcastInDim S65536x1 ![0] bcast_S65536_S65536x1_0 (Host.reduceAdd s (constant S_ .f32 0x00000000#32) reducesTo_S65536x2_S65536_d1 h_S_)))) (uitofp .f32 (cmpi .eq (broadcastInDim S65536x2x8 ![0, 1, 2] bcast_S65536x2x1_S65536x2x8_0_1_2 (broadcastInDim S65536x2x1 ![0, 1] bcast_S65536x2_S65536x2x1_0_1 p)) (broadcastInDim S65536x2x8 ![0, 1, 2] bcast_S1x1x8_S65536x2x8_0_1_2 (iotaInDim S1x1x8 32 2)))) (ix2 r e)
      = ∑ k : Fin 2, Ideal.div (s (ix2 r k)) (∑ j, s (ix2 r j)) * FloatOps.uitofp (F := Ideal) .f32 (IntOp.cmpi .eq (p (ix2 r k)) (BitVec.ofNat 32 e)) := by
  pointwise
  try rfl

/-- A comparison of two lane numbers, as a float. -/
theorem onehot (x y : ℕ) (hx : x < 2 ^ 32) (hy : y < 2 ^ 32) :
    (FloatOps.uitofp (F := Ideal) .f32 (IntOp.cmpi .eq (BitVec.ofNat 32 x) (BitVec.ofNat 32 y)) : EReal) = if y = x then 1 else 0 := by
  have h := select_lane x y hx hy (1 : EReal) 0
  generalize IntOp.cmpi .eq (BitVec.ofNat 32 x) (BitVec.ofNat 32 y) = c at h ⊢
  rw [show (if y = x then (1 : EReal) else 0) = if x = y then 1 else 0 from by simp only [eq_comm], ← h]
  have : c = 0#1 ∨ c = 1#1 := (by decide : ∀ c : BitVec 1, c = 0#1 ∨ c = 1#1) c
  rcases this with rfl | rfl
  · simp [FloatOps.uitofp, Scalar.select]
  · simp [FloatOps.uitofp, Scalar.select]

/-! ## The rows -/

variable (V0 : Valuation τ sig (Elt Ideal))

/-- Token `r` of the first argument. -/
abbrev tok (r : Fin 65536) : Fin 1024 → EReal := fun k => (V0 (Proc.devRef .tc main_arg0) : FVec Ideal S65536x1024 .f32) (ix2 r k)
/-- The gain. -/
abbrev gain : Fin 1024 → EReal := fun k => (V0 (Proc.devRef .tc main_arg1) : FVec Ideal S1024 .f32) (ix1 k)
/-- The router's columns. -/
abbrev cols : Fin 1024 → Fin 8 → EReal := fun k e => (V0 (Proc.devRef .tc main_arg2) : FVec Ideal S1024x8 .f32) (ix2 k e)
/-- The router's bias. -/
abbrev bias : Fin 8 → EReal := fun e => (V0 (Proc.devRef .tc main_arg3) : FVec Ideal S8 .f32) (ix1 e)
/-- The first projections of the experts. -/
abbrev up1 : Fin 8 → Fin 1024 → Fin 3584 → EReal := fun e k f => (V0 (Proc.devRef .tc main_arg4) : FVec Ideal S8x1024x3584 .f32) (ix3 e k f)
/-- The gate projections of the experts. -/
abbrev up3 : Fin 8 → Fin 1024 → Fin 3584 → EReal := fun e k f => (V0 (Proc.devRef .tc main_arg5) : FVec Ideal S8x1024x3584 .f32) (ix3 e k f)
/-- The output projections of the experts. -/
abbrev down : Fin 8 → Fin 3584 → Fin 1024 → EReal := fun e f d => (V0 (Proc.devRef .tc main_arg6) : FVec Ideal S8x3584x1024 .f32) (ix3 e f d)
/-- The logits of token `r`. -/
abbrev logits (r : Fin 65536) : Fin 8 → EReal := logit (normed (tok V0 r) (gain V0)) (cols V0) (bias V0)

theorem v12_at (r : Fin 65536) (d : Fin 1024) : (res_main_v12 V0 : FVec Ideal S65536x1024 .f32) (ix2 r d) = normed (tok V0 r) (gain V0) d := by
  unfold normed
  pointwise [res_main_v12]
  try rfl

theorem v16_at (r : Fin 65536) (e : Fin 8) : (res_main_v16 V0 : FVec Ideal S65536x8 .f32) (ix2 r e) = logits V0 r e := by
  unfold logits logit
  have h : (res_main_v16 V0 : FVec Ideal S65536x8 .f32) (ix2 r e) = ∑ k, (show EReal from res_main_v12 V0 (ix2 r k)) * cols V0 k e + bias V0 e := by
    pointwise [res_main_v16]
    try rfl
  rw [h]
  refine congrArg (· + bias V0 e) (Finset.sum_congr rfl fun k _ => ?_)
  exact congrArg (· * cols V0 k e) (v12_at V0 r k)

/-- The combine weights of a token with real logits are the softmax weights of its two chosen experts. -/
theorem v29_at (r : Fin 65536) (hl : ∀ e, IsReal (logits V0 r e)) {a b : Fin 8} (T : Top2 (logits V0 r) a b) (e : Fin 8) :
    (res_main_v29 V0 : FVec Ideal S65536x8 .f32) (ix2 r e) = weight (logits V0 r) a b e := by
  obtain ⟨s0, s1⟩ := sorted_top2 T (fun p q => decide (logits V0 r q < logits V0 r p)) fun _ _ => rfl
  have t0 := topK_at (res_main_v16 V0) r 0 (logits V0 r) (v16_at V0 r)
  have t1 := topK_at (res_main_v16 V0) r 1 (logits V0 r) (v16_at V0 r)
  rw [show (Fin.castLE (by decide) (0 : Fin 2) : Fin 8) = 0 from rfl, s0] at t0
  rw [show (Fin.castLE (by decide) (1 : Fin 2) : Fin 8) = 1 from rfl, s1] at t1
  have hm : max (logits V0 r a) (logits V0 r b) = logits V0 r a := max_eq_left (T.first_le b)
  have e0 : (show EReal from res_main_v23 V0 (ix2 r 0)) = 1 := by
    refine (soft_at (res_main_values V0) r 0).trans ?_
    unfold res_main_values
    rw [t0.1, t1.1, hm]
    obtain ⟨x, hx⟩ := hl a
    rw [hx, ← EReal.coe_sub, sub_self, Ideal.exp_coe, Real.exp_zero, EReal.coe_one]
  have e1 : (show EReal from res_main_v23 V0 (ix2 r 1)) = Ideal.exp (logits V0 r b - logits V0 r a) := by
    refine (soft_at (res_main_values V0) r 1).trans ?_
    unfold res_main_values
    rw [t0.1, t1.1, hm]
  refine (comb_at (res_main_v23 V0) _ r e).trans ?_
  have ha := a.isLt
  have hb := b.isLt
  have he := e.isLt
  rw [Fin.sum_univ_two, Fin.sum_univ_two]
  rw [show (res_main_v23 V0 : FVec Ideal S65536x2 .f32) (ix2 r 0) = (1 : EReal) from e0]
  rw [show (res_main_v23 V0 : FVec Ideal S65536x2 .f32) (ix2 r 1) = (_ : EReal) from e1]
  rw [t0.2, t1.2, onehot _ _ (by omega) (by omega), onehot _ _ (by omega) (by omega)]
  unfold weight
  simp only [Fin.ext_iff, mul_ite, mul_one, mul_zero]

end Cert.Layer
end
-- ==== Proof.RefResult.lean ====
module
public import proofs.«01_k».proof.Proof.RefRead

/-!
The reference program's whole result at one element.
-/

@[expose] public section

set_option maxRecDepth 16384

noncomputable section
open Idealize.ShloMosaic Idealize.ShloMosaic.TcCoe Idealize.SL.Sem Idealize.ShloMosaic.StableHlo

namespace Cert.Layer
open Cert.MoeRefIdeal Cert.MoeRefIdeal.Gen Cert.MoeRefIdeal.Value

variable (V0 : Valuation τ sig (Elt Ideal))

/-- The reference's combine weight of a token and an expert. -/
def refW (r : Fin 65536) (e : Fin 8) : EReal := res_main_v29 V0 (ix2 r e)
/-- The reference's normalised token. -/
def refH (r : Fin 65536) (k : Fin 1024) : EReal := res_main_v12 V0 (ix2 r k)

/-- One expert's output at a token of the reference. -/
def refE (r : Fin 65536) (d : Fin 1024) (e : Fin 8) : EReal := ∑ f, gated (refH V0 r) (up1 V0 e) (up3 V0 e) f * down V0 e f d

/-- The sum of the first five experts. -/
theorem v103_at (r : Fin 65536) (d : Fin 1024) : (res_main_v103 V0 : FVec Ideal S65536x1024 .f32) (ix2 r d)
    = refW V0 r 0 * refE V0 r d 0 + refW V0 r 1 * refE V0 r d 1 + refW V0 r 2 * refE V0 r d 2 + refW V0 r 3 * refE V0 r d 3
      + refW V0 r 4 * refE V0 r d 4 := by
  unfold refE gated
  pointwise [res_main_v103, res_main_v37, res_main_v51, res_main_v66, res_main_v81, res_main_v96]
  try rfl

/-- The reference's result: the token plus the eight weighted experts. -/
theorem v149_at (r : Fin 65536) (d : Fin 1024) : (val3 V0 (Proc.devRef .tc main_v149) : FVec Ideal S65536x1024 .f32) (ix2 r d)
    = tok V0 r d + ∑ e, refW V0 r e * refE V0 r d e := by
  rw [Fin.sum_univ_eight, val3_main_v149]
  have h := v103_at V0 r d
  refine Eq.trans ?_ (congrArg (fun z : EReal => tok V0 r d + (z + refW V0 r 5 * refE V0 r d 5 + refW V0 r 6 * refE V0 r d 6 + refW V0 r 7 * refE V0 r d 7)) h)
  unfold refE gated
  pointwise [res_main_v111, res_main_v126, res_main_v141]
  try rfl

/-- The reference's result in the layer's own words, for a token with real logits. -/
theorem result_at (r : Fin 65536) (d : Fin 1024) (hl : ∀ e, IsReal (logits V0 r e)) {a b : Fin 8} (T : Top2 (logits V0 r) a b) :
    (val3 V0 (Proc.devRef .tc main_v149) : FVec Ideal S65536x1024 .f32) (ix2 r d)
      = routed (tok V0 r) (gain V0) (weight (logits V0 r) a b) (up1 V0) (up3 V0) (down V0) d := by
  rw [v149_at]
  have hH : refH V0 r = normed (tok V0 r) (gain V0) := funext fun k => v12_at V0 r k
  have hW : refW V0 r = weight (logits V0 r) a b := funext fun e => v29_at V0 r hl T e
  unfold routed refE
  rw [hH, hW]

end Cert.Layer
end
-- ==== Proof.Claims.lean ====
module
public import proofs.«01_k».proof.Defs
public import proofs.«01_k».proof.Proof.Final
public import proofs.«01_k».proof.Proof.RefResult
public import proofs.«01_k».proof.Proof.Gen.Moe.Frame
public import Idealize.ShloMosaic.Lib.Quiescent
public import Idealize.ShloMosaic.Adequacy
public import Idealize.ShloMosaic.Init

/-!
The claims about the routed experts' call.
-/

@[expose] public section

set_option maxRecDepth 16384

noncomputable section
open Idealize.ShloMosaic Idealize.ShloMosaic.TcCoe Idealize.SL.Sem

namespace Cert.Proof.MoeClaims
open Cert.Layer

/-- The precondition's side conditions hold. -/
theorem preFacts : Cert.Pre_tokens_and_router_finite.Facts :=
  ⟨by decide, by decide, by decide, by decide⟩

theorem frame_p : Cert.quiescent_Moe := fun m ρ _ => Cert.Moe.Gen.frame m ρ
theorem frame_pi : Cert.quiescent_MoeIdeal := fun m ρ _ => Cert.MoeIdeal.Gen.frame m ρ
theorem frame_pi_pre [Cert.Pre_tokens_and_router_finite.Facts] : Cert.quiescent_MoeIdeal_pre_tokens_and_router_finite :=
  fun m ρ _ => Cert.MoeIdeal.Gen.frame m ρ
theorem frame_ri : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)
theorem frame_ri_pre [Cert.Pre_tokens_and_router_finite.Facts] : Cert.quiescent_MoeRefIdeal_pre_tokens_and_router_finite :=
  fun m ρ _ => frame_ri m ρ trivial

/-- The mask's name has the value minus infinity. -/
theorem preserves : Cert.preserves_Moe_MoeIdeal :=
  IdealRules.named_const.statement Cert.MoeIdeal.κ "mask" .f32 0xF149F2CA#32 ⊥ rfl

/-- An array whose absolute values lie below plus infinity is an array of reals. -/
theorem reals_of_lt {S : Shape} (X : FVec Ideal S .f32) (hb : Cert.Pre_tokens_and_router_finite.S_.BroadcastsInDim S (![] : Fin 0 → Fin S.rank))
    (h : cmpf .olt (Host.absf X) (broadcastInDim S ![] hb (constant Cert.Pre_tokens_and_router_finite.S_ .f32 0x7F800000#32)) = fun _ => 1#1)
    (i : S.Idx) : IsReal (X i) := by
  have hi := congrFun h i
  have hd : BitVec.ofBool (decide (max (X i : EReal) (-(X i)) < Ideal.ofBits .f32 0x7F800000#32)) = 1#1 := hi
  rw [ofBits_pos_inf] at hd
  refine isReal_of_abs_lt_top (of_decide_eq_true ?_)
  generalize decide (max (X i : EReal) (-(X i)) < ⊤) = z at hd
  revert hd
  cases z
  · intro h; exact absurd h (by decide)
  · intro _; rfl

/-- Under the precondition every logit is real. -/
theorem logits_real [Cert.Pre_tokens_and_router_finite.Facts] (m : (ℓ : Loc Cert.MoeIdeal.nD Cert.MoeIdeal.τ Cert.MoeIdeal.sig) → Buf (Elt Ideal) ℓ)
    (hp : Cert.Pre_MoeIdeal_tokens_and_router_finite m) (c : Dev Cert.MoeIdeal.nD) (R : Fin 65536) (e : Fin 8) : IsReal (kLogits m c R e) := by
  obtain ⟨p0, p1, p2, p3⟩ := hp c
  refine logit_real (fun k => normed_real (fun d => ?_) (fun d => ?_) k) (fun k e => ?_) (fun e => ?_) e
  · exact reals_of_lt _ _ p0 _
  · exact reals_of_lt _ _ p1 _
  · exact reals_of_lt _ _ p2 _
  · exact reals_of_lt _ _ p3 _

/-- At the extended reals the kernel and the reference end with the same array: the routed experts of every token. -/
theorem algebraic [Cert.Pre_tokens_and_router_finite.Facts] : Cert.algebraic_MoeIdeal_MoeRefIdeal_pre_tokens_and_router_finite := by
  intro m ρ m' ρ' hp hagree
  refine ⟨_, Cert.MoeIdeal.Value.run (F := Ideal) m ρ, ?_⟩
  refine (θ_run Cert.MoeRefIdeal.defs _ _).mono (fun _ h c => ⟨(h c).1.trans ?_, (h c).2⟩)
    (Cert.MoeRefIdeal.Value.run (F := Ideal) m' ρ')
  refine (Cert.MoeRefIdeal.Value.val3_main_v149 (StableHlo.launchContents m' c)).symm.trans ?_
  obtain ⟨a0, a1, a2, a3, a4, a5, a6⟩ := hagree c
  have e0 : ∀ R, tok (StableHlo.launchContents m' c) R = kTok m c R := fun R => funext fun k => congrFun a0 (ix2 R k)
  have e1 : gain (StableHlo.launchContents m' c) = kGain m c := funext fun k => congrFun a1 (ix1 k)
  have e2 : cols (StableHlo.launchContents m' c) = kCols m c := funext fun k => funext fun e => congrFun a2 (ix2 k e)
  have e3 : bias (StableHlo.launchContents m' c) = kBias m c := funext fun e => congrFun a3 (ix1 e)
  have e4 : up1 (StableHlo.launchContents m' c) = kUp1 m c := funext fun e => funext fun k => funext fun f => congrFun a4 (ix3 e k f)
  have e5 : up3 (StableHlo.launchContents m' c) = kUp3 m c := funext fun e => funext fun k => funext fun f => congrFun a5 (ix3 e k f)
  have e6 : down (StableHlo.launchContents m' c) = kDown m c := funext fun e => funext fun f => funext fun d => congrFun a6 (ix3 e f d)
  have el : ∀ R, logits (StableHlo.launchContents m' c) R = kLogits m c R := fun R => by
    unfold logits kLogits
    rw [e0, e1, e2, e3]
  have key : ∀ (R : Fin 65536) (d : Fin 1024),
      (Cert.MoeRefIdeal.Value.val3 (StableHlo.launchContents m' c) (Proc.devRef .tc Cert.MoeRefIdeal.main_v149) : FVec Ideal Cert.MoeRefIdeal.S65536x1024 .f32) (ix2 R d)
        = (Cert.MoeIdeal.Value.G7 m c : FVec Ideal Cert.MoeRefIdeal.S65536x1024 .f32) (ix2 R d) := fun R d => by
    obtain ⟨A, B, T⟩ := exists_top2 (kLogits m c R)
    have hl := logits_real m hp c R
    have hr := result_at (StableHlo.launchContents m' c) R d (by rw [el]; exact hl) (a := A) (b := B) (by rw [el]; exact T)
    rw [el, e0, e1, e4, e5, e6] at hr
    exact hr.trans (out_at m c R d hl T).symm
  funext i
  have hi : i = ix2 (i 0) (i 1) := by funext a; fin_cases a <;> rfl
  rw [hi]
  exact key _ _

end Cert.Proof.MoeClaims
end
-- ==== Proof.Ffn.lean ====
module
public import proofs.«01_k».proof.Proof.Gen.FfnIdeal.Value
public import proofs.«01_k».proof.Proof.Reals
public import Idealize.ShloMosaic.Lib.Pipeline.ValueKit
public import Idealize.ShloMosaic.Lib.Pipeline.ReadBack

/-!
The dense feed-forward: the kernel's array, row by row.
-/

@[expose] public section

set_option maxRecDepth 16384

noncomputable section
open Idealize.ShloMosaic Idealize.ShloMosaic.TcCoe Idealize.SL.Sem

namespace Cert.Layer.Ffn
open Cert.FfnIdeal Cert.FfnIdeal.Gen

variable (m : (ℓ : Loc nD τ sig) → Buf (Elt Ideal) ℓ)

/-- The printed index maps, decided over the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem points (t : Fin cfg0.N) : t.val < 128 := lt_of_lt_of_eq t.isLt N_0

/-- Row `r` of tile `t` as a token. -/
def row (t : Fin cfg0.N) (r : Fin 512) : Fin 65536 := ⟨512 * t.val + r.val, by have := points t; have := r.isLt; omega⟩

/-- Every token is a row of a tile. -/
theorem exists_row (R : Fin 65536) : ∃ t r, R = row t r :=
  ⟨⟨R.val / 512, by have := R.isLt; rw [show cfg0.N = 128 from N_0]; omega⟩, ⟨R.val % 512, by omega⟩, Fin.ext (by show R.val = 512 * (R.val / 512) + R.val % 512; omega)⟩

/-! ## The arguments -/

/-- Token `r` of the first argument. -/
def kTok (c : Dev nD) (r : Fin 65536) (k : Fin 1024) : EReal := m ((c : Thread nD τ).loc main_arg0) (ix2 r k)
/-- The gain. -/
def kGain (c : Dev nD) (k : Fin 1024) : EReal := m ((c : Thread nD τ).loc main_arg1) (ix1 k)
/-- The first projection. -/
def kUp1 (c : Dev nD) (k : Fin 1024) (f : Fin 2816) : EReal := m ((c : Thread nD τ).loc main_arg2) (ix2 k f)
/-- The gate projection. -/
def kUp3 (c : Dev nD) (k : Fin 1024) (f : Fin 2816) : EReal := m ((c : Thread nD τ).loc main_arg3) (ix2 k f)
/-- The output projection. -/
def kDown (c : Dev nD) (f : Fin 2816) (d : Fin 1024) : EReal := m ((c : Thread nD τ).loc main_arg4) (ix2 f d)

/-- The token after the feed-forward: the token plus its gated hidden units through the output projection. -/
def fed {n : ℕ} (x g : Fin 1024 → EReal) (w1 w3 : Fin 1024 → Fin n → EReal) (w2 : Fin n → Fin 1024 → EReal) (d : Fin 1024) : EReal :=
  x d + ∑ f, gated (normed x g) w1 w3 f * w2 f d

/-! ## The blocks -/

theorem blk0 (c : Dev nD) (t : Fin cfg0.N) (r : Fin 512) (k : Fin 1024) :
    (show EReal from iblk m c 0 t (ix2 r k)) = kTok m c (row t r) k := by
  unfold kTok row
  have := points t
  blk_point [iblk, V, idx t]

/-- The reshaped gain. -/
theorem gain_at (c : Dev nD) (k : Fin 1024) : (show EReal from V m c main_v0 (ix2 0 k)) = kGain m c k := by
  unfold kGain
  show (StableHlo.after [hostOps0].flatten (fun b => m (c, b)) (Proc.tc.devRef main_v0) (ix2 0 k)) = _
  simp only [hostOps0, List.flatten_cons, List.flatten_nil, List.append_nil, List.cons_append, List.nil_append]
  after_results_simp
  pointwise
  try rfl

/-- The first projection, cast. -/
theorem up1_at (c : Dev nD) (k : Fin 1024) (f : Fin 2816) : (show EReal from V m c main_v1 (ix2 k f)) = kUp1 m c k f := by
  unfold kUp1
  show (StableHlo.after [hostOps0].flatten (fun b => m (c, b)) (Proc.tc.devRef main_v1) (ix2 k f)) = _
  simp only [hostOps0, List.flatten_cons, List.flatten_nil, List.append_nil, List.cons_append, List.nil_append]
  after_results_simp
  pointwise
  try rfl

/-- The gate projection, cast. -/
theorem up3_at (c : Dev nD) (k : Fin 1024) (f : Fin 2816) : (show EReal from V m c main_v2 (ix2 k f)) = kUp3 m c k f := by
  unfold kUp3
  show (StableHlo.after [hostOps0].flatten (fun b => m (c, b)) (Proc.tc.devRef main_v2) (ix2 k f)) = _
  simp only [hostOps0, List.flatten_cons, List.flatten_nil, List.append_nil, List.cons_append, List.nil_append]
  after_results_simp
  pointwise
  try rfl

/-- The output projection, cast. -/
theorem down_at (c : Dev nD) (f : Fin 2816) (d : Fin 1024) : (show EReal from V m c main_v3 (ix2 f d)) = kDown m c f d := by
  unfold kDown
  show (StableHlo.after [hostOps0].flatten (fun b => m (c, b)) (Proc.tc.devRef main_v3) (ix2 f d)) = _
  simp only [hostOps0, List.flatten_cons, List.flatten_nil, List.append_nil, List.cons_append, List.nil_append]
  after_results_simp
  pointwise
  try rfl

theorem blk1 (c : Dev nD) (t : Fin cfg0.N) (k : Fin 1024) :
    (show EReal from iblk m c 1 t (ix2 0 k)) = kGain m c k := by
  rw [← gain_at]
  have := points t
  blk_ext [iblk, idx t]

theorem blk2 (c : Dev nD) (t : Fin cfg0.N) (k : Fin 1024) (f : Fin 2816) :
    (show EReal from iblk m c 2 t (ix2 k f)) = kUp1 m c k f := by
  rw [← up1_at]
  have := points t
  blk_ext [iblk, idx t]

theorem blk3 (c : Dev nD) (t : Fin cfg0.N) (k : Fin 1024) (f : Fin 2816) :
    (show EReal from iblk m c 3 t (ix2 k f)) = kUp3 m c k f := by
  rw [← up3_at]
  have := points t
  blk_ext [iblk, idx t]

theorem blk4 (c : Dev nD) (t : Fin cfg0.N) (f : Fin 2816) (d : Fin 1024) :
    (show EReal from iblk m c 4 t (ix2 f d)) = kDown m c f d := by
  rw [← down_at]
  have := points t
  blk_ext [iblk, idx t]

/-! ## The body -/

/-- The normalised tile at an element. -/
theorem pay2_at (x : FVec Ideal S512x1024 .f32) (g : FVec Ideal S1x1024 .f32) (r : Fin 512) (d : Fin 1024) :
    k0_pay2 (F := Ideal) x g (ix2 r d) = normed (fun k => x (ix2 r k)) (fun k => g (ix2 0 k)) d := by
  unfold normed
  pointwise [k0_pay2]
  try rfl

/-- The token plus the first 1280 hidden units. -/
theorem pay3_at (x : FVec Ideal S512x1024 .f32) (g : FVec Ideal S1x1024 .f32) (w1 w3 : FVec Ideal S1024x1280 .bf16) (w2 : FVec Ideal S1280x1024 .bf16)
    (r : Fin 512) (d : Fin 1024) :
    k0_pay3 (F := Ideal) x g w1 w3 w2 (ix2 r d) = x (ix2 r d) + ∑ f, gated (fun k => k0_pay2 (F := Ideal) x g (ix2 r k))
      (fun k f => w1 (ix2 k f)) (fun k f => w3 (ix2 k f)) f * w2 (ix2 f d) := by
  unfold gated
  pointwise [k0_pay3]
  try rfl

/-- The last 1536 hidden units, added to what came before. -/
theorem pay1_at (y : FVec Ideal S512x1024 .f32) (x : FVec Ideal S512x1024 .f32) (g : FVec Ideal S1x1024 .f32) (w1 w3 : FVec Ideal S1024x1536 .bf16) (w2 : FVec Ideal S1536x1024 .bf16)
    (r : Fin 512) (d : Fin 1024) :
    k0_pay1 (F := Ideal) y (k0_pay4 (F := Ideal) x g w1) (k0_pay5 (F := Ideal) x g w3) (k0_pay6 (F := Ideal) x g w1) w2 (ix2 r d)
      = y (ix2 r d) + ∑ f, gated (fun k => k0_pay2 (F := Ideal) x g (ix2 r k))
      (fun k f => w1 (ix2 k f)) (fun k f => w3 (ix2 k f)) f * w2 (ix2 f d) := by
  unfold gated
  pointwise [k0_pay1, k0_pay4, k0_pay5, k0_pay6]
  try rfl

/-- A sum over the 2816 hidden units is the sum over the first 1280 and the last 1536. -/
theorem sum_split (f : Fin 2816 → EReal) :
    ∑ i, f i = ∑ i : Fin 1280, f ⟨i.val, by have := i.isLt; omega⟩ + ∑ i : Fin 1536, f ⟨1280 + i.val, by have := i.isLt; omega⟩ :=
  Fin.sum_univ_add (a := 1280) (b := 1536) f

/-- What the body leaves at an element of its tile. -/
theorem body_at (x : FVec Ideal S512x1024 .f32) (g : FVec Ideal S1x1024 .f32) (w1 w3 : FVec Ideal S1024x2816 .bf16) (w2 : FVec Ideal S2816x1024 .bf16)
    (r : Fin 512) (d : Fin 1024) :
    out0_5 (F := Ideal) x g w1 w3 w2 (ix2 r d) = fed (fun k => x (ix2 r k)) (fun k => g (ix2 0 k)) (fun k f => w1 (ix2 k f)) (fun k f => w3 (ix2 k f))
      (fun f d => w2 (ix2 f d)) d := by
  have h : out0_5 (F := Ideal) x g w1 w3 w2 = k0_pay1 (F := Ideal) (k0_pay3 (F := Ideal) x g (View.ld w1 r0_2) (View.ld w3 r0_2) (View.ld w2 r0_3))
      (k0_pay4 (F := Ideal) x g (View.ld w1 r0_4)) (k0_pay5 (F := Ideal) x g (View.ld w3 r0_4)) (k0_pay6 (F := Ideal) x g (View.ld w1 r0_4)) (View.ld w2 r0_5) := by
    frame_out
  refine (congrFun h (ix2 r d)).trans ((pay1_at _ x g _ _ _ r d).trans ?_)
  rw [pay3_at]
  unfold fed
  rw [sum_split, ← add_assoc]
  simp only [pay2_at]
  have e1 : ∀ (k : Fin 1024) (f : Fin 1280), r0_2.idx (ix2 k f : S1024x1280.Idx) = ix2 k ⟨f.val, by have := f.isLt; omega⟩ := fun k f => by
    funext a; apply Fin.ext; fin_cases a
    · show 0 + 1 * k.val = k.val; omega
    · show 0 + 1 * f.val = f.val; omega
  have e2 : ∀ (k : Fin 1024) (f : Fin 1536), r0_4.idx (ix2 k f : S1024x1536.Idx) = ix2 k ⟨1280 + f.val, by have := f.isLt; omega⟩ := fun k f => by
    funext a; apply Fin.ext; fin_cases a
    · show 0 + 1 * k.val = k.val; omega
    · show 1280 + 1 * f.val = 1280 + f.val; omega
  have e3 : ∀ (f : Fin 1280) (d : Fin 1024), r0_3.idx (ix2 f d : S1280x1024.Idx) = ix2 ⟨f.val, by have := f.isLt; omega⟩ d := fun f d => by
    funext a; apply Fin.ext; fin_cases a
    · show 0 + 1 * f.val = f.val; omega
    · show 0 + 1 * d.val = d.val; omega
  have e4 : ∀ (f : Fin 1536) (d : Fin 1024), r0_5.idx (ix2 f d : S1536x1024.Idx) = ix2 ⟨1280 + f.val, by have := f.isLt; omega⟩ d := fun f d => by
    funext a; apply Fin.ext; fin_cases a
    · show 1280 + 1 * f.val = 1280 + f.val; omega
    · show 0 + 1 * d.val = d.val; omega
  have l1 : ∀ (w : Vec Ideal S1024x2816 .bf16) (k : Fin 1024) (f : Fin 1280), View.ld w r0_2 (ix2 k f : S1024x1280.Idx) = w (ix2 k ⟨f.val, by have := f.isLt; omega⟩) := fun w k f => congrArg w (e1 k f)
  have l2 : ∀ (w : Vec Ideal S1024x2816 .bf16) (k : Fin 1024) (f : Fin 1536), View.ld w r0_4 (ix2 k f : S1024x1536.Idx) = w (ix2 k ⟨1280 + f.val, by have := f.isLt; omega⟩) := fun w k f => congrArg w (e2 k f)
  have l3 : ∀ (w : Vec Ideal S2816x1024 .bf16) (f : Fin 1280) (d : Fin 1024), View.ld w r0_3 (ix2 f d : S1280x1024.Idx) = w (ix2 ⟨f.val, by have := f.isLt; omega⟩ d) := fun w f d => congrArg w (e3 f d)
  have l4 : ∀ (w : Vec Ideal S2816x1024 .bf16) (f : Fin 1536) (d : Fin 1024), View.ld w r0_5 (ix2 f d : S1536x1024.Idx) = w (ix2 ⟨1280 + f.val, by have := f.isLt; omega⟩ d) := fun w f d => congrArg w (e4 f d)
  unfold gated
  refine congrArg₂ (· + ·) (congrArg (x (ix2 r d) + ·) (Finset.sum_congr rfl fun f _ => congrArg₂ (· * ·) ?_ (l3 w2 f d)))
    (Finset.sum_congr rfl fun f _ => congrArg₂ (· * ·) ?_ (l4 w2 f d))
  · exact congrArg₂ (· * ·) (congrArg (fun a => a * Ideal.logistic a) (Finset.sum_congr rfl fun k _ => congrArg (normed (fun k => x (ix2 r k)) (fun k => g (ix2 0 k)) k * ·) (l1 w1 k f)))
      (Finset.sum_congr rfl fun k _ => congrArg (normed (fun k => x (ix2 r k)) (fun k => g (ix2 0 k)) k * ·) (l1 w3 k f))
  · exact congrArg₂ (· * ·) (congrArg (fun a => a * Ideal.logistic a) (Finset.sum_congr rfl fun k _ => congrArg (normed (fun k => x (ix2 r k)) (fun k => g (ix2 0 k)) k * ·) (l2 w1 k f)))
      (Finset.sum_congr rfl fun k _ => congrArg (normed (fun k => x (ix2 r k)) (fun k => g (ix2 0 k)) k * ·) (l2 w3 k f))

/-! ## The array -/

/-- A row of the final array is the row its tile wrote. -/
theorem arr_at (c : Dev nD) (t : Fin cfg0.N) (r : Fin 512) (d : Fin 1024) :
    (show EReal from (dats m 0 c).arrAt 5 cfg0.N (ix2 (row t r) d))
      = out0_5 (F := Ideal) (iblk m c 0 t) (iblk m c 1 t) (iblk m c 2 t) (iblk m c 3 t) (iblk m c 4 t) (ix2 r d) := by
  have h := congrFun (Value.blocks5 m c t (flush0_5 t)) (ix2 r d)
  rw [Value.flushed5] at h
  have e : ((cfg0.win 5).blk t).view.emb (ix2 r d : S512x1024.Idx) = ix2 (row t r) d := by
    have i5 := (idx t).2.2.2.2.2
    funext a; apply Fin.ext
    fin_cases a
    · show win0_5.index t 0 * 512 + 1 * r.val = 512 * t.val + r.val
      rw [i5]; show t.val * 512 + 1 * r.val = _; omega
    · show win0_5.index t 1 * 1024 + 1 * d.val = d.val
      rw [i5]; show 0 * 1024 + 1 * d.val = _; omega
  exact (congrArg ((dats m 0 c).arrAt 5 cfg0.N) e).symm.trans h

/-- The kernel's result: every token after the feed-forward. -/
theorem out_at (c : Dev nD) (R : Fin 65536) (d : Fin 1024) :
    (show EReal from (dats m 0 c).arrAt 5 cfg0.N (ix2 R d)) = fed (kTok m c R) (kGain m c) (kUp1 m c) (kUp3 m c) (kDown m c) d := by
  obtain ⟨t, r, rfl⟩ := exists_row R
  refine (arr_at m c t r d).trans ((body_at _ _ _ _ _ r d).trans ?_)
  have b0 : (fun k => (iblk m c 0 t : FVec Ideal S512x1024 .f32) (ix2 r k)) = kTok m c (row t r) := funext fun k => blk0 m c t r k
  have b1 : (fun k => (iblk m c 1 t : FVec Ideal S1x1024 .f32) (ix2 0 k)) = kGain m c := funext fun k => blk1 m c t k
  have b2 : (fun k f => (iblk m c 2 t : FVec Ideal S1024x2816 .bf16) (ix2 k f)) = kUp1 m c := funext fun k => funext fun f => blk2 m c t k f
  have b3 : (fun k f => (iblk m c 3 t : FVec Ideal S1024x2816 .bf16) (ix2 k f)) = kUp3 m c := funext fun k => funext fun f => blk3 m c t k f
  have b4 : (fun f d => (iblk m c 4 t : FVec Ideal S2816x1024 .bf16) (ix2 f d)) = kDown m c := funext fun f => funext fun d => blk4 m c t f d
  rw [b0, b1, b2, b3, b4]

end Cert.Layer.Ffn
end
-- ==== Proof.FfnClaims.lean ====
module
public import proofs.«01_k».proof.Defs
public import proofs.«01_k».proof.Proof.Ffn
public import proofs.«01_k».proof.Proof.Gen.Ffn.Frame
public import proofs.«01_k».proof.Proof.Gen.FfnRefIdeal.Run
public import Idealize.ShloMosaic.Lib.Quiescent
public import Idealize.ShloMosaic.Adequacy
public import Idealize.ShloMosaic.Init

/-!
The claims about the dense feed-forward.
-/

@[expose] public section

set_option maxRecDepth 16384

noncomputable section
open Idealize.ShloMosaic Idealize.ShloMosaic.TcCoe Idealize.SL.Sem

namespace Cert.Proof.FfnClaims
open Cert.Layer Cert.Layer.Ffn

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- At the extended reals the kernel and the reference end with the same array: every token after the feed-forward. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨a0, a1, a2, a3, a4⟩ := hagree c
  rw [a0, a1, a2, a3, a4]
  funext i
  rw [eq_ix2 i]
  refine Eq.trans ?_ (out_at m c (i 0) (i 1)).symm
  unfold fed gated normed kTok kGain kUp1 kUp3 kDown
  pointwise
  try rfl

end Cert.Proof.FfnClaims
end
-- ==== Proof.Inproj.lean ====
module
public import proofs.«01_k».proof.Proof.Gen.InprojIdeal.Value
public import proofs.«01_k».proof.Proof.Reals
public import Idealize.ShloMosaic.Lib.Pipeline.ValueKit
public import Idealize.ShloMosaic.Lib.Pipeline.ReadBack

/-!
The input projection: the kernel's eight arrays, element by element.
-/

@[expose] public section

set_option maxRecDepth 16384

noncomputable section
open Idealize.ShloMosaic Idealize.ShloMosaic.TcCoe Idealize.SL.Sem

namespace Cert.Layer.Inproj
open Cert.InprojIdeal Cert.InprojIdeal.Gen

variable (m : (ℓ : Loc nD τ sig) → Buf (Elt Ideal) ℓ)

/-! ## The mathematics -/

/-- A projected channel of a normalised token: its product with a column of the weights. -/
def proj (h w : Fin 1024 → EReal) : EReal := ∑ k, h k * w k

/-- The tanh form of the GELU. -/
def gelu (z : EReal) : EReal :=
  z * (Ideal.ofBits .f32 0x3F000000#32 * (Ideal.ofBits .f32 0x3F800000#32 + Ideal.tanh (Ideal.ofBits .f32 0x3F4C422A#32 *
    (z + Ideal.ofBits .f32 0x3D372713#32 * (z * (z * z))))))

/-- 512 channels divided by their root mean square, times the gain `g`. -/
def normedV (x g : Fin 512 → EReal) (d : Fin 512) : EReal :=
  x d * Ideal.rsqrt (Ideal.div (∑ k, x k * x k) (Ideal.ofBits .f32 0x44000000#32) + Ideal.ofBits .f32 0x358637BD#32) * g d

/-! ## The grid -/

/-- The printed index maps, decided over the grid. -/
theorem idx : ∀ t : Fin cfg0.N, win0_0.index t = ![t.val, 0] ∧ win0_1.index t = ![0, 0] ∧ win0_2.index t = ![0, 0]
    ∧ win0_3.index t = ![0, 0] :=
  (by decide +kernel : ∀ t : Fin grid0.N, _)

theorem points (t : Fin cfg0.N) : t.val < 128 := lt_of_lt_of_eq t.isLt N_0

/-- Row `r` of tile `t` as a token. -/
def row (t : Fin cfg0.N) (r : Fin 512) : Fin 65536 := ⟨512 * t.val + r.val, by have := points t; have := r.isLt; omega⟩

/-- Every token is a row of a tile. -/
theorem exists_row (R : Fin 65536) : ∃ t r, R = row t r :=
  ⟨⟨R.val / 512, by have := R.isLt; rw [show cfg0.N = 128 from N_0]; omega⟩, ⟨R.val % 512, by omega⟩, Fin.ext (by show R.val = 512 * (R.val / 512) + R.val % 512; omega)⟩

/-! ## The arguments -/

/-- Token `r` of the first argument. -/
def kTok (c : Dev nD) (r : Fin 65536) (k : Fin 1024) : EReal := m ((c : Thread nD τ).loc main_arg0) (ix2 r k)
/-- The gain. -/
def kGain (c : Dev nD) (k : Fin 1024) : EReal := m ((c : Thread nD τ).loc main_arg1) (ix1 k)
/-- The weights' column `j`. -/
def kCol (c : Dev nD) (j : Fin 7168) (k : Fin 1024) : EReal := m ((c : Thread nD τ).loc main_arg2) (ix2 k j)
/-- The gain of the value half. -/
def kGainV (c : Dev nD) (d : Fin 512) : EReal := m ((c : Thread nD τ).loc main_arg3) (ix1 d)
/-- Channel `j` of token `R` after the projection. -/
def kProj (c : Dev nD) (R : Fin 65536) (j : Fin 7168) : EReal := proj (normed (kTok m c R) (kGain m c)) (kCol m c j)

/-! ## The blocks -/

theorem blk0 (c : Dev nD) (t : Fin cfg0.N) (r : Fin 512) (k : Fin 1024) :
    (show EReal from iblk m c 0 t (ix2 r k)) = kTok m c (row t r) k := by
  unfold kTok row
  have := points t
  blk_point [iblk, V, idx t]

/-- The reshaped gain. -/
theorem gain_at (c : Dev nD) (k : Fin 1024) : (show EReal from V m c main_v0 (ix2 0 k)) = kGain m c k := by
  unfold kGain
  show (StableHlo.after [hostOps0].flatten (fun b => m (c, b)) (Proc.tc.devRef main_v0) (ix2 0 k)) = _
  simp only [hostOps0, List.flatten_cons, List.flatten_nil, List.append_nil, List.cons_append, List.nil_append]
  after_results_simp
  pointwise
  try rfl

/-- The reshaped gain of the value half. -/
theorem gainV_at (c : Dev nD) (d : Fin 512) : (show EReal from V m c main_v1 (ix2 0 d)) = kGainV m c d := by
  unfold kGainV
  show (StableHlo.after [hostOps0].flatten (fun b => m (c, b)) (Proc.tc.devRef main_v1) (ix2 0 d)) = _
  simp only [hostOps0, List.flatten_cons, List.flatten_nil, List.append_nil, List.cons_append, List.nil_append]
  after_results_simp
  pointwise
  try rfl

/-- The weights, cast. -/
theorem col_at (c : Dev nD) (k : Fin 1024) (j : Fin 7168) : (show EReal from V m c main_v2 (ix2 k j)) = kCol m c j k := by
  unfold kCol
  show (StableHlo.after [hostOps0].flatten (fun b => m (c, b)) (Proc.tc.devRef main_v2) (ix2 k j)) = _
  simp only [hostOps0, List.flatten_cons, List.flatten_nil, List.append_nil, List.cons_append, List.nil_append]
  after_results_simp
  pointwise
  try rfl

theorem blk1 (c : Dev nD) (t : Fin cfg0.N) (k : Fin 1024) :
    (show EReal from iblk m c 1 t (ix2 0 k)) = kGain m c k := by
  rw [← gain_at]
  have := points t
  blk_ext [iblk, idx t]

theorem blk2 (c : Dev nD) (t : Fin cfg0.N) (k : Fin 1024) (j : Fin 7168) :
    (show EReal from iblk m c 2 t (ix2 k j)) = kCol m c j k := by
  rw [← col_at]
  have := points t
  blk_ext [iblk, idx t]

theorem blk3 (c : Dev nD) (t : Fin cfg0.N) (d : Fin 512) :
    (show EReal from iblk m c 3 t (ix2 0 d)) = kGainV m c d := by
  rw [← gainV_at]
  have := points t
  blk_ext [iblk, idx t]

/-! ## The payloads -/

/-- The normalised tile at an element. -/
theorem pay5_at (x : FVec Ideal S512x1024 .f32) (g : FVec Ideal S1x1024 .f32) (r : Fin 512) (d : Fin 1024) :
    k0_pay5 (F := Ideal) x g (ix2 r d) = normed (fun k => x (ix2 r k)) (fun k => g (ix2 0 k)) d := by
  unfold normed
  pointwise [k0_pay5]
  try rfl

/-- A 512-column slice of the weights, read at an element. -/
theorem ld_col (w : Vec Ideal S1024x7168 .bf16) (o : ℕ) (h : _) (ho : o + 512 ≤ 7168) (k : Fin 1024) (f : Fin 512) :
    View.ld w (Rect.unit (s := S1024x7168) ![0, o] S1024x512.size h) (ix2 k f : S1024x512.Idx) = w (ix2 k ⟨o + f.val, by have := f.isLt; omega⟩) := by
  refine congrArg w (?_ : (Rect.unit (s := S1024x7168) ![0, o] S1024x512.size h).idx (ix2 k f : S1024x512.Idx) = ix2 k ⟨o + f.val, by have := f.isLt; omega⟩)
  funext a; apply Fin.ext; fin_cases a
  · show 0 + 1 * k.val = k.val; omega
  · show o + 1 * f.val = o + f.val; omega

/-- A projected channel of the tile's row `r`, the weights' columns sliced from `o`. -/
theorem proj_ld (h : FVec Ideal S512x1024 .bf16) (w : Vec Ideal S1024x7168 .bf16) (o : ℕ) (hi : _) (ho : o + 512 ≤ 7168) (r d : Fin 512) :
    proj (fun k => h (ix2 r k)) (fun k => View.ld w (Rect.unit (s := S1024x7168) ![0, o] S1024x512.size hi) (ix2 k d : S1024x512.Idx))
      = proj (fun k => h (ix2 r k)) (fun k => w (ix2 k ⟨o + d.val, by have := d.isLt; omega⟩)) :=
  congrArg (proj _) (funext fun k => ld_col w o hi ho k d)

/-- A sigmoid gate's payload. -/
theorem pay1_at (h : FVec Ideal S512x1024 .bf16) (w : FVec Ideal S1024x512 .bf16) (r d : Fin 512) :
    k0_pay1 (F := Ideal) h w (ix2 r d) = Ideal.logistic (proj (fun k => h (ix2 r k)) (fun k => w (ix2 k d))) := by
  unfold proj
  pointwise [k0_pay1]
  try rfl

/-- A sigmoid gate's payload. -/
theorem pay2_at (h : FVec Ideal S512x1024 .bf16) (w : FVec Ideal S1024x512 .bf16) (r d : Fin 512) :
    k0_pay2 (F := Ideal) h w (ix2 r d) = Ideal.logistic (proj (fun k => h (ix2 r k)) (fun k => w (ix2 k d))) := by
  unfold proj
  pointwise [k0_pay2]
  try rfl

/-- A sigmoid gate's payload. -/
theorem pay3_at (h : FVec Ideal S512x1024 .bf16) (w : FVec Ideal S1024x512 .bf16) (r d : Fin 512) :
    k0_pay3 (F := Ideal) h w (ix2 r d) = Ideal.logistic (proj (fun k => h (ix2 r k)) (fun k => w (ix2 k d))) := by
  unfold proj
  pointwise [k0_pay3]
  try rfl

/-- A sigmoid gate's payload. -/
theorem pay4_at (h : FVec Ideal S512x1024 .bf16) (w : FVec Ideal S1024x512 .bf16) (r d : Fin 512) :
    k0_pay4 (F := Ideal) h w (ix2 r d) = Ideal.logistic (proj (fun k => h (ix2 r k)) (fun k => w (ix2 k d))) := by
  unfold proj
  pointwise [k0_pay4]
  try rfl

/-- A sigmoid gate's payload. -/
theorem pay15_at (h : FVec Ideal S512x1024 .bf16) (w : FVec Ideal S1024x512 .bf16) (r d : Fin 512) :
    k0_pay15 (F := Ideal) h w (ix2 r d) = Ideal.logistic (proj (fun k => h (ix2 r k)) (fun k => w (ix2 k d))) := by
  unfold proj
  pointwise [k0_pay15]
  try rfl

/-- A sigmoid gate's payload. -/
theorem pay16_at (h : FVec Ideal S512x1024 .bf16) (w : FVec Ideal S1024x512 .bf16) (r d : Fin 512) :
    k0_pay16 (F := Ideal) h w (ix2 r d) = Ideal.logistic (proj (fun k => h (ix2 r k)) (fun k => w (ix2 k d))) := by
  unfold proj
  pointwise [k0_pay16]
  try rfl

/-- A plainly projected payload. -/
theorem pay11_at (h : FVec Ideal S512x1024 .bf16) (w : FVec Ideal S1024x512 .bf16) (r d : Fin 512) :
    k0_pay11 (F := Ideal) h w (ix2 r d) = proj (fun k => h (ix2 r k)) (fun k => w (ix2 k d)) := by
  unfold proj
  pointwise [k0_pay11]
  try rfl

/-- A plainly projected payload. -/
theorem pay12_at (h : FVec Ideal S512x1024 .bf16) (w : FVec Ideal S1024x512 .bf16) (r d : Fin 512) :
    k0_pay12 (F := Ideal) h w (ix2 r d) = proj (fun k => h (ix2 r k)) (fun k => w (ix2 k d)) := by
  unfold proj
  pointwise [k0_pay12]
  try rfl

/-- A plainly projected payload. -/
theorem pay14_at (h : FVec Ideal S512x1024 .bf16) (w : FVec Ideal S1024x512 .bf16) (r d : Fin 512) :
    k0_pay14 (F := Ideal) h w (ix2 r d) = proj (fun k => h (ix2 r k)) (fun k => w (ix2 k d)) := by
  unfold proj
  pointwise [k0_pay14]
  try rfl

/-- The scaled query's payload. -/
theorem pay10_at (h : FVec Ideal S512x1024 .bf16) (w : FVec Ideal S1024x512 .bf16) (r d : Fin 512) :
    k0_pay10 (F := Ideal) h w (ix2 r d) = proj (fun k => h (ix2 r k)) (fun k => w (ix2 k d)) * Ideal.ofBits .f32 0x3E000000#32 := by
  unfold proj
  pointwise [k0_pay10]
  try rfl

/-- The gated convolution input's payload. -/
theorem pay13_at (h : FVec Ideal S512x1024 .bf16) (w w' : FVec Ideal S1024x512 .bf16) (r d : Fin 512) :
    k0_pay13 (F := Ideal) h w w' (ix2 r d) = proj (fun k => h (ix2 r k)) (fun k => w (ix2 k d)) * proj (fun k => h (ix2 r k)) (fun k => w' (ix2 k d)) := by
  unfold proj
  pointwise [k0_pay13]
  try rfl

/-- The projected value half. -/
theorem pay7_at (x : FVec Ideal S512x1024 .f32) (g : FVec Ideal S1x1024 .f32) (w : FVec Ideal S1024x512 .bf16) (r d : Fin 512) :
    k0_pay7 (F := Ideal) x g w (ix2 r d) = proj (fun k => k0_pay5 (F := Ideal) x g (ix2 r k)) (fun k => w (ix2 k d)) := by
  unfold proj
  pointwise [k0_pay7]
  try rfl

/-- The first half's payload: the GELU. -/
theorem pay6_at (x : FVec Ideal S512x1024 .f32) (g : FVec Ideal S1x1024 .f32) (w : FVec Ideal S1024x512 .bf16) (r d : Fin 512) :
    k0_pay6 (F := Ideal) x g w (ix2 r d) = gelu (proj (fun k => k0_pay5 (F := Ideal) x g (ix2 r k)) (fun k => w (ix2 k d))) := by
  unfold gelu proj
  pointwise [k0_pay6]
  try rfl

/-- The value half's payload: the GELU, normalised. -/
theorem pay9_at (z : FVec Ideal S512x512 .f32) (z3 : FVec Ideal S512x512 .f32) (hz : ∀ r d : Fin 512, z3 (ix2 r d) = z (ix2 r d) * (z (ix2 r d) * z (ix2 r d)))
    (g : FVec Ideal S1x512 .f32) (r d : Fin 512) :
    k0_pay9 (F := Ideal) z z3 g (ix2 r d) = normedV (fun k => gelu (z (ix2 r k))) (fun k => g (ix2 0 k)) d := by
  unfold normedV gelu
  simp only [← hz]
  pointwise [k0_pay9]
  try rfl

/-- The cube of the projected value half. -/
theorem pay8_at (x : FVec Ideal S512x1024 .f32) (g : FVec Ideal S1x1024 .f32) (w : FVec Ideal S1024x512 .bf16) (r d : Fin 512) :
    k0_pay8 (F := Ideal) x g w (ix2 r d) = k0_pay7 (F := Ideal) x g w (ix2 r d) * (k0_pay7 (F := Ideal) x g w (ix2 r d) * k0_pay7 (F := Ideal) x g w (ix2 r d)) := by
  pointwise [k0_pay8]
  try rfl

/-! ## The tiles -/

section tiles
variable (x : Vec Ideal S512x1024 .f32) (g : Vec Ideal S1x1024 .f32) (w : Vec Ideal S1024x7168 .bf16) (gv : Vec Ideal S1x512 .f32) (r d : Fin 512)

/-- The normalised tile is computed from the two whole blocks. -/
theorem pay17_eq : k0_pay17 (F := Ideal) x g w gv = k0_pay5 (F := Ideal) x g := by
  have e0 : ∀ i : S512x1024.Idx, r0_0.idx i = i := fun i => by
    funext a; apply Fin.ext; fin_cases a
    · show 0 + 1 * (i 0).val = (i 0).val; omega
    · show 0 + 1 * (i 1).val = (i 1).val; omega
  have e1 : ∀ i : S1x1024.Idx, r0_1.idx i = i := fun i => by
    funext a; apply Fin.ext; fin_cases a
    · show 0 + 1 * (i 0).val = (i 0).val; omega
    · show 0 + 1 * (i 1).val = (i 1).val; omega
  have f0 : View.ld x r0_0 = x := funext fun i => congrArg x (e0 i)
  have f1 : View.ld g r0_1 = g := funext fun i => congrArg g (e1 i)
  exact congrArg₂ (k0_pay5 (F := Ideal)) f0 f1

/-- Channel `j` of the tile's row `r`. -/
def tProj (j : Fin 7168) : EReal := proj (normed (fun k => x (ix2 r k)) (fun k => g (ix2 0 k))) (fun k => w (ix2 k j))

/-- The projection of the normalised tile through a slice of the weights. -/
theorem proj_tile (o : ℕ) (hi : _) (ho : o + 512 ≤ 7168) :
    proj (fun k => k0_pay5 (F := Ideal) x g (ix2 r k)) (fun k => View.ld w (Rect.unit (s := S1024x7168) ![0, o] S1024x512.size hi) (ix2 k d : S1024x512.Idx))
      = tProj x g w r ⟨o + d.val, by have := d.isLt; omega⟩ := by
  refine (proj_ld (k0_pay5 (F := Ideal) x g) w o hi ho r d).trans ?_
  unfold tProj
  simp only [pay5_at]

/-- Output window 4's tile at an element. -/
theorem body4_at : out0_4 (F := Ideal) x g w gv (ix2 r d) = gelu (tProj x g w r ⟨0 + d.val, by have := d.isLt; omega⟩) := by
  have h : out0_4 (F := Ideal) x g w gv = k0_pay6 (F := Ideal) x g (View.ld w r0_2) := by
    frame_out
    try rw [pay17_eq]
  refine (congrFun h (ix2 r d)).trans ?_
  exact (pay6_at x g _ r d).trans (congrArg gelu (proj_tile x g w r d 0 _ (by decide)))

/-- Output window 5's tile at an element. -/
theorem body5_at : out0_5 (F := Ideal) x g w gv (ix2 r d) = normedV (fun d => gelu (tProj x g w r ⟨512 + d.val, by have := d.isLt; omega⟩)) (fun k => gv (ix2 0 k)) d := by
  have h : out0_5 (F := Ideal) x g w gv = k0_pay9 (F := Ideal) (k0_pay7 (F := Ideal) x g (View.ld w r0_4)) (k0_pay8 (F := Ideal) x g (View.ld w r0_4)) gv := by
    frame_out
    try rw [pay17_eq]
  refine (congrFun h (ix2 r d)).trans ?_
  refine (pay9_at _ _ (fun r d => pay8_at x g _ r d) gv r d).trans ?_
  refine congrArg (fun f => normedV f (fun k => gv (ix2 0 k)) d) (funext fun d => congrArg gelu ?_)
  exact (pay7_at x g _ r d).trans (proj_tile x g w r d 512 _ (by decide))

/-- Output window 6's tile at an element. -/
theorem body6_at : out0_6 (F := Ideal) x g w gv (ix2 r d) = tProj x g w r ⟨1024 + d.val, by have := d.isLt; omega⟩ * Ideal.ofBits .f32 0x3E000000#32 := by
  have h : out0_6 (F := Ideal) x g w gv = k0_pay10 (F := Ideal) (k0_pay5 (F := Ideal) x g) (View.ld w r0_6) := by
    frame_out
    try rw [pay17_eq]
  refine (congrFun h (ix2 r d)).trans ?_
  exact (pay10_at (k0_pay5 (F := Ideal) x g) _ r d).trans (congrArg (· * Ideal.ofBits .f32 0x3E000000#32) (proj_tile x g w r d 1024 _ (by decide)))

/-- Output window 7's tile at an element. -/
theorem body7_at : out0_7 (F := Ideal) x g w gv (ix2 r d) = tProj x g w r ⟨1536 + d.val, by have := d.isLt; omega⟩ := by
  have h : out0_7 (F := Ideal) x g w gv = k0_pay11 (F := Ideal) (k0_pay5 (F := Ideal) x g) (View.ld w r0_7) := by
    frame_out
    try rw [pay17_eq]
  refine (congrFun h (ix2 r d)).trans ?_
  exact (pay11_at (k0_pay5 (F := Ideal) x g) _ r d).trans (proj_tile x g w r d 1536 _ (by decide))

/-- Output window 8's tile at an element. -/
theorem body8_at : out0_8 (F := Ideal) x g w gv (ix2 r d) = tProj x g w r ⟨2048 + d.val, by have := d.isLt; omega⟩ := by
  have h : out0_8 (F := Ideal) x g w gv = k0_pay12 (F := Ideal) (k0_pay5 (F := Ideal) x g) (View.ld w r0_8) := by
    frame_out
    try rw [pay17_eq]
  refine (congrFun h (ix2 r d)).trans ?_
  exact (pay12_at (k0_pay5 (F := Ideal) x g) _ r d).trans (proj_tile x g w r d 2048 _ (by decide))

/-- Output window 9's tile at an element. -/
theorem body9_at : out0_9 (F := Ideal) x g w gv (ix2 r d) = tProj x g w r ⟨3584 + d.val, by have := d.isLt; omega⟩ * tProj x g w r ⟨2560 + d.val, by have := d.isLt; omega⟩ := by
  have h : out0_9 (F := Ideal) x g w gv = k0_pay13 (F := Ideal) (k0_pay5 (F := Ideal) x g) (View.ld w r0_9) (View.ld w r0_10) := by
    frame_out
    try rw [pay17_eq]
  refine (congrFun h (ix2 r d)).trans ?_
  exact (pay13_at (k0_pay5 (F := Ideal) x g) _ _ r d).trans (congrArg₂ (· * ·) (proj_tile x g w r d 3584 _ (by decide)) (proj_tile x g w r d 2560 _ (by decide)))

/-- Output window 10's tile at an element. -/
theorem body10_at : out0_10 (F := Ideal) x g w gv (ix2 r d) = tProj x g w r ⟨3072 + d.val, by have := d.isLt; omega⟩ := by
  have h : out0_10 (F := Ideal) x g w gv = k0_pay14 (F := Ideal) (k0_pay5 (F := Ideal) x g) (View.ld w r0_11) := by
    frame_out
    try rw [pay17_eq]
  refine (congrFun h (ix2 r d)).trans ?_
  exact (pay14_at (k0_pay5 (F := Ideal) x g) _ r d).trans (proj_tile x g w r d 3072 _ (by decide))

end tiles

/-- Output window 11's tile at an element: six stores of 512 columns each. -/
theorem body11_at (x : Vec Ideal S512x1024 .f32) (g : Vec Ideal S1x1024 .f32) (w : Vec Ideal S1024x7168 .bf16) (gv : Vec Ideal S1x512 .f32) (r : Fin 512) (d : Fin 3072) :
    out0_11 (F := Ideal) x g w gv (ix2 r d) = Ideal.logistic (tProj x g w r ⟨4096 + d.val, by have := d.isLt; omega⟩) := by
  let E : Vec Ideal S512x3072 .bf16 := fun i => Ideal.logistic (tProj x g w (i 0) ⟨4096 + (i 1).val, by have : (i 1).val < 3072 := (i 1).isLt; omega⟩)
  have key : ∀ (o q : ℕ) (ho : o + 512 ≤ 7168) (hq : o = 4096 + q) (hi : _) (hj : _) (pay : FVec Ideal S512x1024 .bf16 → FVec Ideal S1024x512 .bf16 → FVec Ideal S512x512 .bf16)
      (hpay : ∀ h w r d, pay h w (ix2 r d) = Ideal.logistic (proj (fun k => h (ix2 r k)) (fun k => w (ix2 k d)))) (i : S512x512.Idx),
      (show EReal from pay (k0_pay5 (F := Ideal) x g) (View.ld w (Rect.unit (s := S1024x7168) ![0, o] S1024x512.size hi)) i)
        = E ((Rect.unit (s := S512x3072) ![0, q] S512x512.size hj).idx i) := by
    intro o q ho hq hi hj pay hpay i
    obtain ⟨a, b, rfl⟩ : ∃ a b : Fin 512, i = ix2 a b := ⟨i 0, i 1, eq_ix2 i⟩
    refine (hpay _ _ a b).trans (congrArg Ideal.logistic ((proj_tile x g w a b o hi ho).trans ?_))
    have e0 : (Rect.unit (s := S512x3072) ![0, q] S512x512.size hj).idx (ix2 a b : S512x512.Idx) 0 = a := Fin.ext (by show 0 + 1 * a.val = a.val; omega)
    have e1 : ((Rect.unit (s := S512x3072) ![0, q] S512x512.size hj).idx (ix2 a b : S512x512.Idx) 1).val = q + b.val := by show q + 1 * b.val = _; omega
    refine congrArg₂ (fun u v => tProj x g w u v) e0.symm (Fin.ext ?_)
    show o + b.val = 4096 + _
    rw [e1]; omega
  refine View.canon_apply_of_pieces (E : Vec Ideal S512x3072 .bf16) _ ?_ (ix2 r d) (cover0_11 _ _ _ _ _ _ (ix2 r d))
  rw [pay17_eq]
  intro pc hpc
  rcases List.mem_cons.mp hpc with rfl | hpc
  · exact key 6656 2560 (by decide) (by decide) (by decide) (by decide) _ pay4_at
  rcases List.mem_cons.mp hpc with rfl | hpc
  · exact key 6144 2048 (by decide) (by decide) (by decide) (by decide) _ pay3_at
  rcases List.mem_cons.mp hpc with rfl | hpc
  · exact key 5632 1536 (by decide) (by decide) (by decide) (by decide) _ pay2_at
  rcases List.mem_cons.mp hpc with rfl | hpc
  · exact key 5120 1024 (by decide) (by decide) (by decide) (by decide) _ pay1_at
  rcases List.mem_cons.mp hpc with rfl | hpc
  · exact key 4608 512 (by decide) (by decide) (by decide) (by decide) _ pay16_at
  rcases List.mem_cons.mp hpc with rfl | hpc
  · exact key 4096 0 (by decide) (by decide) (by decide) (by decide) _ pay15_at
  nomatch hpc

/-! ## The arrays -/

/-- The tile's channel is the token's. -/
theorem tProj_eq (c : Dev nD) (t : Fin cfg0.N) (r : Fin 512) (j : Fin 7168) :
    tProj (iblk m c 0 t : FVec Ideal S512x1024 .f32) (iblk m c 1 t : FVec Ideal S1x1024 .f32) (iblk m c 2 t : FVec Ideal S1024x7168 .bf16) r j = kProj m c (row t r) j := by
  have b0 : (fun k => (iblk m c 0 t : FVec Ideal S512x1024 .f32) (ix2 r k)) = kTok m c (row t r) := funext fun k => blk0 m c t r k
  have b1 : (fun k => (iblk m c 1 t : FVec Ideal S1x1024 .f32) (ix2 0 k)) = kGain m c := funext fun k => blk1 m c t k
  have b2 : (fun k => (iblk m c 2 t : FVec Ideal S1024x7168 .bf16) (ix2 k j)) = kCol m c j := funext fun k => blk2 m c t k j
  unfold tProj kProj
  rw [b0, b1, b2]

/-- The index map of output window 4, decided over the grid. -/
theorem idx4 : ∀ t : Fin cfg0.N, win0_4.index t = ![t.val, 0] := (by decide +kernel : ∀ t : Fin grid0.N, _)

/-- A row of output 4's final array is the row its tile wrote. -/
theorem arr4_at (c : Dev nD) (t : Fin cfg0.N) (r : Fin 512) (d : Fin 512) :
    (show EReal from (dats m 0 c).arrAt 4 cfg0.N (ix2 (row t r) d))
      = out0_4 (F := Ideal) (iblk m c 0 t) (iblk m c 1 t) (iblk m c 2 t) (iblk m c 3 t) (ix2 r d) := by
  have h := congrFun (Value.blocks4 m c t (flush0_4 t)) (ix2 r d)
  rw [Value.flushed4] at h
  have e : ((cfg0.win 4).blk t).view.emb (ix2 r d : S512x512.Idx) = ix2 (row t r) d := by
    have i5 := idx4 t
    funext a; apply Fin.ext
    fin_cases a
    · show win0_4.index t 0 * 512 + 1 * r.val = 512 * t.val + r.val
      rw [i5]; show t.val * 512 + 1 * r.val = _; omega
    · show win0_4.index t 1 * 512 + 1 * d.val = d.val
      rw [i5]; show 0 * 512 + 1 * d.val = _; omega
  exact (congrArg ((dats m 0 c).arrAt 4 cfg0.N) e).symm.trans h

/-- Output 4 of the kernel. -/
theorem out4_at (c : Dev nD) (R : Fin 65536) (d : Fin 512) :
    (show EReal from (dats m 0 c).arrAt 4 cfg0.N (ix2 R d)) = gelu (kProj m c R ⟨0 + d.val, by have := d.isLt; omega⟩) := by
  obtain ⟨t, r, rfl⟩ := exists_row R
  refine (arr4_at m c t r d).trans ((body4_at _ _ _ _ r d).trans ?_)
  exact congrArg gelu (tProj_eq m c t r _)

/-- The index map of output window 5, decided over the grid. -/
theorem idx5 : ∀ t : Fin cfg0.N, win0_5.index t = ![t.val, 0] := (by decide +kernel : ∀ t : Fin grid0.N, _)

/-- A row of output 5's final array is the row its tile wrote. -/
theorem arr5_at (c : Dev nD) (t : Fin cfg0.N) (r : Fin 512) (d : Fin 512) :
    (show EReal from (dats m 0 c).arrAt 5 cfg0.N (ix2 (row t r) d))
      = out0_5 (F := Ideal) (iblk m c 0 t) (iblk m c 1 t) (iblk m c 2 t) (iblk m c 3 t) (ix2 r d) := by
  have h := congrFun (Value.blocks5 m c t (flush0_5 t)) (ix2 r d)
  rw [Value.flushed5] at h
  have e : ((cfg0.win 5).blk t).view.emb (ix2 r d : S512x512.Idx) = ix2 (row t r) d := by
    have i5 := idx5 t
    funext a; apply Fin.ext
    fin_cases a
    · show win0_5.index t 0 * 512 + 1 * r.val = 512 * t.val + r.val
      rw [i5]; show t.val * 512 + 1 * r.val = _; omega
    · show win0_5.index t 1 * 512 + 1 * d.val = d.val
      rw [i5]; show 0 * 512 + 1 * d.val = _; omega
  exact (congrArg ((dats m 0 c).arrAt 5 cfg0.N) e).symm.trans h

/-- Output 5 of the kernel. -/
theorem out5_at (c : Dev nD) (R : Fin 65536) (d : Fin 512) :
    (show EReal from (dats m 0 c).arrAt 5 cfg0.N (ix2 R d)) = normedV (fun d => gelu (kProj m c R ⟨512 + d.val, by have := d.isLt; omega⟩)) (kGainV m c) d := by
  obtain ⟨t, r, rfl⟩ := exists_row R
  refine (arr5_at m c t r d).trans ((body5_at _ _ _ _ r d).trans ?_)
  exact congrArg₂ (fun f g => normedV f g d) (funext fun d => congrArg gelu (tProj_eq m c t r _)) (funext fun k => blk3 m c t k)

/-- The index map of output window 6, decided over the grid. -/
theorem idx6 : ∀ t : Fin cfg0.N, win0_6.index t = ![t.val, 0] := (by decide +kernel : ∀ t : Fin grid0.N, _)

/-- A row of output 6's final array is the row its tile wrote. -/
theorem arr6_at (c : Dev nD) (t : Fin cfg0.N) (r : Fin 512) (d : Fin 512) :
    (show EReal from (dats m 0 c).arrAt 6 cfg0.N (ix2 (row t r) d))
      = out0_6 (F := Ideal) (iblk m c 0 t) (iblk m c 1 t) (iblk m c 2 t) (iblk m c 3 t) (ix2 r d) := by
  have h := congrFun (Value.blocks6 m c t (flush0_6 t)) (ix2 r d)
  rw [Value.flushed6] at h
  have e : ((cfg0.win 6).blk t).view.emb (ix2 r d : S512x512.Idx) = ix2 (row t r) d := by
    have i5 := idx6 t
    funext a; apply Fin.ext
    fin_cases a
    · show win0_6.index t 0 * 512 + 1 * r.val = 512 * t.val + r.val
      rw [i5]; show t.val * 512 + 1 * r.val = _; omega
    · show win0_6.index t 1 * 512 + 1 * d.val = d.val
      rw [i5]; show 0 * 512 + 1 * d.val = _; omega
  exact (congrArg ((dats m 0 c).arrAt 6 cfg0.N) e).symm.trans h

/-- Output 6 of the kernel. -/
theorem out6_at (c : Dev nD) (R : Fin 65536) (d : Fin 512) :
    (show EReal from (dats m 0 c).arrAt 6 cfg0.N (ix2 R d)) = kProj m c R ⟨1024 + d.val, by have := d.isLt; omega⟩ * Ideal.ofBits .f32 0x3E000000#32 := by
  obtain ⟨t, r, rfl⟩ := exists_row R
  refine (arr6_at m c t r d).trans ((body6_at _ _ _ _ r d).trans ?_)
  exact congrArg (· * Ideal.ofBits .f32 0x3E000000#32) (tProj_eq m c t r _)

/-- The index map of output window 7, decided over the grid. -/
theorem idx7 : ∀ t : Fin cfg0.N, win0_7.index t = ![t.val, 0] := (by decide +kernel : ∀ t : Fin grid0.N, _)

/-- A row of output 7's final array is the row its tile wrote. -/
theorem arr7_at (c : Dev nD) (t : Fin cfg0.N) (r : Fin 512) (d : Fin 512) :
    (show EReal from (dats m 0 c).arrAt 7 cfg0.N (ix2 (row t r) d))
      = out0_7 (F := Ideal) (iblk m c 0 t) (iblk m c 1 t) (iblk m c 2 t) (iblk m c 3 t) (ix2 r d) := by
  have h := congrFun (Value.blocks7 m c t (flush0_7 t)) (ix2 r d)
  rw [Value.flushed7] at h
  have e : ((cfg0.win 7).blk t).view.emb (ix2 r d : S512x512.Idx) = ix2 (row t r) d := by
    have i5 := idx7 t
    funext a; apply Fin.ext
    fin_cases a
    · show win0_7.index t 0 * 512 + 1 * r.val = 512 * t.val + r.val
      rw [i5]; show t.val * 512 + 1 * r.val = _; omega
    · show win0_7.index t 1 * 512 + 1 * d.val = d.val
      rw [i5]; show 0 * 512 + 1 * d.val = _; omega
  exact (congrArg ((dats m 0 c).arrAt 7 cfg0.N) e).symm.trans h

/-- Output 7 of the kernel. -/
theorem out7_at (c : Dev nD) (R : Fin 65536) (d : Fin 512) :
    (show EReal from (dats m 0 c).arrAt 7 cfg0.N (ix2 R d)) = kProj m c R ⟨1536 + d.val, by have := d.isLt; omega⟩ := by
  obtain ⟨t, r, rfl⟩ := exists_row R
  refine (arr7_at m c t r d).trans ((body7_at _ _ _ _ r d).trans ?_)
  exact tProj_eq m c t r _

/-- The index map of output window 8, decided over the grid. -/
theorem idx8 : ∀ t : Fin cfg0.N, win0_8.index t = ![t.val, 0] := (by decide +kernel : ∀ t : Fin grid0.N, _)

/-- A row of output 8's final array is the row its tile wrote. -/
theorem arr8_at (c : Dev nD) (t : Fin cfg0.N) (r : Fin 512) (d : Fin 512) :
    (show EReal from (dats m 0 c).arrAt 8 cfg0.N (ix2 (row t r) d))
      = out0_8 (F := Ideal) (iblk m c 0 t) (iblk m c 1 t) (iblk m c 2 t) (iblk m c 3 t) (ix2 r d) := by
  have h := congrFun (Value.blocks8 m c t (flush0_8 t)) (ix2 r d)
  rw [Value.flushed8] at h
  have e : ((cfg0.win 8).blk t).view.emb (ix2 r d : S512x512.Idx) = ix2 (row t r) d := by
    have i5 := idx8 t
    funext a; apply Fin.ext
    fin_cases a
    · show win0_8.index t 0 * 512 + 1 * r.val = 512 * t.val + r.val
      rw [i5]; show t.val * 512 + 1 * r.val = _; omega
    · show win0_8.index t 1 * 512 + 1 * d.val = d.val
      rw [i5]; show 0 * 512 + 1 * d.val = _; omega
  exact (congrArg ((dats m 0 c).arrAt 8 cfg0.N) e).symm.trans h

/-- Output 8 of the kernel. -/
theorem out8_at (c : Dev nD) (R : Fin 65536) (d : Fin 512) :
    (show EReal from (dats m 0 c).arrAt 8 cfg0.N (ix2 R d)) = kProj m c R ⟨2048 + d.val, by have := d.isLt; omega⟩ := by
  obtain ⟨t, r, rfl⟩ := exists_row R
  refine (arr8_at m c t r d).trans ((body8_at _ _ _ _ r d).trans ?_)
  exact tProj_eq m c t r _

/-- The index map of output window 9, decided over the grid. -/
theorem idx9 : ∀ t : Fin cfg0.N, win0_9.index t = ![t.val, 0] := (by decide +kernel : ∀ t : Fin grid0.N, _)

/-- A row of output 9's final array is the row its tile wrote. -/
theorem arr9_at (c : Dev nD) (t : Fin cfg0.N) (r : Fin 512) (d : Fin 512) :
    (show EReal from (dats m 0 c).arrAt 9 cfg0.N (ix2 (row t r) d))
      = out0_9 (F := Ideal) (iblk m c 0 t) (iblk m c 1 t) (iblk m c 2 t) (iblk m c 3 t) (ix2 r d) := by
  have h := congrFun (Value.blocks9 m c t (flush0_9 t)) (ix2 r d)
  rw [Value.flushed9] at h
  have e : ((cfg0.win 9).blk t).view.emb (ix2 r d : S512x512.Idx) = ix2 (row t r) d := by
    have i5 := idx9 t
    funext a; apply Fin.ext
    fin_cases a
    · show win0_9.index t 0 * 512 + 1 * r.val = 512 * t.val + r.val
      rw [i5]; show t.val * 512 + 1 * r.val = _; omega
    · show win0_9.index t 1 * 512 + 1 * d.val = d.val
      rw [i5]; show 0 * 512 + 1 * d.val = _; omega
  exact (congrArg ((dats m 0 c).arrAt 9 cfg0.N) e).symm.trans h

/-- Output 9 of the kernel. -/
theorem out9_at (c : Dev nD) (R : Fin 65536) (d : Fin 512) :
    (show EReal from (dats m 0 c).arrAt 9 cfg0.N (ix2 R d)) = kProj m c R ⟨3584 + d.val, by have := d.isLt; omega⟩ * kProj m c R ⟨2560 + d.val, by have := d.isLt; omega⟩ := by
  obtain ⟨t, r, rfl⟩ := exists_row R
  refine (arr9_at m c t r d).trans ((body9_at _ _ _ _ r d).trans ?_)
  exact congrArg₂ (· * ·) (tProj_eq m c t r _) (tProj_eq m c t r _)

/-- The index map of output window 10, decided over the grid. -/
theorem idx10 : ∀ t : Fin cfg0.N, win0_10.index t = ![t.val, 0] := (by decide +kernel : ∀ t : Fin grid0.N, _)

/-- A row of output 10's final array is the row its tile wrote. -/
theorem arr10_at (c : Dev nD) (t : Fin cfg0.N) (r : Fin 512) (d : Fin 512) :
    (show EReal from (dats m 0 c).arrAt 10 cfg0.N (ix2 (row t r) d))
      = out0_10 (F := Ideal) (iblk m c 0 t) (iblk m c 1 t) (iblk m c 2 t) (iblk m c 3 t) (ix2 r d) := by
  have h := congrFun (Value.blocks10 m c t (flush0_10 t)) (ix2 r d)
  rw [Value.flushed10] at h
  have e : ((cfg0.win 10).blk t).view.emb (ix2 r d : S512x512.Idx) = ix2 (row t r) d := by
    have i5 := idx10 t
    funext a; apply Fin.ext
    fin_cases a
    · show win0_10.index t 0 * 512 + 1 * r.val = 512 * t.val + r.val
      rw [i5]; show t.val * 512 + 1 * r.val = _; omega
    · show win0_10.index t 1 * 512 + 1 * d.val = d.val
      rw [i5]; show 0 * 512 + 1 * d.val = _; omega
  exact (congrArg ((dats m 0 c).arrAt 10 cfg0.N) e).symm.trans h

/-- Output 10 of the kernel. -/
theorem out10_at (c : Dev nD) (R : Fin 65536) (d : Fin 512) :
    (show EReal from (dats m 0 c).arrAt 10 cfg0.N (ix2 R d)) = kProj m c R ⟨3072 + d.val, by have := d.isLt; omega⟩ := by
  obtain ⟨t, r, rfl⟩ := exists_row R
  refine (arr10_at m c t r d).trans ((body10_at _ _ _ _ r d).trans ?_)
  exact tProj_eq m c t r _

/-- The index map of output window 11, decided over the grid. -/
theorem idx11 : ∀ t : Fin cfg0.N, win0_11.index t = ![t.val, 0] := (by decide +kernel : ∀ t : Fin grid0.N, _)

/-- A row of output 11's final array is the row its tile wrote. -/
theorem arr11_at (c : Dev nD) (t : Fin cfg0.N) (r : Fin 512) (d : Fin 3072) :
    (show EReal from (dats m 0 c).arrAt 11 cfg0.N (ix2 (row t r) d))
      = out0_11 (F := Ideal) (iblk m c 0 t) (iblk m c 1 t) (iblk m c 2 t) (iblk m c 3 t) (ix2 r d) := by
  have h := congrFun (Value.blocks11 m c t (flush0_11 t)) (ix2 r d)
  rw [Value.flushed11] at h
  have e : ((cfg0.win 11).blk t).view.emb (ix2 r d : S512x3072.Idx) = ix2 (row t r) d := by
    have i5 := idx11 t
    funext a; apply Fin.ext
    fin_cases a
    · show win0_11.index t 0 * 512 + 1 * r.val = 512 * t.val + r.val
      rw [i5]; show t.val * 512 + 1 * r.val = _; omega
    · show win0_11.index t 1 * 3072 + 1 * d.val = d.val
      rw [i5]; show 0 * 3072 + 1 * d.val = _; omega
  exact (congrArg ((dats m 0 c).arrAt 11 cfg0.N) e).symm.trans h

/-- Output 11 of the kernel. -/
theorem out11_at (c : Dev nD) (R : Fin 65536) (d : Fin 3072) :
    (show EReal from (dats m 0 c).arrAt 11 cfg0.N (ix2 R d)) = Ideal.logistic (kProj m c R ⟨4096 + d.val, by have := d.isLt; omega⟩) := by
  obtain ⟨t, r, rfl⟩ := exists_row R
  refine (arr11_at m c t r d).trans ((body11_at _ _ _ _ r d).trans ?_)
  exact congrArg Ideal.logistic (tProj_eq m c t r _)

end Cert.Layer.Inproj
end
-- ==== Proof.InprojClaims.lean ====
module
public import proofs.«01_k».proof.Defs
public import proofs.«01_k».proof.Proof.Inproj
public import proofs.«01_k».proof.Proof.Gen.Inproj.Frame
public import proofs.«01_k».proof.Proof.Gen.InprojRefIdeal.Run
public import Idealize.ShloMosaic.Lib.Quiescent
public import Idealize.ShloMosaic.Adequacy
public import Idealize.ShloMosaic.Init

/-!
The claims about the input projection.
-/

@[expose] public section

set_option maxRecDepth 16384

noncomputable section
open Idealize.ShloMosaic Idealize.ShloMosaic.TcCoe Idealize.SL.Sem

namespace Cert.Proof.InprojClaims
open Cert.Layer Cert.Layer.Inproj

theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2.2.2.2.2.2.2.2, Idealize.ShloMosaic.sem_eq_zero_of_no_sems (by decide) r.2⟩)
    (Cert.InprojRefIdeal.Value.run (F := Ideal) m ρ)

/-- The pattern of one is one. -/
theorem ofBits_one : Ideal.ofBits .f32 0x3F800000#32 = 1 := by
  simp [Ideal.ofBits, Ideal.ieee, -EReal.coe_mul]; norm_num

/-- The GELU with the cube multiplied in the reference's order. -/
theorem gelu_cube (z : EReal) : gelu z =
    z * (Ideal.ofBits .f32 0x3F000000#32 * (Ideal.ofBits .f32 0x3F800000#32 + Ideal.tanh (Ideal.ofBits .f32 0x3F4C422A#32 *
      (z + Ideal.ofBits .f32 0x3D372713#32 * (z * z * z))))) := by
  rw [mul_assoc z z z]; rfl

section
open Cert.InprojRefIdeal Cert.InprojRefIdeal.Gen Cert.InprojRefIdeal.Value
/-- The reference's whole projection, of tokens `x`, gain `g` and weights `w`. -/
def refProj (x : FVec Ideal S65536x1024 .f32) (g : FVec Ideal S1024 .f32) (w : FVec Ideal S1024x7168 .f32) : FVec Ideal S65536x7168 .f32 :=
  Host.dotGeneral dot_S65536x1024_S1024x7168_S65536x7168_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w

/-- The reference's projection at an element. -/
theorem refProj_at (x : FVec Ideal S65536x1024 .f32) (g : FVec Ideal S1024 .f32) (w : FVec Ideal S1024x7168 .f32) (R : Fin 65536) (j : Fin 7168) :
    refProj x g w (ix2 R j) = proj (normed (fun k => x (ix2 R k)) (fun k => g (ix1 k))) (fun k => w (ix2 k j)) := by
  unfold proj normed
  pointwise [refProj]
  try rfl
end

/-- At the extended reals the kernel and the reference end with the same eight arrays. -/
theorem algebraic : Cert.algebraic_InprojIdeal_InprojRefIdeal := by
  intro m ρ m' ρ' _ hagree
  refine ⟨_, _, _, _, _, _, _, _, Cert.InprojIdeal.Value.run_blocks (F := Ideal) m ρ, ?_⟩
  refine (θ_run Cert.InprojRefIdeal.defs _ _).mono (fun _ h c => ?_)
    (Cert.InprojRefIdeal.Value.run (F := Ideal) m' ρ')
  obtain ⟨a0, a1, a2, a3⟩ := hagree c
  obtain ⟨Z, eZ, hZ⟩ : ∃ Z, refProj (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Z ∧ ∀ R j, Z (ix2 R j) = kProj m c R j :=
    ⟨_, rfl, fun R j => by
      rw [a0, a1, a2]
      exact refProj_at _ _ _ R j⟩
  unfold refProj at eZ
  replace h := h c
  obtain ⟨h0, h1, h2, h3, h4, h5, h6, h7, hargs⟩ := h
  refine ⟨h0.trans ?_, h1.trans ?_, h2.trans ?_, h3.trans ?_, h4.trans ?_, h5.trans ?_, h6.trans ?_, h7.trans ?_, hargs⟩
  · -- output 4
    unfold Cert.InprojRefIdeal.Value.res_main_v62
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out4_at m c a b).symm
    simp only [gelu_cube, ← hZ]
    pointwise
    first | rfl | simp only [hZ] | skip
  · -- output 5
    unfold Cert.InprojRefIdeal.Value.res_main_v48
    rw [a3]
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out5_at m c a b).symm
    unfold normedV kGainV
    simp only [gelu_cube, ← hZ]
    pointwise
    first | rfl | simp only [hZ] | skip
  · -- output 6
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out6_at m c a b).symm
    simp only [← hZ]
    pointwise
    first | rfl | simp only [hZ] | skip
  · -- output 7
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out7_at m c a b).symm
    simp only [← hZ]
    pointwise
    first | rfl | simp only [hZ] | skip
  · -- output 8
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out8_at m c a b).symm
    simp only [← hZ]
    pointwise
    first | rfl | simp only [hZ] | skip
  · -- output 9
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out9_at m c a b).symm
    simp only [← hZ]
    pointwise
    first | rfl | simp only [hZ] | skip
  · -- output 10
    rw [eZ]
    funext i
    obtain ⟨a, b, rfl⟩ : ∃ (a : Fin 65536) (b : Fin 512), i = ix2 a b := ⟨i 0, i 1, eq_ix2 i⟩
    clear h0 h1 h2 h3 h4 h5 h6 h7 hargs eZ
    refine Eq.trans ?_ (out10_at m c a b).symm
    simp only [← hZ]
    pointwise
    first | rfl | simp only [hZ] | skip
  · -- output 11
    rw [eZ]
    funext i
    obtain ⟨a, b, rfl⟩ : ∃ (a : Fin 65536) (b : Fin 3072), i = ix2 a b := ⟨i 0, i 1, eq_ix2 i⟩
    clear h0 h1 h2 h3 h4 h5 h6 h7 hargs eZ
    refine Eq.trans ?_ (out11_at m c a b).symm
    unfold Ideal.logistic
    simp only [← hZ]
    rw [← ofBits_one]
    pointwise
    first | rfl | simp only [hZ] | skip

end Cert.Proof.InprojClaims
end
-- ==== Proof.Merge.lean ====
module
public import proofs.«01_k».proof.Proof.Gen.MergeIdeal.Value
public import proofs.«01_k».proof.Proof.Reals
public import Idealize.ShloMosaic.Lib.Pipeline.ValueKit
public import Idealize.ShloMosaic.Lib.Pipeline.ReadBack

/-!
The merge: the kernel's output array, element by element.
-/

@[expose] public section

set_option maxRecDepth 16384

noncomputable section
open Idealize.ShloMosaic Idealize.ShloMosaic.TcCoe Idealize.SL.Sem

namespace Cert.Layer.Merge
open Cert.MergeIdeal Cert.MergeIdeal.Gen

variable (m : (ℓ : Loc nD τ sig) → Buf (Elt Ideal) ℓ)

/-! ## The mathematics -/

/-- One spatially gated channel: `u` times the mixed value rows of its chunk plus the bias. -/
def mixed (u : EReal) (w v : Fin 128 → EReal) (b : EReal) : EReal := u * (∑ k, w k * v k + b)

/-- A gated branch: its gate times its projection. -/
def branch (s : EReal) (a w : Fin 512 → EReal) : EReal := s * ∑ k, a k * w k

/-- A merged channel: the residual plus the output projection of the merged branches. -/
def merged (x : EReal) (M w : Fin 1024 → EReal) : EReal := x + ∑ k, M k * w k

/-! ## The grid -/

/-- The printed index maps, decided over the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0, 0] ∧ win0_8.index t = ![0, 0, 0] ∧ win0_9.index t = ![0, 0] ∧ win0_10.index t = ![t.val, 0] :=
  (by decide +kernel : ∀ t : Fin grid0.N, _)

theorem points (t : Fin cfg0.N) : t.val < 128 := lt_of_lt_of_eq t.isLt N_0

/-- Row `r` of tile `t` as a token. -/
def row (t : Fin cfg0.N) (r : Fin 512) : Fin 65536 := ⟨512 * t.val + r.val, by have := points t; have := r.isLt; omega⟩

/-- Every token is a row of a tile. -/
theorem exists_row (R : Fin 65536) : ∃ t r, R = row t r :=
  ⟨⟨R.val / 512, by have := R.isLt; rw [show cfg0.N = 128 from N_0]; omega⟩, ⟨R.val % 512, by omega⟩, Fin.ext (by show R.val = 512 * (R.val / 512) + R.val % 512; omega)⟩

/-! ## The arguments -/

/-- The first half of the gated MLP. -/
def kU (c : Dev nD) (r : Fin 65536) (k : Fin 512) : EReal := m ((c : Thread nD τ).loc main_arg0) (ix2 r k)
/-- The value half of the gated MLP. -/
def kV (c : Dev nD) (r : Fin 65536) (k : Fin 512) : EReal := m ((c : Thread nD τ).loc main_arg1) (ix2 r k)
/-- The attention branch. -/
def kBo (c : Dev nD) (r : Fin 65536) (k : Fin 512) : EReal := m ((c : Thread nD τ).loc main_arg2) (ix2 r k)
/-- The convolution branch. -/
def kCo (c : Dev nD) (r : Fin 65536) (k : Fin 512) : EReal := m ((c : Thread nD τ).loc main_arg3) (ix2 r k)
/-- The gates. -/
def kSg (c : Dev nD) (r : Fin 65536) (k : Fin 3072) : EReal := m ((c : Thread nD τ).loc main_arg4) (ix2 r k)
/-- The residual. -/
def kX (c : Dev nD) (r : Fin 65536) (k : Fin 1024) : EReal := m ((c : Thread nD τ).loc main_arg5) (ix2 r k)
/-- The spatial weights, zero where the column's block is after the row's. -/
def kWs (c : Dev nD) (g : Fin 4) (i j : Fin 128) : EReal :=
  Scalar.select (lit0 (S128x128.rowMajor (ix2 i j)))
    (show EReal from m ((c : Thread nD τ).loc main_arg6) (ix3 g i j)) (FloatOps.sitofp (F := Ideal) .f32 (0#32))
/-- The spatial bias. -/
def kBs (c : Dev nD) (g : Fin 4) (i : Fin 128) : EReal := m ((c : Thread nD τ).loc main_arg7) (ix2 g i)
/-- The branches' projections. -/
def kWb (c : Dev nD) (n : Fin 3) (k : Fin 512) (d : Fin 1024) : EReal := m ((c : Thread nD τ).loc main_arg8) (ix3 n k d)
/-- The output projection. -/
def kWo (c : Dev nD) (k d : Fin 1024) : EReal := m ((c : Thread nD τ).loc main_arg9) (ix2 k d)

/-! ## The host's arrays -/

/-- The branches' projections, cast. -/
theorem wb_at (c : Dev nD) (n : Fin 3) (k : Fin 512) (d : Fin 1024) : (show EReal from V m c main_v1 (ix3 n k d)) = kWb m c n k d := by
  unfold kWb
  show (StableHlo.after [hostOps0, hostOps0_1, hostOps0_2].flatten (fun b => m (c, b)) (Proc.tc.devRef main_v1) (ix3 n k d)) = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  try rfl

/-- The output projection, cast. -/
theorem wo_at (c : Dev nD) (k d : Fin 1024) : (show EReal from V m c main_v2 (ix2 k d)) = kWo m c k d := by
  unfold kWo
  show (StableHlo.after [hostOps0, hostOps0_1, hostOps0_2].flatten (fun b => m (c, b)) (Proc.tc.devRef main_v2) (ix2 k d)) = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  try rfl

/-- The repeated bias. -/
theorem bsb_at (c : Dev nD) (g : Fin 4) (i d : Fin 128) : (show EReal from V m c main_v8 (ix3 g i d)) = kBs m c g i := by
  unfold kBs
  show (StableHlo.after [hostOps0, hostOps0_1, hostOps0_2].flatten (fun b => m (c, b)) (Proc.tc.devRef main_v8) (ix3 g i d)) = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  try rfl

/-- The masked spatial weights. -/
theorem wm_at (c : Dev nD) (g : Fin 4) (i j : Fin 128) : (show EReal from V m c main_v9 (ix3 g i j)) = kWs m c g i j := by
  unfold kWs
  show (StableHlo.after [hostOps0, hostOps0_1, hostOps0_2].flatten (fun b => m (c, b)) (Proc.tc.devRef main_v9) (ix3 g i j)) = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  try rfl

/-! ## The blocks -/

theorem blk0 (c : Dev nD) (t : Fin cfg0.N) (r : Fin 512) (k : Fin 512) :
    (show EReal from iblk m c 0 t (ix2 r k)) = kU m c (row t r) k := by
  unfold kU row
  have := points t
  blk_point [iblk, V, idx t]

theorem blk1 (c : Dev nD) (t : Fin cfg0.N) (r : Fin 512) (k : Fin 512) :
    (show EReal from iblk m c 1 t (ix2 r k)) = kV m c (row t r) k := by
  unfold kV row
  have := points t
  blk_point [iblk, V, idx t]

theorem blk2 (c : Dev nD) (t : Fin cfg0.N) (r : Fin 512) (k : Fin 512) :
    (show EReal from iblk m c 2 t (ix2 r k)) = kBo m c (row t r) k := by
  unfold kBo row
  have := points t
  blk_point [iblk, V, idx t]

theorem blk3 (c : Dev nD) (t : Fin cfg0.N) (r : Fin 512) (k : Fin 512) :
    (show EReal from iblk m c 3 t (ix2 r k)) = kCo m c (row t r) k := by
  unfold kCo row
  have := points t
  blk_point [iblk, V, idx t]

theorem blk4 (c : Dev nD) (t : Fin cfg0.N) (r : Fin 512) (k : Fin 3072) :
    (show EReal from iblk m c 4 t (ix2 r k)) = kSg m c (row t r) k := by
  unfold kSg row
  have := points t
  blk_point [iblk, V, idx t]

theorem blk5 (c : Dev nD) (t : Fin cfg0.N) (r : Fin 512) (k : Fin 1024) :
    (show EReal from iblk m c 5 t (ix2 r k)) = kX m c (row t r) k := by
  unfold kX row
  have := points t
  blk_point [iblk, V, idx t]

theorem blk6 (c : Dev nD) (t : Fin cfg0.N) (g : Fin 4) (i j : Fin 128) :
    (show EReal from iblk m c 6 t (ix3 g i j)) = kWs m c g i j := by
  rw [← wm_at]
  have := points t
  blk_ext [iblk, idx t]

theorem blk8 (c : Dev nD) (t : Fin cfg0.N) (n : Fin 3) (k : Fin 512) (d : Fin 1024) :
    (show EReal from iblk m c 8 t (ix3 n k d)) = kWb m c n k d := by
  rw [← wb_at]
  have := points t
  blk_ext [iblk, idx t]

theorem blk9 (c : Dev nD) (t : Fin cfg0.N) (k d : Fin 1024) :
    (show EReal from iblk m c 9 t (ix2 k d)) = kWo m c k d := by
  rw [← wo_at]
  have := points t
  blk_ext [iblk, idx t]

theorem blk7 (c : Dev nD) (t : Fin cfg0.N) (g : Fin 4) (i d : Fin 128) :
    (show EReal from iblk m c 7 t (ix3 g i d)) = kBs m c g i := by
  rw [← bsb_at m c g i d]
  have := points t
  blk_ext [iblk, idx t]

/-! ## The payloads -/

/-- A gated 128×128 piece at an element. -/
theorem pay2_at (w : Vec Ideal S1x128x128 .bf16) (v : Vec Ideal S128x128 .f32) (b : Vec Ideal S1x128x128 .f32) (u : Vec Ideal S128x128 .bf16) (i j : Fin 128) :
    (show EReal from k0_pay2 (F := Ideal) w v b u (ix2 i j)) = mixed (u (ix2 i j)) (fun k => w (ix3 0 i k)) (fun k => v (ix2 k j)) (b (ix3 0 i j)) := by
  unfold mixed
  pointwise [k0_pay2]
  try rfl

/-- A gated 128×128 piece at an element. -/
theorem pay3_at (w : Vec Ideal S1x128x128 .bf16) (v : Vec Ideal S128x128 .f32) (b : Vec Ideal S1x128x128 .f32) (u : Vec Ideal S128x128 .bf16) (i j : Fin 128) :
    (show EReal from k0_pay3 (F := Ideal) w v b u (ix2 i j)) = mixed (u (ix2 i j)) (fun k => w (ix3 0 i k)) (fun k => v (ix2 k j)) (b (ix3 0 i j)) := by
  unfold mixed
  pointwise [k0_pay3]
  try rfl

/-- A gated 128×128 piece at an element. -/
theorem pay4_at (w : Vec Ideal S1x128x128 .bf16) (v : Vec Ideal S128x128 .f32) (b : Vec Ideal S1x128x128 .f32) (u : Vec Ideal S128x128 .bf16) (i j : Fin 128) :
    (show EReal from k0_pay4 (F := Ideal) w v b u (ix2 i j)) = mixed (u (ix2 i j)) (fun k => w (ix3 0 i k)) (fun k => v (ix2 k j)) (b (ix3 0 i j)) := by
  unfold mixed
  pointwise [k0_pay4]
  try rfl

/-- A gated 128×128 piece at an element. -/
theorem pay5_at (w : Vec Ideal S1x128x128 .bf16) (v : Vec Ideal S128x128 .f32) (b : Vec Ideal S1x128x128 .f32) (u : Vec Ideal S128x128 .bf16) (i j : Fin 128) :
    (show EReal from k0_pay5 (F := Ideal) w v b u (ix2 i j)) = mixed (u (ix2 i j)) (fun k => w (ix3 0 i k)) (fun k => v (ix2 k j)) (b (ix3 0 i j)) := by
  unfold mixed
  pointwise [k0_pay5]
  try rfl

/-- A gated 128×128 piece at an element. -/
theorem pay6_at (w : Vec Ideal S1x128x128 .bf16) (v : Vec Ideal S128x128 .f32) (b : Vec Ideal S1x128x128 .f32) (u : Vec Ideal S128x128 .bf16) (i j : Fin 128) :
    (show EReal from k0_pay6 (F := Ideal) w v b u (ix2 i j)) = mixed (u (ix2 i j)) (fun k => w (ix3 0 i k)) (fun k => v (ix2 k j)) (b (ix3 0 i j)) := by
  unfold mixed
  pointwise [k0_pay6]
  try rfl

/-- A gated 128×128 piece at an element. -/
theorem pay7_at (w : Vec Ideal S1x128x128 .bf16) (v : Vec Ideal S128x128 .f32) (b : Vec Ideal S1x128x128 .f32) (u : Vec Ideal S128x128 .bf16) (i j : Fin 128) :
    (show EReal from k0_pay7 (F := Ideal) w v b u (ix2 i j)) = mixed (u (ix2 i j)) (fun k => w (ix3 0 i k)) (fun k => v (ix2 k j)) (b (ix3 0 i j)) := by
  unfold mixed
  pointwise [k0_pay7]
  try rfl

/-- A gated 128×128 piece at an element. -/
theorem pay10_at (w : Vec Ideal S1x128x128 .bf16) (v : Vec Ideal S128x128 .f32) (b : Vec Ideal S1x128x128 .f32) (u : Vec Ideal S128x128 .bf16) (i j : Fin 128) :
    (show EReal from k0_pay10 (F := Ideal) w v b u (ix2 i j)) = mixed (u (ix2 i j)) (fun k => w (ix3 0 i k)) (fun k => v (ix2 k j)) (b (ix3 0 i j)) := by
  unfold mixed
  pointwise [k0_pay10]
  try rfl

/-- A gated 128×128 piece at an element. -/
theorem pay13_at (w : Vec Ideal S1x128x128 .bf16) (v : Vec Ideal S128x128 .f32) (b : Vec Ideal S1x128x128 .f32) (u : Vec Ideal S128x128 .bf16) (i j : Fin 128) :
    (show EReal from k0_pay13 (F := Ideal) w v b u (ix2 i j)) = mixed (u (ix2 i j)) (fun k => w (ix3 0 i k)) (fun k => v (ix2 k j)) (b (ix3 0 i j)) := by
  unfold mixed
  pointwise [k0_pay13]
  try rfl

/-- A gated 128×128 piece at an element. -/
theorem pay17_at (w : Vec Ideal S1x128x128 .bf16) (v : Vec Ideal S128x128 .f32) (b : Vec Ideal S1x128x128 .f32) (u : Vec Ideal S128x128 .bf16) (i j : Fin 128) :
    (show EReal from k0_pay17 (F := Ideal) w v b u (ix2 i j)) = mixed (u (ix2 i j)) (fun k => w (ix3 0 i k)) (fun k => v (ix2 k j)) (b (ix3 0 i j)) := by
  unfold mixed
  pointwise [k0_pay17]
  try rfl

/-- A gated 128×128 piece at an element. -/
theorem pay20_at (w : Vec Ideal S1x128x128 .bf16) (v : Vec Ideal S128x128 .f32) (b : Vec Ideal S1x128x128 .f32) (u : Vec Ideal S128x128 .bf16) (i j : Fin 128) :
    (show EReal from k0_pay20 (F := Ideal) w v b u (ix2 i j)) = mixed (u (ix2 i j)) (fun k => w (ix3 0 i k)) (fun k => v (ix2 k j)) (b (ix3 0 i j)) := by
  unfold mixed
  pointwise [k0_pay20]
  try rfl

/-- A gated 128×128 piece at an element. -/
theorem pay23_at (w : Vec Ideal S1x128x128 .bf16) (v : Vec Ideal S128x128 .f32) (b : Vec Ideal S1x128x128 .f32) (u : Vec Ideal S128x128 .bf16) (i j : Fin 128) :
    (show EReal from k0_pay23 (F := Ideal) w v b u (ix2 i j)) = mixed (u (ix2 i j)) (fun k => w (ix3 0 i k)) (fun k => v (ix2 k j)) (b (ix3 0 i j)) := by
  unfold mixed
  pointwise [k0_pay23]
  try rfl

/-- A gated 128×128 piece at an element. -/
theorem pay9_at (w : Vec Ideal S1x128x128 .bf16) (v : Vec Ideal S128x128 .f32) (b : Vec Ideal S1x128x128 .f32) (u : Vec Ideal S128x128 .bf16) (i j : Fin 128) :
    (show EReal from (k0_pay9 (F := Ideal) (k0_pay8 w) v b u) (ix2 i j)) = mixed (u (ix2 i j)) (fun k => w (ix3 0 i k)) (fun k => v (ix2 k j)) (b (ix3 0 i j)) := by
  unfold mixed
  pointwise [k0_pay9, k0_pay8]
  try rfl

/-- A gated 128×128 piece at an element. -/
theorem pay12_at (w : Vec Ideal S1x128x128 .bf16) (v : Vec Ideal S128x128 .f32) (b : Vec Ideal S1x128x128 .f32) (u : Vec Ideal S128x128 .bf16) (i j : Fin 128) :
    (show EReal from (k0_pay12 (F := Ideal) (k0_pay11 w) v b u) (ix2 i j)) = mixed (u (ix2 i j)) (fun k => w (ix3 0 i k)) (fun k => v (ix2 k j)) (b (ix3 0 i j)) := by
  unfold mixed
  pointwise [k0_pay12, k0_pay11]
  try rfl

/-- A gated 128×128 piece at an element. -/
theorem pay16_at (w : Vec Ideal S1x128x128 .bf16) (v : Vec Ideal S128x128 .f32) (b : Vec Ideal S1x128x128 .f32) (u : Vec Ideal S128x128 .bf16) (i j : Fin 128) :
    (show EReal from (k0_pay16 (F := Ideal) (k0_pay14 w) (k0_pay15 v) b u) (ix2 i j)) = mixed (u (ix2 i j)) (fun k => w (ix3 0 i k)) (fun k => v (ix2 k j)) (b (ix3 0 i j)) := by
  unfold mixed
  pointwise [k0_pay16, k0_pay14, k0_pay15]
  try rfl

/-- A gated 128×128 piece at an element. -/
theorem pay19_at (w : Vec Ideal S1x128x128 .bf16) (v : Vec Ideal S128x128 .f32) (b : Vec Ideal S1x128x128 .f32) (u : Vec Ideal S128x128 .bf16) (i j : Fin 128) :
    (show EReal from (k0_pay19 (F := Ideal) (k0_pay18 w v) b u) (ix2 i j)) = mixed (u (ix2 i j)) (fun k => w (ix3 0 i k)) (fun k => v (ix2 k j)) (b (ix3 0 i j)) := by
  unfold mixed
  pointwise [k0_pay19, k0_pay18]
  try rfl

/-- A gated 128×128 piece at an element. -/
theorem pay22_at (w : Vec Ideal S1x128x128 .bf16) (v : Vec Ideal S128x128 .f32) (b : Vec Ideal S1x128x128 .f32) (u : Vec Ideal S128x128 .bf16) (i j : Fin 128) :
    (show EReal from (k0_pay22 (F := Ideal) (k0_pay21 w v) b u) (ix2 i j)) = mixed (u (ix2 i j)) (fun k => w (ix3 0 i k)) (fun k => v (ix2 k j)) (b (ix3 0 i j)) := by
  unfold mixed
  pointwise [k0_pay22, k0_pay21]
  try rfl

/-- The first branch at an element. -/
theorem pay24_at (a : Vec Ideal S512x512 .bf16) (w : Vec Ideal S1x512x1024 .bf16) (s : Vec Ideal S512x1024 .bf16) (r : Fin 512) (d : Fin 1024) :
    (show EReal from k0_pay24 (F := Ideal) a w s (ix2 r d)) = branch (s (ix2 r d)) (fun k => a (ix2 r k)) (fun k => w (ix3 0 k d)) := by
  unfold branch
  pointwise [k0_pay24]
  try rfl

/-- The merged tile at an element, the first branch given. -/
theorem pay1_at (f : FVec Ideal S512x1024 .f32) (bo : Vec Ideal S512x512 .bf16) (w1 : Vec Ideal S1x512x1024 .bf16) (s1 : Vec Ideal S512x1024 .bf16)
    (co : Vec Ideal S512x512 .bf16) (w2 : Vec Ideal S1x512x1024 .bf16) (s2 : Vec Ideal S512x1024 .bf16) (wo : Vec Ideal S1024x1024 .bf16) (x : Vec Ideal S512x1024 .f32) (r : Fin 512) (d : Fin 1024) :
    (show EReal from k0_pay1 (F := Ideal) f bo w1 s1 co w2 s2 wo x (ix2 r d)) = merged (x (ix2 r d)) (fun e => f (ix2 r e)
      + branch (s1 (ix2 r e)) (fun k => bo (ix2 r k)) (fun k => w1 (ix3 0 k e)) + branch (s2 (ix2 r e)) (fun k => co (ix2 r k)) (fun k => w2 (ix3 0 k e))) (fun e => wo (ix2 e d)) := by
  unfold merged branch
  pointwise [k0_pay1]
  try rfl

/-! ## The loads -/

/-- One group of a 4×128×128 block. -/
theorem ld_grp {φ : EltTy} (w : Vec Ideal S4x128x128 φ) (q : ℕ) (hq : q < 4) (h : _) (i j : Fin 128) :
    View.ld w (Rect.unit (s := S4x128x128) ![q, 0, 0] S1x128x128.size h) (ix3 0 i j : S1x128x128.Idx) = w (ix3 ⟨q, hq⟩ i j) := by
  refine congrArg w (?_ : (Rect.unit (s := S4x128x128) ![q, 0, 0] S1x128x128.size h).idx (ix3 0 i j : S1x128x128.Idx) = ix3 ⟨q, hq⟩ i j)
  funext a; apply Fin.ext; fin_cases a
  · show q + 1 * 0 = q; omega
  · show 0 + 1 * i.val = i.val; omega
  · show 0 + 1 * j.val = j.val; omega

/-- A 128×128 piece of a 512×512 block. -/
theorem ld_piece {φ : EltTy} (w : Vec Ideal S512x512 φ) (a b : ℕ) (ha : a + 128 ≤ 512) (hb : b + 128 ≤ 512) (h : _) (i j : Fin 128) :
    View.ld w (Rect.unit (s := S512x512) ![a, b] S128x128.size h) (ix2 i j : S128x128.Idx)
      = w (ix2 ⟨a + i.val, by have := i.isLt; omega⟩ ⟨b + j.val, by have := j.isLt; omega⟩) := by
  refine congrArg w (?_ : (Rect.unit (s := S512x512) ![a, b] S128x128.size h).idx (ix2 i j : S128x128.Idx) = ix2 ⟨a + i.val, by have := i.isLt; omega⟩ ⟨b + j.val, by have := j.isLt; omega⟩)
  funext x; apply Fin.ext; fin_cases x
  · show a + 1 * i.val = a + i.val; omega
  · show b + 1 * j.val = b + j.val; omega

/-- One branch's projection. -/
theorem ld_proj (w : Vec Ideal S3x512x1024 .bf16) (q : ℕ) (hq : q < 3) (h : _) (k : Fin 512) (d : Fin 1024) :
    View.ld w (Rect.unit (s := S3x512x1024) ![q, 0, 0] S1x512x1024.size h) (ix3 0 k d : S1x512x1024.Idx) = w (ix3 ⟨q, hq⟩ k d) := by
  refine congrArg w (?_ : (Rect.unit (s := S3x512x1024) ![q, 0, 0] S1x512x1024.size h).idx (ix3 0 k d : S1x512x1024.Idx) = ix3 ⟨q, hq⟩ k d)
  funext a; apply Fin.ext; fin_cases a
  · show q + 1 * 0 = q; omega
  · show 0 + 1 * k.val = k.val; omega
  · show 0 + 1 * d.val = d.val; omega

/-- One branch's gates. -/
theorem ld_gate (w : Vec Ideal S512x3072 .bf16) (o : ℕ) (ho : o + 1024 ≤ 3072) (h : _) (r : Fin 512) (d : Fin 1024) :
    View.ld w (Rect.unit (s := S512x3072) ![0, o] S512x1024.size h) (ix2 r d : S512x1024.Idx) = w (ix2 r ⟨o + d.val, by have := d.isLt; omega⟩) := by
  refine congrArg w (?_ : (Rect.unit (s := S512x3072) ![0, o] S512x1024.size h).idx (ix2 r d : S512x1024.Idx) = ix2 r ⟨o + d.val, by have := d.isLt; omega⟩)
  funext a; apply Fin.ext; fin_cases a
  · show 0 + 1 * r.val = r.val; omega
  · show o + 1 * d.val = o + d.val; omega

/-! ## The gated tile -/

/-- The group of channel `d`. -/
def grp (d : Fin 512) : Fin 4 := ⟨d.val / 128, by have := d.isLt; omega⟩
/-- The place of channel `d` in its group, or of row `d` in its chunk. -/
def pos (d : Fin 512) : Fin 128 := ⟨d.val % 128, by omega⟩
/-- Row `k` of the chunk of row `r`. -/
def mate (r : Fin 512) (k : Fin 128) : Fin 512 := ⟨128 * (r.val / 128) + k.val, by have := r.isLt; have := k.isLt; omega⟩

/-- The gated tile at an element. -/
def aTile (u : Vec Ideal S512x512 .bf16) (v : Vec Ideal S512x512 .f32) (w : Vec Ideal S4x128x128 .bf16) (b : Vec Ideal S4x128x128 .f32) (r d : Fin 512) : EReal :=
  mixed (u (ix2 r d)) (fun k => w (ix3 (grp d) (pos r) k)) (fun k => v (ix2 (mate r k) d)) (b (ix3 (grp d) (pos r) (pos d)))

/-- The gated tile. -/
def aBlk (u : Vec Ideal S512x512 .bf16) (v : Vec Ideal S512x512 .f32) (w : Vec Ideal S4x128x128 .bf16) (b : Vec Ideal S4x128x128 .f32) : Vec Ideal S512x512 .bf16 :=
  fun i => aTile u v w b (i 0) (i 1)

/-- One stored piece is the gated tile's. -/
theorem piece_at (u : Vec Ideal S512x512 .bf16) (v : Vec Ideal S512x512 .f32) (w : Vec Ideal S4x128x128 .bf16) (bs : Vec Ideal S4x128x128 .f32)
    (n q : Fin 4) (a b p : ℕ) (ha : a = 128 * n.val) (hb : b = 128 * q.val) (hp : p = q.val) (h6 h6' : _) (h1 h0 hx : _)
    (pay : Vec Ideal S1x128x128 .bf16 → Vec Ideal S128x128 .f32 → Vec Ideal S1x128x128 .f32 → Vec Ideal S128x128 .bf16 → FVec Ideal S128x128 .bf16)
    (hpay : ∀ w v b u i j, (show EReal from pay w v b u (ix2 i j)) = mixed (u (ix2 i j)) (fun k => w (ix3 0 i k)) (fun k => v (ix2 k j)) (b (ix3 0 i j)))
    (i : S128x128.Idx) :
    (show EReal from pay (View.ld w (Rect.unit (s := S4x128x128) ![p, 0, 0] S1x128x128.size h6)) (View.ld v (Rect.unit (s := S512x512) ![a, b] S128x128.size h1))
      (View.ld bs (Rect.unit (s := S4x128x128) ![p, 0, 0] S1x128x128.size h6')) (View.ld u (Rect.unit (s := S512x512) ![a, b] S128x128.size h0)) i)
      = aBlk u v w bs ((Rect.unit (s := S512x512) ![a, b] S128x128.size hx).idx i) := by
  obtain ⟨i, j, rfl⟩ : ∃ x y : Fin 128, i = ix2 x y := ⟨i 0, i 1, eq_ix2 i⟩
  have hn := n.isLt
  have hq := q.isLt
  have hi := i.isLt
  have hj := j.isLt
  have ha' : a + 128 ≤ 512 := by omega
  have hb' : b + 128 ≤ 512 := by omega
  have e : (Rect.unit (s := S512x512) ![a, b] S128x128.size hx).idx (ix2 i j : S128x128.Idx) = ix2 ⟨a + i.val, by omega⟩ ⟨b + j.val, by omega⟩ := by
    funext x; apply Fin.ext; fin_cases x
    · show a + 1 * i.val = a + i.val; omega
    · show b + 1 * j.val = b + j.val; omega
  refine (hpay _ _ _ _ i j).trans (Eq.trans ?_ (congrArg (aBlk u v w bs) e).symm)
  show _ = aTile u v w bs ⟨a + i.val, by omega⟩ ⟨b + j.val, by omega⟩
  have eg : grp ⟨b + j.val, by omega⟩ = ⟨p, by omega⟩ := Fin.ext (by show (b + j.val) / 128 = p; omega)
  have er : pos ⟨a + i.val, by omega⟩ = i := Fin.ext (by show (a + i.val) % 128 = i.val; omega)
  have ed : pos ⟨b + j.val, by omega⟩ = j := Fin.ext (by show (b + j.val) % 128 = j.val; omega)
  have em : ∀ k, mate ⟨a + i.val, by omega⟩ k = ⟨a + k.val, by have := k.isLt; omega⟩ := fun k => Fin.ext (by show 128 * ((a + i.val) / 128) + k.val = a + k.val; omega)
  unfold aTile
  rw [eg, er, ed]
  simp only [em]
  have l0 := ld_piece u a b ha' hb' h0 i j
  have l1 := funext fun k => ld_piece v a b ha' hb' h1 k j
  have l6 := funext fun k => ld_grp w p (by omega) h6 i k
  have l7 := ld_grp bs p (by omega) h6' i j
  exact congr (congr (congr (congrArg mixed l0) l6) l1) l7

/-- What is read back of a buffer tiled by pieces of `E` is `E`. -/
theorem read_tiles (v : View sig .tc .vmem S512x512 .bf16) (L : List (View.Piece (Elt Ideal) S512x512 .bf16)) (E : Vec Ideal S512x512 .bf16) (h : _)
    (ht : View.Piece.tiledL L S128x128.size = true) (hL : ∀ p ∈ L, ∀ x, p.snd x = E (p.fst.emb x)) (A : Vec Ideal S512x512 .bf16)
    (hA : v.readCov L (Rect.unit (s := S512x512) ![0, 0] ![512, 512] h).toLoadRect = A) (r k : Fin 512) : A (ix2 r k) = E (ix2 r k) := by
  have cov := View.cover_of_tiledL L S128x128.size ht
  refine (congrFun hA.symm (ix2 r k)).trans ?_
  refine (congrFun (View.readCov_eq_canon v L (Rect.unit (s := S512x512) ![0, 0] ![512, 512] h).toLoadRect (fun j => cov _)) (ix2 r k : S512x512.Idx)).trans ?_
  refine (View.canon_apply_of_pieces E L hL _ (cov _)).trans ?_
  refine congrArg E (?_ : (Rect.unit (s := S512x512) ![0, 0] ![512, 512] h).toLoadRect.idx (ix2 r k : S512x512.Idx) = (ix2 r k : S512x512.Idx))
  funext a; apply Fin.ext; fin_cases a
  · show 0 + 1 * r.val = r.val; omega
  · show 0 + 1 * k.val = k.val; omega

/-! ## The tile -/

/-- A tile's output channel. -/
def tile (u : Vec Ideal S512x512 .bf16) (v : Vec Ideal S512x512 .f32) (bo co : Vec Ideal S512x512 .bf16) (s : Vec Ideal S512x3072 .bf16) (x : Vec Ideal S512x1024 .f32)
    (w : Vec Ideal S4x128x128 .bf16) (b : Vec Ideal S4x128x128 .f32) (wb : Vec Ideal S3x512x1024 .bf16) (wo : Vec Ideal S1024x1024 .bf16) (r : Fin 512) (d : Fin 1024) : EReal :=
  merged (x (ix2 r d)) (fun e =>
      branch (s (ix2 r ⟨0 + e.val, by have := e.isLt; omega⟩)) (fun k => aTile u v w b r k) (fun k => wb (ix3 ⟨0, by decide⟩ k e))
    + branch (s (ix2 r ⟨1024 + e.val, by have := e.isLt; omega⟩)) (fun k => bo (ix2 r k)) (fun k => wb (ix3 ⟨1, by decide⟩ k e))
    + branch (s (ix2 r ⟨2048 + e.val, by have := e.isLt; omega⟩)) (fun k => co (ix2 r k)) (fun k => wb (ix3 ⟨2, by decide⟩ k e)))
    (fun e => wo (ix2 e d))

/-- What a point leaves in the output's tile. -/
theorem body_at (c : Dev nD) (t : Fin cfg0.N) (r : Fin 512) (d : Fin 1024) :
    (show EReal from outsAt0 m c t (ix2 r d)) = tile (iblk m c 0 t) (iblk m c 1 t) (iblk m c 2 t) (iblk m c 3 t) (iblk m c 4 t) (iblk m c 5 t)
      (iblk m c 6 t) (iblk m c 7 t) (iblk m c 8 t) (iblk m c 9 t) r d := by
  suffices h : outsAt0 m c t = (fun i => tile (iblk m c 0 t) (iblk m c 1 t) (iblk m c 2 t) (iblk m c 3 t) (iblk m c 4 t) (iblk m c 5 t)
      (iblk m c 6 t) (iblk m c 7 t) (iblk m c 8 t) (iblk m c 9 t) (i 0) (i 1) : Vec Ideal S512x1024 .f32) from congrFun h (ix2 r d)
  unfold outsAt0
  frame_out
  generalize hA : View.readCov (Val := Elt Ideal) _ _ _ = A
  have eA : ∀ r k : Fin 512, (show EReal from A (ix2 r k)) = aTile (iblk m c 0 t) (iblk m c 1 t) (iblk m c 6 t) (iblk m c 7 t) r k := by
    intro r k
    refine read_tiles _ _ (aBlk (iblk m c 0 t) (iblk m c 1 t) (iblk m c 6 t) (iblk m c 7 t)) _ (by sl_kernel_rfl) ?_ A hA r k
    refine List.forall_mem_cons.mpr ⟨piece_at (iblk m c 0 t) (iblk m c 1 t) (iblk m c 6 t) (iblk m c 7 t) 3 3 384 384 3 (by decide) (by decide) (by decide)
      (by decide) (by decide) (by decide) (by decide) (by decide) (k0_pay23 (F := Ideal)) pay23_at, ?_⟩
    refine List.forall_mem_cons.mpr ⟨piece_at (iblk m c 0 t) (iblk m c 1 t) (iblk m c 6 t) (iblk m c 7 t) 3 2 384 256 2 (by decide) (by decide) (by decide)
      (by decide) (by decide) (by decide) (by decide) (by decide) (fun w v b u => k0_pay22 (k0_pay21 w v) b u) pay22_at, ?_⟩
    refine List.forall_mem_cons.mpr ⟨piece_at (iblk m c 0 t) (iblk m c 1 t) (iblk m c 6 t) (iblk m c 7 t) 3 1 384 128 1 (by decide) (by decide) (by decide)
      (by decide) (by decide) (by decide) (by decide) (by decide) (k0_pay20 (F := Ideal)) pay20_at, ?_⟩
    refine List.forall_mem_cons.mpr ⟨piece_at (iblk m c 0 t) (iblk m c 1 t) (iblk m c 6 t) (iblk m c 7 t) 3 0 384 0 0 (by decide) (by decide) (by decide)
      (by decide) (by decide) (by decide) (by decide) (by decide) (fun w v b u => k0_pay19 (k0_pay18 w v) b u) pay19_at, ?_⟩
    refine List.forall_mem_cons.mpr ⟨piece_at (iblk m c 0 t) (iblk m c 1 t) (iblk m c 6 t) (iblk m c 7 t) 2 3 256 384 3 (by decide) (by decide) (by decide)
      (by decide) (by decide) (by decide) (by decide) (by decide) (k0_pay17 (F := Ideal)) pay17_at, ?_⟩
    refine List.forall_mem_cons.mpr ⟨piece_at (iblk m c 0 t) (iblk m c 1 t) (iblk m c 6 t) (iblk m c 7 t) 2 2 256 256 2 (by decide) (by decide) (by decide)
      (by decide) (by decide) (by decide) (by decide) (by decide) (fun w v b u => k0_pay16 (k0_pay14 w) (k0_pay15 v) b u) pay16_at, ?_⟩
    refine List.forall_mem_cons.mpr ⟨piece_at (iblk m c 0 t) (iblk m c 1 t) (iblk m c 6 t) (iblk m c 7 t) 2 1 256 128 1 (by decide) (by decide) (by decide)
      (by decide) (by decide) (by decide) (by decide) (by decide) (k0_pay13 (F := Ideal)) pay13_at, ?_⟩
    refine List.forall_mem_cons.mpr ⟨piece_at (iblk m c 0 t) (iblk m c 1 t) (iblk m c 6 t) (iblk m c 7 t) 2 0 256 0 0 (by decide) (by decide) (by decide)
      (by decide) (by decide) (by decide) (by decide) (by decide) (fun w v b u => k0_pay12 (k0_pay11 w) v b u) pay12_at, ?_⟩
    refine List.forall_mem_cons.mpr ⟨piece_at (iblk m c 0 t) (iblk m c 1 t) (iblk m c 6 t) (iblk m c 7 t) 1 3 128 384 3 (by decide) (by decide) (by decide)
      (by decide) (by decide) (by decide) (by decide) (by decide) (k0_pay10 (F := Ideal)) pay10_at, ?_⟩
    refine List.forall_mem_cons.mpr ⟨piece_at (iblk m c 0 t) (iblk m c 1 t) (iblk m c 6 t) (iblk m c 7 t) 1 2 128 256 2 (by decide) (by decide) (by decide)
      (by decide) (by decide) (by decide) (by decide) (by decide) (fun w v b u => k0_pay9 (k0_pay8 w) v b u) pay9_at, ?_⟩
    refine List.forall_mem_cons.mpr ⟨piece_at (iblk m c 0 t) (iblk m c 1 t) (iblk m c 6 t) (iblk m c 7 t) 1 1 128 128 1 (by decide) (by decide) (by decide)
      (by decide) (by decide) (by decide) (by decide) (by decide) (k0_pay7 (F := Ideal)) pay7_at, ?_⟩
    refine List.forall_mem_cons.mpr ⟨piece_at (iblk m c 0 t) (iblk m c 1 t) (iblk m c 6 t) (iblk m c 7 t) 1 0 128 0 0 (by decide) (by decide) (by decide)
      (by decide) (by decide) (by decide) (by decide) (by decide) (k0_pay6 (F := Ideal)) pay6_at, ?_⟩
    refine List.forall_mem_cons.mpr ⟨piece_at (iblk m c 0 t) (iblk m c 1 t) (iblk m c 6 t) (iblk m c 7 t) 0 3 0 384 3 (by decide) (by decide) (by decide)
      (by decide) (by decide) (by decide) (by decide) (by decide) (k0_pay5 (F := Ideal)) pay5_at, ?_⟩
    refine List.forall_mem_cons.mpr ⟨piece_at (iblk m c 0 t) (iblk m c 1 t) (iblk m c 6 t) (iblk m c 7 t) 0 2 0 256 2 (by decide) (by decide) (by decide)
      (by decide) (by decide) (by decide) (by decide) (by decide) (k0_pay4 (F := Ideal)) pay4_at, ?_⟩
    refine List.forall_mem_cons.mpr ⟨piece_at (iblk m c 0 t) (iblk m c 1 t) (iblk m c 6 t) (iblk m c 7 t) 0 1 0 128 1 (by decide) (by decide) (by decide)
      (by decide) (by decide) (by decide) (by decide) (by decide) (k0_pay3 (F := Ideal)) pay3_at, ?_⟩
    refine List.forall_mem_cons.mpr ⟨piece_at (iblk m c 0 t) (iblk m c 1 t) (iblk m c 6 t) (iblk m c 7 t) 0 0 0 0 0 (by decide) (by decide) (by decide)
      (by decide) (by decide) (by decide) (by decide) (by decide) (k0_pay2 (F := Ideal)) pay2_at, ?_⟩
    exact List.forall_mem_nil _
  funext i
  obtain ⟨r, d, rfl⟩ : ∃ (r : Fin 512) (d : Fin 1024), i = ix2 r d := ⟨i 0, i 1, eq_ix2 i⟩
  refine (pay1_at _ _ _ _ _ _ _ _ _ r d).trans ?_
  refine congrArg (fun M => merged _ M _) (funext fun e => ?_)
  refine congrArg₂ (· + ·) (congrArg₂ (· + ·) ((pay24_at _ _ _ r e).trans ?_) ?_) ?_
  · exact congr (congr (congrArg branch (ld_gate _ 0 (by decide) _ r e)) (funext fun k => eA r k)) (funext fun k => ld_proj _ 0 (by decide) _ k e)
  · exact congr (congr (congrArg branch (ld_gate _ 1024 (by decide) _ r e)) rfl) (funext fun k => ld_proj _ 1 (by decide) _ k e)
  · exact congr (congr (congrArg branch (ld_gate _ 2048 (by decide) _ r e)) rfl) (funext fun k => ld_proj _ 2 (by decide) _ k e)

/-! ## The array -/

/-- Row `k` of the chunk of token `R`. -/
def chunk (R : Fin 65536) (k : Fin 128) : Fin 65536 := ⟨128 * (R.val / 128) + k.val, by have := R.isLt; have := k.isLt; omega⟩
/-- The place of token `R` in its chunk. -/
def place (R : Fin 65536) : Fin 128 := ⟨R.val % 128, by omega⟩

/-- The gated channel `d` of token `R`. -/
def kA (c : Dev nD) (R : Fin 65536) (d : Fin 512) : EReal :=
  mixed (kU m c R d) (kWs m c (grp d) (place R)) (fun k => kV m c (chunk R k) d) (kBs m c (grp d) (place R))

/-- The merged channel `e` of token `R`. -/
def kM (c : Dev nD) (R : Fin 65536) (e : Fin 1024) : EReal :=
  branch (kSg m c R ⟨0 + e.val, by have := e.isLt; omega⟩) (kA m c R) (fun k => kWb m c ⟨0, by decide⟩ k e)
  + branch (kSg m c R ⟨1024 + e.val, by have := e.isLt; omega⟩) (kBo m c R) (fun k => kWb m c ⟨1, by decide⟩ k e)
  + branch (kSg m c R ⟨2048 + e.val, by have := e.isLt; omega⟩) (kCo m c R) (fun k => kWb m c ⟨2, by decide⟩ k e)

/-- A tile's gated channel is its token's. -/
theorem aTile_eq (c : Dev nD) (t : Fin cfg0.N) (r d : Fin 512) :
    aTile (iblk m c 0 t) (iblk m c 1 t) (iblk m c 6 t) (iblk m c 7 t) r d = kA m c (row t r) d := by
  have er : pos r = place (row t r) := Fin.ext (by show r.val % 128 = (512 * t.val + r.val) % 128; omega)
  have em : ∀ k, row t (mate r k) = chunk (row t r) k := fun k => Fin.ext (by
    show 512 * t.val + (128 * (r.val / 128) + k.val) = 128 * ((512 * t.val + r.val) / 128) + k.val; omega)
  unfold aTile kA
  rw [← er]
  refine congr (congr (congr (congrArg mixed (blk0 m c t r d)) (funext fun k => blk6 m c t _ _ k)) (funext fun k => ?_)) (blk7 m c t _ _ _)
  exact (blk1 m c t (mate r k) d).trans (congrArg (fun R => kV m c R d) (em k))

/-- A row of the final array is the row its tile wrote. -/
theorem arr_at (c : Dev nD) (t : Fin cfg0.N) (r : Fin 512) (d : Fin 1024) :
    (show EReal from (dats m 0 c).arrAt 10 cfg0.N (ix2 (row t r) d)) = outsAt0 m c t (ix2 r d) := by
  have h := congrFun (Value.blocks10 m c t (flush0_10 t)) (ix2 r d)
  rw [Value.flushed10] at h
  have e : ((cfg0.win 10).blk t).view.emb (ix2 r d : S512x1024.Idx) = ix2 (row t r) d := by
    have i5 := (idx t).2.2.2.2.2.2.2.2.2.2
    funext a; apply Fin.ext
    fin_cases a
    · show win0_10.index t 0 * 512 + 1 * r.val = 512 * t.val + r.val
      rw [i5]; show t.val * 512 + 1 * r.val = _; omega
    · show win0_10.index t 1 * 1024 + 1 * d.val = d.val
      rw [i5]; show 0 * 1024 + 1 * d.val = _; omega
  exact (congrArg ((dats m 0 c).arrAt 10 cfg0.N) e).symm.trans h

/-- The kernel's output. -/
theorem out_at (c : Dev nD) (R : Fin 65536) (d : Fin 1024) :
    (show EReal from (dats m 0 c).arrAt 10 cfg0.N (ix2 R d)) = merged (kX m c R d) (kM m c R) (fun e => kWo m c e d) := by
  obtain ⟨t, r, rfl⟩ := exists_row R
  refine (arr_at m c t r d).trans ((body_at m c t r d).trans ?_)
  unfold tile
  refine congr (congr (congrArg merged (blk5 m c t r d)) (funext fun e => ?_)) (funext fun e => blk9 m c t e d)
  unfold kM
  refine congrArg₂ (· + ·) (congrArg₂ (· + ·) ?_ ?_) ?_
  · exact congr (congr (congrArg branch (blk4 m c t r _)) (funext fun k => aTile_eq m c t r k)) (funext fun k => blk8 m c t _ k e)
  · exact congr (congr (congrArg branch (blk4 m c t r _)) (funext fun k => blk2 m c t r k)) (funext fun k => blk8 m c t _ k e)
  · exact congr (congr (congrArg branch (blk4 m c t r _)) (funext fun k => blk3 m c t r k)) (funext fun k => blk8 m c t _ k e)

end Cert.Layer.Merge
end
-- ==== Proof.MergeRef.lean ====
module
public import proofs.«01_k».proof.Proof.Gen.MergeRefIdeal.Run
public import proofs.«01_k».proof.Proof.Reals
public import Idealize.ShloMosaic.Lib.Pipeline.ValueKit
public import Idealize.ShloMosaic.Lib.Pipeline.ReadBack

/-!
The merge: the reference's operations, element by element.
-/

@[expose] public section

set_option maxRecDepth 16384

noncomputable section
open Idealize.ShloMosaic Idealize.ShloMosaic.TcCoe Idealize.SL.Sem

namespace Cert.Layer.MergeRef
open Cert.MergeRefIdeal

/-- Token `l` of sequence `b`. -/
def tok (b : Fin 32) (l : Fin 2048) : Fin 65536 := ⟨2048 * b.val + l.val, by have := b.isLt; have := l.isLt; omega⟩

/-- Every token is one of a sequence. -/
theorem exists_tok (R : Fin 65536) : ∃ b l, R = tok b l :=
  ⟨⟨R.val / 2048, by have := R.isLt; omega⟩, ⟨R.val % 2048, by omega⟩, Fin.ext (by show R.val = 2048 * (R.val / 2048) + R.val % 2048; omega)⟩

/-- Tokens gathered into sequences. -/
theorem fold_at (x : S65536x512.Idx → EReal) (h : _) (b : Fin 32) (l : Fin 2048) (d : Fin 512) :
    shapeCast S32x2048x512 x h (ix3 b l d) = x (ix2 (tok b l) d) := by
  refine shapeCast_apply x h _ _ ?_
  refine (Shape.rowMajor_val_two _).trans (Eq.trans ?_ (Shape.rowMajor_val_three _).symm)
  show (2048 * b.val + l.val) * 512 + d.val = (b.val * 2048 + l.val) * 512 + d.val
  omega

/-- Sequences cut into chunks and channels into groups. -/
theorem split_at (x : S32x2048x512.Idx → EReal) (h : _) (b : Fin 32) (n : Fin 16) (i : Fin 128) (g : Fin 4) (e : Fin 128) :
    shapeCast S32x16x128x4x128 x h (ix5 b n i g e)
      = x (ix3 b ⟨128 * n.val + i.val, by have := n.isLt; have := i.isLt; omega⟩ ⟨128 * g.val + e.val, by have := g.isLt; have := e.isLt; omega⟩) := by
  refine shapeCast_apply x h _ _ ?_
  refine (Shape.rowMajor_val_three _).trans (Eq.trans ?_ (Shape.rowMajor_val_five _).symm)
  show (b.val * 2048 + (128 * n.val + i.val)) * 512 + (128 * g.val + e.val) = (((b.val * 16 + n.val) * 128 + i.val) * 4 + g.val) * 128 + e.val
  omega

/-- Chunks and groups put together again. -/
theorem join_at (x : S32x16x128x4x128.Idx → EReal) (h : _) (b : Fin 32) (l : Fin 2048) (d : Fin 512) :
    shapeCast S32x2048x512 x h (ix3 b l d)
      = x (ix5 b ⟨l.val / 128, by have := l.isLt; omega⟩ ⟨l.val % 128, by omega⟩ ⟨d.val / 128, by have := d.isLt; omega⟩ ⟨d.val % 128, by omega⟩) := by
  refine shapeCast_apply x h _ _ ?_
  refine (Shape.rowMajor_val_five _).trans (Eq.trans ?_ (Shape.rowMajor_val_three _).symm)
  show (((b.val * 16 + l.val / 128) * 128 + l.val % 128) * 4 + d.val / 128) * 128 + d.val % 128 = (b.val * 2048 + l.val) * 512 + d.val
  omega

/-- The gates of the three branches. -/
theorem gate_at (x : S65536x3072.Idx → EReal) (h h' : _) (b : Fin 32) (l : Fin 2048) (n : Fin 3) (e : Fin 1024) :
    shapeCast S32x2048x3x1024 (shapeCast S32x2048x3072 x h) h' (ix4 b l n e)
      = x (ix2 (tok b l) ⟨1024 * n.val + e.val, by have := n.isLt; have := e.isLt; omega⟩) := by
  refine (shapeCast_apply _ h' _ (ix3 b l ⟨1024 * n.val + e.val, by have := n.isLt; have := e.isLt; omega⟩) ?_).trans (shapeCast_apply x h _ _ ?_)
  · refine (Shape.rowMajor_val_three _).trans (Eq.trans ?_ (Shape.rowMajor_val_four _).symm)
    show (b.val * 2048 + l.val) * 3072 + (1024 * n.val + e.val) = ((b.val * 2048 + l.val) * 3 + n.val) * 1024 + e.val
    omega
  · refine (Shape.rowMajor_val_two _).trans (Eq.trans ?_ (Shape.rowMajor_val_three _).symm)
    show (2048 * b.val + l.val) * 3072 + (1024 * n.val + e.val) = (b.val * 2048 + l.val) * 3072 + (1024 * n.val + e.val)
    omega

/-- Sequences laid out as tokens. -/
theorem flat_at (x : S32x2048x1024.Idx → EReal) (h : _) (b : Fin 32) (l : Fin 2048) (d : Fin 1024) :
    shapeCast S65536x1024 x h (ix2 (tok b l) d) = x (ix3 b l d) := by
  refine shapeCast_apply x h _ _ ?_
  refine (Shape.rowMajor_val_three _).trans (Eq.trans ?_ (Shape.rowMajor_val_two _).symm)
  show (b.val * 2048 + l.val) * 1024 + d.val = (2048 * b.val + l.val) * 1024 + d.val
  omega

/-- The mixing of a chunk's rows. -/
theorem mix_at (v : FVec Ideal S32x16x128x4x128 .f32) (w : FVec Ideal S4x128x128 .f32) (h : _) (b : Fin 32) (n : Fin 16) (i : Fin 128) (g : Fin 4) (e : Fin 128) :
    transpose S32x16x128x4x128 [1, 2, 4, 0, 3] (Host.dotGeneral (F := Ideal) dot_S32x16x128x4x128_S4x128x128_S4x32x16x128x128_2_2_014_1_3_0 none v w) h (ix5 b n i g e)
      = ∑ k : Fin 128, v (ix5 b n k g e) * w (ix3 g i k) := by
  pointwise
  try rfl

/-- The projections of the three branches. -/
theorem proj_at (w : FVec Ideal S3x512x1024 .f32) (a : FVec Ideal S32x2048x3x512 .f32) (h : _) (b : Fin 32) (l : Fin 2048) (n : Fin 3) (e : Fin 1024) :
    transpose S32x2048x3x1024 [2, 3, 0, 1] (Host.dotGeneral (F := Ideal) dot_S3x512x1024_S32x2048x3x512_S3x1024x32x2048_1_3_2_01_0_2 none w a) h (ix4 b l n e)
      = ∑ k : Fin 512, w (ix3 n k e) * a (ix4 b l n k) := by
  pointwise
  try rfl

/-- The sum over the three branches. -/
theorem sum_at (z : FVec Ideal S32x2048x3x1024 .f32) (h h' : _) (b : Fin 32) (l : Fin 2048) (e : Fin 1024) :
    Host.reduceAdd (F := Ideal) (t := S32x2048x1024) z (constant S_ .f32 0x00000000#32) (axes := [2]) h h' (ix3 b l e) = ∑ n : Fin 3, z (ix4 b l n e) := by
  pointwise
  try rfl

/-- The output projection. -/
theorem out_at (a : FVec Ideal S32x2048x1024 .f32) (w : FVec Ideal S1024x1024 .f32) (b : Fin 32) (l : Fin 2048) (d : Fin 1024) :
    Host.dotGeneral (F := Ideal) dot_S32x2048x1024_S1024x1024_S32x2048x1024_2_0_01_1_n_n none a w (ix3 b l d) = ∑ e : Fin 1024, a (ix3 b l e) * w (ix2 e d) := by
  pointwise
  try rfl

/-- The spatial bias, repeated. -/
theorem bias_at (x : FVec Ideal S4x128 .f32) (h h1 h2 : _) (b : Fin 32) (n : Fin 16) (i : Fin 128) (g : Fin 4) (e : Fin 128) :
    broadcastInDim S32x16x128x4x128 ![0, 1, 2, 3, 4] h1 (broadcastInDim S1x1x128x4x1 ![2, 3] h2
      (transpose S128x4 [1, 0] x h)) (ix5 b n i g e) = x (ix2 g i) := by
  pointwise
  try rfl

/-- The three branches side by side. -/
theorem stack_at (x y z : FVec Ideal S32x2048x512 .f32) (h1 h2 h3 : _) (h : _) (b : Fin 32) (l : Fin 2048) (n : Fin 3) (k : Fin 512) :
    (concatenate S32x2048x3x512 2 [⟨S32x2048x1x512, (broadcastInDim S32x2048x1x512 ![0, 1, 3] h1 x : S32x2048x1x512.Idx → EReal)⟩,
      ⟨S32x2048x1x512, broadcastInDim S32x2048x1x512 ![0, 1, 3] h2 y⟩,
      ⟨S32x2048x1x512, broadcastInDim S32x2048x1x512 ![0, 1, 3] h3 z⟩] h (ix4 b l n k) : EReal)
      = ![x (ix3 b l k), y (ix3 b l k), z (ix3 b l k)] n := by
  pointwise
  fin_cases n <;> rfl

/-- A sum of arrays at an element. -/
theorem addf_at {s : Shape} (x y : FVec Ideal s .f32) (i : s.Idx) : (show EReal from addf x y i) = (show EReal from x i) + (show EReal from y i) := rfl

/-- A product of arrays at an element. -/
theorem mulf_at {s : Shape} (x y : FVec Ideal s .f32) (i : s.Idx) : (show EReal from mulf x y i) = (show EReal from x i) * (show EReal from y i) := rfl

/-- The masked spatial weights. -/
theorem mask_at (w : FVec Ideal S4x128x128 .f32) (h1 h2 h3 : _) (g : Fin 4) (i j : Fin 128) :
    (show EReal from select (broadcastInDim S4x128x128 ![0, 1, 2] h1 (broadcastInDim S1x128x128 ![1, 2] h2 ((fun i => lit0 (S128x128.rowMajor i)) : IVec S128x128 1)))
      w (broadcastInDim S4x128x128 ![] h3 (sitofp (F := Ideal) .f32 (constantI S_ 32 0#32))) (ix3 g i j))
      = Scalar.select (lit0 (S128x128.rowMajor (ix2 i j))) (show EReal from w (ix3 g i j)) (FloatOps.sitofp (F := Ideal) .f32 (0#32)) := by
  pointwise
  try rfl

end Cert.Layer.MergeRef
end
-- ==== Proof.MergeClaims.lean ====
module
public import proofs.«01_k».proof.Defs
public import proofs.«01_k».proof.Proof.Merge
public import proofs.«01_k».proof.Proof.MergeRef
public import proofs.«01_k».proof.Proof.Gen.Merge.Frame
public import proofs.«01_k».proof.Proof.Gen.MergeRefIdeal.Run
public import Idealize.ShloMosaic.Lib.Quiescent
public import Idealize.ShloMosaic.Adequacy
public import Idealize.ShloMosaic.Init

/-!
The claims about the merge.
-/

@[expose] public section

set_option maxRecDepth 16384

noncomputable section
open Idealize.ShloMosaic Idealize.ShloMosaic.TcCoe Idealize.SL.Sem

namespace Cert.Proof.MergeClaims
open Cert.Layer Cert.Layer.Merge

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The two programs carry the same mask. -/
theorem lit_eq : ∀ i, Cert.MergeRefIdeal.lit0 i = Cert.MergeIdeal.lit0 i := fun _ => rfl

/-- At the extended reals the kernel and the reference end with the same array: every token merged. -/
theorem algebraic : Cert.algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨a0, a1, a2, a3, a4, a5, a6, a7, a8, a9⟩ := hagree c
  rw [a0, a1, a2, a3, a4, a5, a6, a7, a8, a9]
  funext i
  obtain ⟨R, d, rfl⟩ : ∃ (R : Fin 65536) (d : Fin 1024), i = ix2 R d := ⟨i 0, i 1, eq_ix2 i⟩
  obtain ⟨b, l, rfl⟩ := MergeRef.exists_tok R
  have hl := l.isLt
  refine Eq.trans ?_ (out_at m c (MergeRef.tok b l) d).symm
  refine (MergeRef.addf_at _ _ _).trans (congrArg₂ (· + ·) rfl ?_)
  refine (MergeRef.flat_at _ _ b l d).trans ((MergeRef.out_at _ _ b l d).trans (Finset.sum_congr rfl fun e _ => congrArg₂ (· * ·) ?_ rfl))
  refine (MergeRef.sum_at _ _ _ b l e).trans ((Fin.sum_univ_three _).trans ?_)
  unfold kM
  refine congrArg₂ (· + ·) (congrArg₂ (· + ·) ?_ ?_) ?_
  · refine (MergeRef.mulf_at _ _ _).trans (congrArg₂ (· * ·) ((MergeRef.gate_at _ _ _ b l 0 e).trans (congrArg (kSg m c (MergeRef.tok b l)) (Fin.ext (by show 1024 * 0 + e.val = 0 + e.val; omega)))) ?_)
    refine (MergeRef.proj_at _ _ _ b l 0 e).trans (Finset.sum_congr rfl fun k _ => (mul_comm _ _).trans (congrArg₂ (· * ·) ?_ rfl))
    refine (MergeRef.stack_at _ _ _ _ _ _ _ b l 0 k).trans ?_
    refine (MergeRef.mulf_at _ _ (ix3 b l k)).trans ?_
    unfold kA mixed
    refine congrArg₂ (· * ·) (MergeRef.fold_at _ _ b l k) ((MergeRef.join_at _ _ b l k).trans ((MergeRef.addf_at _ _ _).trans (congrArg₂ (· + ·) ?_ ?_)))
    · refine (MergeRef.mix_at _ _ _ _ _ _ _ _).trans (Finset.sum_congr rfl fun q _ => (mul_comm _ _).trans (congrArg₂ (· * ·) ?_ ?_))
      · refine (MergeRef.mask_at _ _ _ _ _ _ _).trans ?_
        have ep : (⟨l.val % 128, by omega⟩ : Fin 128) = place (MergeRef.tok b l) := Fin.ext (by show l.val % 128 = (2048 * b.val + l.val) % 128; omega)
        refine Eq.trans ?_ (congrArg (fun p => kWs m c (grp k) p q) ep)
        exact congrArg (fun x : BitVec 1 => Scalar.select x
          (show EReal from m (c.tc.loc Cert.MergeIdeal.main_arg6) (ix3 (grp k) ⟨l.val % 128, by omega⟩ q)) (FloatOps.sitofp (F := Ideal) .f32 (0#32))) (lit_eq _)
      · refine (MergeRef.split_at _ _ _ _ _ _ _).trans ((MergeRef.fold_at _ _ _ _ _).trans ?_)
        refine congrArg₂ (kV m c) (Fin.ext ?_) (Fin.ext ?_)
        · show 2048 * b.val + (128 * (l.val / 128) + q.val) = 128 * ((2048 * b.val + l.val) / 128) + q.val
          omega
        · show 128 * (k.val / 128) + k.val % 128 = k.val
          omega
    · refine (MergeRef.bias_at _ _ _ _ _ _ _ _ _).trans ?_
      refine congrArg (kBs m c (grp k)) (Fin.ext ?_)
      show l.val % 128 = (2048 * b.val + l.val) % 128
      omega
  · refine (MergeRef.mulf_at _ _ _).trans (congrArg₂ (· * ·) ((MergeRef.gate_at _ _ _ b l 1 e).trans (congrArg (kSg m c (MergeRef.tok b l)) (Fin.ext (by show 1024 * 1 + e.val = 1024 + e.val; omega)))) ?_)
    refine (MergeRef.proj_at _ _ _ b l 1 e).trans (Finset.sum_congr rfl fun k _ => (mul_comm _ _).trans (congrArg₂ (· * ·) ?_ rfl))
    exact (MergeRef.stack_at _ _ _ _ _ _ _ b l 1 k).trans (MergeRef.fold_at _ _ b l k)
  · refine (MergeRef.mulf_at _ _ _).trans (congrArg₂ (· * ·) ((MergeRef.gate_at _ _ _ b l 2 e).trans (congrArg (kSg m c (MergeRef.tok b l)) (Fin.ext (by show 1024 * 2 + e.val = 2048 + e.val; omega)))) ?_)
    refine (MergeRef.proj_at _ _ _ b l 2 e).trans (Finset.sum_congr rfl fun k _ => (mul_comm _ _).trans (congrArg₂ (· * ·) ?_ rfl))
    exact (MergeRef.stack_at _ _ _ _ _ _ _ b l 2 k).trans (MergeRef.fold_at _ _ b l k)

end Cert.Proof.MergeClaims
end
-- ==== Proof.Norm.lean ====
module
public import proofs.«01_k».proof.Proof.Gen.NormIdeal.Value
public import proofs.«01_k».proof.Proof.Gen.NormRefIdeal.Run
public import proofs.«01_k».proof.Proof.Reals
public import Idealize.ShloMosaic.Lib.Pipeline.ValueKit
public import Idealize.ShloMosaic.Lib.Pipeline.ReadBack

/-!
The last norm: the kernel's array and the reference's array, row by row, are the normalised token.
-/

@[expose] public section

set_option maxRecDepth 16384

noncomputable section
open Idealize.ShloMosaic Idealize.ShloMosaic.TcCoe Idealize.SL.Sem

namespace Cert.Layer.Norm
open Cert.NormIdeal Cert.NormIdeal.Gen

variable (m : (ℓ : Loc nD τ sig) → Buf (Elt Ideal) ℓ)

/-- The printed index maps, decided over the grid. -/
theorem idx : ∀ t : Fin cfg0.N, win0_0.index t = ![t.val, 0] ∧ win0_1.index t = ![0, 0] ∧ win0_2.index t = ![t.val, 0] :=
  (by decide +kernel : ∀ t : Fin grid0.N, _)

theorem points (t : Fin cfg0.N) : t.val < 128 := lt_of_lt_of_eq t.isLt N_0

/-- Row `r` of tile `t` as a token. -/
def row (t : Fin cfg0.N) (r : Fin 512) : Fin 65536 := ⟨512 * t.val + r.val, by have := points t; have := r.isLt; omega⟩

/-- Every token is a row of a tile. -/
theorem exists_row (R : Fin 65536) : ∃ t r, R = row t r :=
  ⟨⟨R.val / 512, by have := R.isLt; rw [show cfg0.N = 128 from N_0]; omega⟩, ⟨R.val % 512, by omega⟩, Fin.ext (by show R.val = 512 * (R.val / 512) + R.val % 512; omega)⟩

/-- Token `r` of the first argument. -/
def kTok (c : Dev nD) (r : Fin 65536) (k : Fin 1024) : EReal := m ((c : Thread nD τ).loc main_arg0) (ix2 r k)
/-- The gain. -/
def kGain (c : Dev nD) (k : Fin 1024) : EReal := m ((c : Thread nD τ).loc main_arg1) (ix1 k)

theorem blk0 (c : Dev nD) (t : Fin cfg0.N) (r : Fin 512) (k : Fin 1024) :
    (show EReal from iblk m c 0 t (ix2 r k)) = kTok m c (row t r) k := by
  unfold kTok row
  have := points t
  blk_point [iblk, V, idx t]

/-- The reshaped gain. -/
theorem gain_at (c : Dev nD) (k : Fin 1024) : (show EReal from V m c main_v0 (ix2 0 k)) = kGain m c k := by
  unfold kGain
  show (StableHlo.after [hostOps0].flatten (fun b => m (c, b)) (Proc.tc.devRef main_v0) (ix2 0 k)) = _
  simp only [hostOps0, List.flatten_cons, List.flatten_nil, List.append_nil, List.cons_append, List.nil_append]
  after_results_simp
  pointwise
  try rfl

theorem blk1 (c : Dev nD) (t : Fin cfg0.N) (k : Fin 1024) :
    (show EReal from iblk m c 1 t (ix2 0 k)) = kGain m c k := by
  rw [← gain_at]
  have := points t
  blk_ext [iblk, idx t]

/-- The normalised tile at an element. -/
theorem pay1_at (x : FVec Ideal S512x1024 .f32) (g : FVec Ideal S1x1024 .f32) (r : Fin 512) (d : Fin 1024) :
    k0_pay1 (F := Ideal) x g (ix2 r d) = normed (fun k => x (ix2 r k)) (fun k => g (ix2 0 k)) d := by
  unfold normed
  pointwise [k0_pay1]
  try rfl

/-- A row of the final array is the row its tile wrote. -/
theorem arr_at (c : Dev nD) (t : Fin cfg0.N) (r : Fin 512) (d : Fin 1024) :
    (show EReal from (dats m 0 c).arrAt 2 cfg0.N (ix2 (row t r) d)) = k0_pay1 (F := Ideal) (iblk m c 0 t) (iblk m c 1 t) (ix2 r d) := by
  have h := congrFun (Value.blocks2 m c t (flush0_2 t)) (ix2 r d)
  rw [Value.flushed2] at h
  have e : ((cfg0.win 2).blk t).view.emb (ix2 r d : S512x1024.Idx) = ix2 (row t r) d := by
    obtain ⟨-, -, i2⟩ := idx t
    funext a; apply Fin.ext
    fin_cases a
    · show win0_2.index t 0 * 512 + 1 * r.val = 512 * t.val + r.val
      rw [i2]; show t.val * 512 + 1 * r.val = _; omega
    · show win0_2.index t 1 * 1024 + 1 * d.val = d.val
      rw [i2]; show 0 * 1024 + 1 * d.val = _; omega
  refine (congrArg ((dats m 0 c).arrAt 2 cfg0.N) e).symm.trans (h.trans ?_)
  show out0_2 (iblk m c 0 t) (iblk m c 1 t) (ix2 r d) = _
  refine congrFun ?_ (ix2 r d)
  frame_out

/-- The kernel's result: every token normalised. -/
theorem out_at (c : Dev nD) (R : Fin 65536) (d : Fin 1024) :
    (show EReal from (dats m 0 c).arrAt 2 cfg0.N (ix2 R d)) = normed (kTok m c R) (kGain m c) d := by
  obtain ⟨t, r, rfl⟩ := exists_row R
  refine (arr_at m c t r d).trans ((pay1_at _ _ r d).trans ?_)
  exact congrArg₂ (fun x g => normed x g d) (funext fun k => blk0 m c t r k) (funext fun k => blk1 m c t k)

end Cert.Layer.Norm
end
-- ==== Proof.NormClaims.lean ====
module
public import proofs.«01_k».proof.Defs
public import proofs.«01_k».proof.Proof.Norm
public import proofs.«01_k».proof.Proof.Gen.Norm.Frame
public import proofs.«01_k».proof.Proof.Gen.NormRefIdeal.Run
public import Idealize.ShloMosaic.Lib.Quiescent
public import Idealize.ShloMosaic.Adequacy
public import Idealize.ShloMosaic.Init

/-!
The claims about the last norm.
-/

@[expose] public section

set_option maxRecDepth 16384

noncomputable section
open Idealize.ShloMosaic Idealize.ShloMosaic.TcCoe Idealize.SL.Sem

namespace Cert.Proof.NormClaims
open Cert.Layer Cert.Layer.Norm

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

/-- At the extended reals the kernel and the reference end with the same array: every token normalised. -/
theorem algebraic : Cert.algebraic_NormIdeal_NormRefIdeal := by
  intro m ρ m' ρ' _ hagree
  refine ⟨_, Cert.NormIdeal.Value.run_blocks (F := Ideal) m ρ, ?_⟩
  refine (θ_run Cert.NormRefIdeal.defs _ _).mono (fun _ h c => ⟨(h c).1.trans ?_, (h c).2⟩)
    (Cert.NormRefIdeal.Value.run (F := Ideal) m' ρ')
  obtain ⟨a0, a1⟩ := hagree c
  rw [a0, a1]
  funext i
  rw [eq_ix2 i]
  refine Eq.trans ?_ (out_at m c (i 0) (i 1)).symm
  unfold normed kTok kGain
  pointwise
  try rfl

end Cert.Proof.NormClaims
end
-- ==== Proof.Seq.lean ====
module
public import proofs.«01_k».proof.Proof.Gen.SeqIdeal.Value
public import proofs.«01_k».proof.Proof.Reals
public import Idealize.ShloMosaic.Lib.Pipeline.ValueKit
public import Idealize.ShloMosaic.Lib.Pipeline.ReadBack

/-!
The attention and the short convolution of a sample batch: the kernel's three arrays, element by element.
-/

@[expose] public section

set_option maxRecDepth 16384

noncomputable section
open Idealize.ShloMosaic Idealize.ShloMosaic.TcCoe Idealize.SL.Sem

namespace Cert.Layer.Seq
open Cert.SeqIdeal Cert.SeqIdeal.Gen

variable (m : (ℓ : Loc nD τ sig) → Buf (Elt Ideal) ℓ)

/-! ## The mathematics -/

/-- The greatest score of a query over the 544 keys. -/
def top (s : Fin 544 → EReal) : EReal := Finset.fold max (Ideal.ofBits .f32 0xFF800000#32) s Finset.univ

/-- The exponential of a score relative to the greatest. -/
def rel (s : Fin 544 → EReal) (j : Fin 544) : EReal := Ideal.exp (s j - top s)

/-- The values averaged with the relative exponentials, the average taken over their sum at the end. -/
def attn (s v : Fin 544 → EReal) : EReal := Ideal.div (∑ j, rel s j * v j) (∑ j, rel s j)

/-- The head a channel belongs to. -/
def head (C : Fin 512) : Fin 8 := ⟨C.val / 64, by have := C.isLt; omega⟩

/-- Channel `d` of the head `C` belongs to. -/
def chan (C : Fin 512) (d : Fin 64) : Fin 512 := ⟨64 * (C.val / 64) + d.val, by have := C.isLt; have := d.isLt; omega⟩

/-! ## The grid -/

/-- The printed index maps, decided over the grid. -/
theorem idx : ∀ t : Fin cfg0.N, win0_0.index t = ![t.val, 0] ∧ win0_1.index t = ![t.val, 0] ∧ win0_2.index t = ![t.val, 0]
    ∧ win0_3.index t = ![t.val, 0, 0] ∧ win0_4.index t = ![t.val, 0, 0] ∧ win0_5.index t = ![t.val, 0] ∧ win0_6.index t = ![t.val, 0]
    ∧ win0_7.index t = ![t.val, 0, 0] ∧ win0_8.index t = ![0, 0, 0] ∧ win0_9.index t = ![0, 0] :=
  (by decide +kernel : ∀ t : Fin grid0.N, _)

theorem points (t : Fin cfg0.N) : t.val < 32 := lt_of_lt_of_eq t.isLt N_0

/-- The sample of a grid point. -/
def smp (t : Fin cfg0.N) : Fin 32 := ⟨t.val, points t⟩

/-- Token `r` of sample `b`. -/
def row (b : Fin 32) (r : Fin 32) : Fin 1024 := ⟨32 * b.val + r.val, by have := b.isLt; have := r.isLt; omega⟩

/-- Every token is a token of a sample. -/
theorem exists_row (R : Fin 1024) : ∃ b r, R = row b r :=
  ⟨⟨R.val / 32, by have := R.isLt; omega⟩, ⟨R.val % 32, by omega⟩, Fin.ext (by show R.val = 32 * (R.val / 32) + R.val % 32; omega)⟩

/-- Every sample is a grid point's. -/
theorem exists_point (b : Fin 32) : ∃ t : Fin cfg0.N, b = smp t :=
  ⟨⟨b.val, lt_of_lt_of_eq b.isLt N_0.symm⟩, rfl⟩

/-! ## The arguments -/

/-- A query's channel. -/
def kQ (c : Dev nD) (R : Fin 1024) (C : Fin 512) : EReal := m ((c : Thread nD τ).loc main_arg0) (ix2 R C)
/-- A key's channel: the 512 keys kept of the sample, then its 32 new ones. -/
def kKey (c : Dev nD) (b : Fin 32) (j : Fin 544) (C : Fin 512) : EReal :=
  if h : j.val < 512 then m ((c : Thread nD τ).loc main_arg3) (ix4 b ⟨j.val, h⟩ (head C) ⟨C.val % 64, by omega⟩)
  else m ((c : Thread nD τ).loc main_arg1) (ix2 (row b ⟨j.val - 512, by have := j.isLt; omega⟩) C)
/-- A value's channel: the 512 values kept of the sample, then its 32 new ones. -/
def kVal (c : Dev nD) (b : Fin 32) (j : Fin 544) (C : Fin 512) : EReal :=
  if h : j.val < 512 then m ((c : Thread nD τ).loc main_arg4) (ix4 b ⟨j.val, h⟩ (head C) ⟨C.val % 64, by omega⟩)
  else m ((c : Thread nD τ).loc main_arg2) (ix2 (row b ⟨j.val - 512, by have := j.isLt; omega⟩) C)
/-- The bias of query `r` and key `j` in head `h`, as the host code computed it. -/
def kBias (c : Dev nD) (h : Fin 8) (r : Fin 32) (j : Fin 544) : EReal := V m c main_v14 (ix3 h r j)
/-- The convolution's input: two rows of the state, then the sample's 32 tokens. -/
def kConv (c : Dev nD) (b : Fin 32) (i : Fin 34) (C : Fin 512) : EReal :=
  if h : i.val < 2 then m ((c : Thread nD τ).loc main_arg7) (ix3 b ⟨i.val, h⟩ C)
  else m ((c : Thread nD τ).loc main_arg5) (ix2 (row b ⟨i.val - 2, by have := i.isLt; omega⟩) C)
/-- The gate of the convolution. -/
def kGate (c : Dev nD) (R : Fin 1024) (C : Fin 512) : EReal := m ((c : Thread nD τ).loc main_arg6) (ix2 R C)
/-- The convolution's taps. -/
def kTap (c : Dev nD) (i : Fin 3) (C : Fin 512) : EReal := m ((c : Thread nD τ).loc main_arg9) (ix2 i C)

/-- The scores of query `r` of sample `b` in the head of channel `C`. -/
def kScore (c : Dev nD) (b r : Fin 32) (C : Fin 512) (j : Fin 544) : EReal :=
  ∑ d : Fin 64, kQ m c (row b r) (chan C d) * kKey m c b j (chan C d) + kBias m c (head C) r j

/-! ## The blocks -/

theorem blk0 (c : Dev nD) (t : Fin cfg0.N) (r : Fin 32) (C : Fin 512) :
    (show EReal from iblk m c 0 t (ix2 r C)) = kQ m c (row (smp t) r) C := by
  unfold kQ row smp
  have := points t
  blk_point [iblk, V, idx t]

theorem blk1 (c : Dev nD) (t : Fin cfg0.N) (r : Fin 32) (C : Fin 512) :
    (show EReal from iblk m c 1 t (ix2 r C)) = m ((c : Thread nD τ).loc main_arg1) (ix2 (row (smp t) r) C) := by
  unfold row smp
  have := points t
  blk_point [iblk, V, idx t]

theorem blk2 (c : Dev nD) (t : Fin cfg0.N) (r : Fin 32) (C : Fin 512) :
    (show EReal from iblk m c 2 t (ix2 r C)) = m ((c : Thread nD τ).loc main_arg2) (ix2 (row (smp t) r) C) := by
  unfold row smp
  have := points t
  blk_point [iblk, V, idx t]

/-- The kept keys, their heads side by side. -/
theorem keys_at (c : Dev nD) (b : Fin 32) (j : Fin 512) (C : Fin 512) :
    (show EReal from V m c main_v0 (ix3 b j C)) = m ((c : Thread nD τ).loc main_arg3) (ix4 b j (head C) ⟨C.val % 64, by omega⟩) := by
  have e : (V m c main_v0 : FVec Ideal S32x512x512 .f32)
      = shapeCast S32x512x512 (m ((c : Thread nD τ).loc main_arg3)) shapeCasts_S32x512x8x64_S32x512x512 := by
    show (StableHlo.after [hostOps0, hostOps0_1, hostOps0_2, hostOps0_3].flatten (fun b => m (c, b)) (Proc.tc.devRef main_v0)) = _
    simp only [hostOps0, hostOps0_1, hostOps0_2, hostOps0_3, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp
    try rfl
  refine (congrFun e (ix3 b j C)).trans ?_
  refine shapeCast_apply _ _ _ _ ?_
  refine (Shape.rowMajor_val_four _).trans (Eq.trans ?_ (Shape.rowMajor_val_three _).symm)
  show ((b.val * 512 + j.val) * 8 + C.val / 64) * 64 + C.val % 64 = (b.val * 512 + j.val) * 512 + C.val
  omega

/-- The kept values, their heads side by side. -/
theorem vals_at (c : Dev nD) (b : Fin 32) (j : Fin 512) (C : Fin 512) :
    (show EReal from V m c main_v1 (ix3 b j C)) = m ((c : Thread nD τ).loc main_arg4) (ix4 b j (head C) ⟨C.val % 64, by omega⟩) := by
  have e : (V m c main_v1 : FVec Ideal S32x512x512 .f32)
      = shapeCast S32x512x512 (m ((c : Thread nD τ).loc main_arg4)) shapeCasts_S32x512x8x64_S32x512x512 := by
    show (StableHlo.after [hostOps0, hostOps0_1, hostOps0_2, hostOps0_3].flatten (fun b => m (c, b)) (Proc.tc.devRef main_v1)) = _
    simp only [hostOps0, hostOps0_1, hostOps0_2, hostOps0_3, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp
    try rfl
  refine (congrFun e (ix3 b j C)).trans ?_
  refine shapeCast_apply _ _ _ _ ?_
  refine (Shape.rowMajor_val_four _).trans (Eq.trans ?_ (Shape.rowMajor_val_three _).symm)
  show ((b.val * 512 + j.val) * 8 + C.val / 64) * 64 + C.val % 64 = (b.val * 512 + j.val) * 512 + C.val
  omega

theorem blk3 (c : Dev nD) (t : Fin cfg0.N) (j : Fin 512) (C : Fin 512) :
    (show EReal from iblk m c 3 t (ix3 0 j C)) = m ((c : Thread nD τ).loc main_arg3) (ix4 (smp t) j (head C) ⟨C.val % 64, by omega⟩) := by
  rw [← keys_at m c (smp t) j C]
  unfold smp
  have := points t
  blk_ext [iblk, idx t]

theorem blk4 (c : Dev nD) (t : Fin cfg0.N) (j : Fin 512) (C : Fin 512) :
    (show EReal from iblk m c 4 t (ix3 0 j C)) = m ((c : Thread nD τ).loc main_arg4) (ix4 (smp t) j (head C) ⟨C.val % 64, by omega⟩) := by
  rw [← vals_at m c (smp t) j C]
  unfold smp
  have := points t
  blk_ext [iblk, idx t]

theorem blk5 (c : Dev nD) (t : Fin cfg0.N) (r : Fin 32) (C : Fin 512) :
    (show EReal from iblk m c 5 t (ix2 r C)) = m ((c : Thread nD τ).loc main_arg5) (ix2 (row (smp t) r) C) := by
  unfold row smp
  have := points t
  blk_point [iblk, V, idx t]

theorem blk6 (c : Dev nD) (t : Fin cfg0.N) (r : Fin 32) (C : Fin 512) :
    (show EReal from iblk m c 6 t (ix2 r C)) = kGate m c (row (smp t) r) C := by
  unfold kGate row smp
  have := points t
  blk_point [iblk, V, idx t]

theorem blk7 (c : Dev nD) (t : Fin cfg0.N) (i : Fin 2) (C : Fin 512) :
    (show EReal from iblk m c 7 t (ix3 0 i C)) = m ((c : Thread nD τ).loc main_arg7) (ix3 (smp t) i C) := by
  unfold smp
  have := points t
  blk_point [iblk, V, idx t]

theorem blk8 (c : Dev nD) (t : Fin cfg0.N) (h : Fin 8) (r : Fin 32) (j : Fin 544) :
    (show EReal from iblk m c 8 t (ix3 h r j)) = kBias m c h r j := by
  have i8 := (idx t).2.2.2.2.2.2.2.2.1
  have e : ((cfg0.win 8).blk t).view.emb (ix3 h r j : S8x32x544.Idx) = ix3 h r j := by
    funext a; apply Fin.ext
    fin_cases a
    · show win0_8.index t 0 * 8 + 1 * h.val = h.val
      rw [i8]; show 0 * 8 + 1 * h.val = _; omega
    · show win0_8.index t 1 * 32 + 1 * r.val = r.val
      rw [i8]; show 0 * 32 + 1 * r.val = _; omega
    · show win0_8.index t 2 * 544 + 1 * j.val = j.val
      rw [i8]; show 0 * 544 + 1 * j.val = _; omega
  unfold kBias
  exact congrArg (V m c main_v14) e

theorem blk9 (c : Dev nD) (t : Fin cfg0.N) (i : Fin 3) (C : Fin 512) :
    (show EReal from iblk m c 9 t (ix2 i C)) = kTap m c i C := by
  unfold kTap
  have := points t
  blk_point [iblk, V, idx t]

/-! ## The payloads -/

/-- The lower half of 128 lanes, chosen by comparing the lane's number with 64. -/
theorem sel_lo (x : Fin 128) (a b : EReal) :
    Scalar.select (IntOp.cmpi .slt (BitVec.ofNat 32 x) 64#32) a b = if x.val < 64 then a else b := by
  have e : ∀ x : Fin 128, (BitVec.ofNat 32 x).slt 64#32 = decide (x.val < 64) := by decide +kernel
  show (if BitVec.ofBool ((BitVec.ofNat 32 x).slt 64#32) = 1#1 then a else b) = _
  rw [e]
  by_cases h : x.val < 64
  · rw [if_pos h, decide_eq_true h]; rfl
  · rw [if_neg h, decide_eq_false h]; rfl

/-- The upper half of 128 lanes likewise. -/
theorem sel_hi (x : Fin 128) (a b : EReal) :
    Scalar.select (IntOp.cmpi .sge (BitVec.ofNat 32 x) 64#32) a b = if x.val < 64 then b else a := by
  have e : ∀ x : Fin 128, (64#32).sle (BitVec.ofNat 32 x) = !decide (x.val < 64) := by decide +kernel
  show (if BitVec.ofBool ((64#32).sle (BitVec.ofNat 32 x)) = 1#1 then a else b) = _
  rw [e]
  by_cases h : x.val < 64
  · rw [if_pos h, decide_eq_true h]; rfl
  · rw [if_neg h, decide_eq_false h]; rfl

/-- A sum over the lower half of the lanes. -/
theorem sum_lo (f : Fin 128 → EReal) : (∑ x : Fin 128, if x.val < 64 then f x else 0) = ∑ d : Fin 64, f ⟨64 * 0 + d.val, by have := d.isLt; omega⟩ := by
  refine (Fin.sum_univ_add (a := 64) (b := 64) (fun x : Fin 128 => if x.val < 64 then f x else 0)).trans ?_
  have h : ∀ d : Fin 64, (if (Fin.natAdd 64 d : Fin 128).val < 64 then f (Fin.natAdd 64 d) else 0) = 0 := fun d =>
    if_neg (by show ¬ 64 + d.val < 64; omega)
  rw [Finset.sum_congr rfl fun d _ => h d, Finset.sum_const_zero, add_zero]
  refine Finset.sum_congr rfl fun d _ => (if_pos (by show d.val < 64; exact d.isLt)).trans (congrArg f (Fin.ext ?_))
  show d.val = 64 * 0 + d.val; omega

/-- A sum over the upper half of the lanes. -/
theorem sum_hi (f : Fin 128 → EReal) : (∑ x : Fin 128, if x.val < 64 then 0 else f x) = ∑ d : Fin 64, f ⟨64 * 1 + d.val, by have := d.isLt; omega⟩ := by
  refine (Fin.sum_univ_add (a := 64) (b := 64) (fun x : Fin 128 => if x.val < 64 then 0 else f x)).trans ?_
  have h : ∀ d : Fin 64, (if (Fin.castAdd 64 d : Fin 128).val < 64 then 0 else f (Fin.castAdd 64 d)) = 0 := fun d =>
    if_pos (by show d.val < 64; exact d.isLt)
  rw [Finset.sum_congr rfl fun d _ => h d, Finset.sum_const_zero, zero_add]
  refine Finset.sum_congr rfl fun d _ => (if_neg (by show ¬ 64 + d.val < 64; omega)).trans (congrArg f (Fin.ext ?_))
  show 64 + d.val = 64 * 1 + d.val; omega

/-- Two heads side by side at a lane: the attention of the head the lane belongs to. -/
def pair (q : FVec Ideal S32x128 .bf16) (k v : FVec Ideal S544x128 .bf16) (b b' : FVec Ideal S1x32x544 .f32) (r : Fin 32) (c : Fin 128) : EReal :=
  if c.val < 64 then attn (fun j => ∑ d : Fin 64, q (ix2 r ⟨64 * 0 + d.val, by have := d.isLt; omega⟩) * k (ix2 j ⟨64 * 0 + d.val, by have := d.isLt; omega⟩) + b (ix3 0 r j)) (fun j => v (ix2 j c))
  else attn (fun j => ∑ d : Fin 64, q (ix2 r ⟨64 * 1 + d.val, by have := d.isLt; omega⟩) * k (ix2 j ⟨64 * 1 + d.val, by have := d.isLt; omega⟩) + b' (ix3 0 r j)) (fun j => v (ix2 j c))

section payloads
variable (q : FVec Ideal S32x128 .bf16) (k v : FVec Ideal S544x128 .bf16) (b b' : FVec Ideal S1x32x544 .f32)

/-- The first pair of heads. -/
theorem pay12_at (r : Fin 32) (c : Fin 128) :
    k0_pay12 (F := Ideal) (iota .tc S32x128 32 [1] iota_S32x128_d1_w32) v (k0_pay9 q k v b) (k0_pay10 q k b') (k0_pay11 q k b') (ix2 r c) = pair q k v b b' r c := by
  pointwise [k0_pay9, k0_pay10, k0_pay11, k0_pay12]
  simp only [sel_lo, sel_hi, sum_lo, sum_hi]
  try rfl

/-- The second pair of heads. -/
theorem pay15_at (r : Fin 32) (c : Fin 128) :
    k0_pay15 (F := Ideal) (iota .tc S32x128 32 [1] iota_S32x128_d1_w32) q k v (k0_pay13 (iota .tc S32x128 32 [1] iota_S32x128_d1_w32) q k v b)
      (k0_pay14 (iota .tc S32x128 32 [1] iota_S32x128_d1_w32)) b' (ix2 r c) = pair q k v b b' r c := by
  pointwise [k0_pay13, k0_pay14, k0_pay15]
  simp only [sel_lo, sel_hi, sum_lo, sum_hi]
  try rfl

/-- The third pair of heads. -/
theorem pay18_at (r : Fin 32) (c : Fin 128) :
    k0_pay18 (F := Ideal) (iota .tc S32x128 32 [1] iota_S32x128_d1_w32) q k v (k0_pay16 (iota .tc S32x128 32 [1] iota_S32x128_d1_w32) q k b)
      (k0_pay17 (iota .tc S32x128 32 [1] iota_S32x128_d1_w32) q k b) b' (ix2 r c) = pair q k v b b' r c := by
  pointwise [k0_pay16, k0_pay17, k0_pay18]
  simp only [sel_lo, sel_hi, sum_lo, sum_hi]
  try rfl

/-- The fourth pair of heads. -/
theorem pay20_at (r : Fin 32) (c : Fin 128) :
    k0_pay20 (F := Ideal) (iota .tc S32x128 32 [1] iota_S32x128_d1_w32) q k v (k0_pay19 (iota .tc S32x128 32 [1] iota_S32x128_d1_w32)) b b' (ix2 r c)
      = pair q k v b b' r c := by
  pointwise [k0_pay19, k0_pay20]
  simp only [sel_lo, sel_hi, sum_lo, sum_hi]
  try rfl

/-- A convolution tile's element. -/
theorem pay1_at (z0 z1 z2 : FVec Ideal S32x512 .f32) (w0 w1 w2 : FVec Ideal S1x512 .f32) (g : FVec Ideal S32x512 .bf16) (r : Fin 32) (C : Fin 512) :
    k0_pay1 (F := Ideal) z0 z1 z2 w0 w1 w2 g (ix2 r C)
      = g (ix2 r C) * (z2 (ix2 r C) * w0 (ix2 0 C) + z1 (ix2 r C) * w1 (ix2 0 C) + z0 (ix2 r C) * w2 (ix2 0 C)) := by
  pointwise [k0_pay1]

theorem pay2_at (a : FVec Ideal S2x512 .f32) (i : Fin 2) (C : Fin 512) : k0_pay2 (F := Ideal) a (ix3 0 i C) = a (ix2 i C) := by
  pointwise [k0_pay2]
theorem pay3_at (a : FVec Ideal S1x512x512 .f32) (j C : Fin 512) : k0_pay3 (F := Ideal) a (ix2 j C) = a (ix3 0 j C) := by
  pointwise [k0_pay3]
theorem pay4_at (a : FVec Ideal S1x512x512 .f32) (j C : Fin 512) : k0_pay4 (F := Ideal) a (ix2 j C) = a (ix3 0 j C) := by
  pointwise [k0_pay4]
theorem pay5_at (a : FVec Ideal S32x512 .f32) (r : Fin 32) (C : Fin 512) : k0_pay5 (F := Ideal) a (ix2 r C) = a (ix2 r C) := by
  pointwise [k0_pay5]
theorem pay6_at (a : FVec Ideal S32x512 .f32) (r : Fin 32) (C : Fin 512) : k0_pay6 (F := Ideal) a (ix2 r C) = a (ix2 r C) := by
  pointwise [k0_pay6]
theorem pay7_at (a : FVec Ideal S1x2x512 .f32) (i : Fin 2) (C : Fin 512) : k0_pay7 (F := Ideal) a (ix2 i C) = a (ix3 0 i C) := by
  pointwise [k0_pay7]
theorem pay8_at (a : FVec Ideal S32x512 .f32) (r : Fin 32) (C : Fin 512) : k0_pay8 (F := Ideal) a (ix2 r C) = a (ix2 r C) := by
  pointwise [k0_pay8]

end payloads

/-! ## The scratch buffers -/

/-- 512 rows, then 32 rows. -/
def stack (A : Vec Ideal S512x512 .bf16) (B : Vec Ideal S32x512 .bf16) (j : Fin 544) (C : Fin 512) : EReal :=
  if h : j.val < 512 then A (ix2 ⟨j.val, h⟩ C) else B (ix2 ⟨j.val - 512, by have := j.isLt; omega⟩ C)

/-- What is read back of a buffer of 512 rows and 32 rows. -/
theorem read_stack (v : View sig .tc .vmem S544x512 .bf16) (A : Vec Ideal S512x512 .bf16) (B : Vec Ideal S32x512 .bf16) (h1 h2 : _) (o : ℕ) (ho : o + 128 ≤ 512) (h3 : _)
    (j : Fin 544) (x : Fin 128) :
    (show EReal from v.readCov (Val := Elt Ideal) [⟨Rect.unit (s := S544x512) ![512, 0] ![32, 512] h1, B⟩, ⟨Rect.unit (s := S544x512) ![0, 0] ![512, 512] h2, A⟩]
      (Rect.unit (s := S544x512) ![0, o] ![544, 128] h3).toLoadRect (ix2 j x : S544x128.Idx)) = stack A B j ⟨o + x.val, by have := x.isLt; omega⟩ := by
  have ex := x.isLt
  have ej := j.isLt
  refine (congrFun (View.readCov_eq_canon' v _ (Rect.unit (s := S544x512) ![0, o] ![544, 128] h3).toLoadRect) (ix2 j x : S544x128.Idx)).trans ?_
  have e : (Rect.unit (s := S544x512) ![0, o] ![544, 128] h3).toLoadRect.idx (ix2 j x : S544x128.Idx) = (ix2 j ⟨o + x.val, by omega⟩ : S544x512.Idx) := by
    funext a; apply Fin.ext; fin_cases a
    · show 0 + 1 * j.val = j.val; omega
    · show o + 1 * x.val = o + x.val; omega
  rw [e]
  refine View.canon_apply_of_pieces (Val := Elt Ideal) (S := S544x512) (e := .bf16) (fun i => stack A B (i 0) (i 1)) _ ?_ _ ?_
  · refine List.forall_mem_cons.mpr ⟨fun i => ?_, List.forall_mem_cons.mpr ⟨fun i => ?_, List.forall_mem_nil _⟩⟩
    · obtain ⟨a, d, rfl⟩ : ∃ (a : Fin 32) (d : Fin 512), i = (ix2 a d : S32x512.Idx) := ⟨i 0, i 1, eq_ix2 i⟩
      have e0 : ((Rect.unit (s := S544x512) ![512, 0] ![32, 512] h1).emb (ix2 a d : S32x512.Idx) 0).val = 512 + a.val := by show 512 + 1 * a.val = _; omega
      have e1 : (Rect.unit (s := S544x512) ![512, 0] ![32, 512] h1).emb (ix2 a d : S32x512.Idx) 1 = d := Fin.ext (by show 0 + 1 * d.val = d.val; omega)
      unfold stack
      rw [dif_neg (by rw [e0]; omega)]
      refine congrArg B (congrArg₂ (fun u w => (ix2 u w : S32x512.Idx)) (Fin.ext ?_) e1.symm)
      show a.val = _ - 512
      rw [e0]; omega
    · obtain ⟨a, d, rfl⟩ : ∃ (a : Fin 512) (d : Fin 512), i = (ix2 a d : S512x512.Idx) := ⟨i 0, i 1, eq_ix2 i⟩
      have e0 : ((Rect.unit (s := S544x512) ![0, 0] ![512, 512] h2).emb (ix2 a d : S512x512.Idx) 0).val = a.val := by show 0 + 1 * a.val = _; omega
      have e1 : (Rect.unit (s := S544x512) ![0, 0] ![512, 512] h2).emb (ix2 a d : S512x512.Idx) 1 = d := Fin.ext (by show 0 + 1 * d.val = d.val; omega)
      unfold stack
      rw [dif_pos (by rw [e0]; exact a.isLt)]
      exact congrArg A (congrArg₂ (fun u w => (ix2 u w : S512x512.Idx)) (Fin.ext e0.symm) e1.symm)
  · by_cases h : j.val < 512
    · refine ⟨⟨Rect.unit (s := S544x512) ![0, 0] ![512, 512] h2, A⟩, List.mem_cons_of_mem _ List.mem_cons_self, (Rect.mem_set_unit (inb := h2)).mpr fun a => ?_⟩
      fin_cases a
      · exact ⟨Nat.zero_le _, by show j.val < 0 + 512; omega⟩
      · exact ⟨Nat.zero_le _, by show o + x.val < 0 + 512; omega⟩
    · refine ⟨⟨Rect.unit (s := S544x512) ![512, 0] ![32, 512] h1, B⟩, List.mem_cons_self, (Rect.mem_set_unit (inb := h1)).mpr fun a => ?_⟩
      fin_cases a
      · exact ⟨by show 512 ≤ j.val; omega, by show j.val < 512 + 32; omega⟩
      · exact ⟨Nat.zero_le _, by show o + x.val < 0 + 512; omega⟩

/-- Two rows from row 6, then 32 rows from row 8. -/
def tail (A : Vec Ideal S2x512 .f32) (B : Vec Ideal S32x512 .f32) (i : Fin 34) (C : Fin 512) : EReal :=
  if h : i.val < 2 then A (ix2 ⟨i.val, h⟩ C) else B (ix2 ⟨i.val - 2, by have := i.isLt; omega⟩ C)

/-- What is read back of the convolution's rows, `n` rows from row `6 + o`. -/
theorem read_tail (v : View sig .tc .vmem S40x512 .f32) (A : Vec Ideal S2x512 .f32) (B : Vec Ideal S32x512 .f32) (h1 h2 : _) (o n : ℕ) (ho : o + n ≤ 34) (h3 : _)
    (r : Fin n) (C : Fin 512) :
    (show EReal from v.readCov (Val := Elt Ideal) [⟨Rect.unit (s := S40x512) ![8, 0] ![32, 512] h1, B⟩, ⟨Rect.unit (s := S40x512) ![6, 0] ![2, 512] h2, A⟩]
      (Rect.unit (s := S40x512) ![6 + o, 0] ![n, 512] h3).toLoadRect (ix2 r C)) = tail A B ⟨o + r.val, by have := r.isLt; omega⟩ C := by
  have er := r.isLt
  have ec := C.isLt
  refine (congrFun (View.readCov_eq_canon' v _ (Rect.unit (s := S40x512) ![6 + o, 0] ![n, 512] h3).toLoadRect) (ix2 r C)).trans ?_
  have e : (Rect.unit (s := S40x512) ![6 + o, 0] ![n, 512] h3).toLoadRect.idx (ix2 r C) = (ix2 ⟨6 + o + r.val, by omega⟩ C : S40x512.Idx) := by
    funext a; apply Fin.ext; fin_cases a
    · show 6 + o + 1 * r.val = 6 + o + r.val; omega
    · show 0 + 1 * C.val = C.val; omega
  rw [e]
  let E : S40x512.Idx → EReal := fun i => if h : (i 0).val - 6 < 34 then tail A B ⟨(i 0).val - 6, h⟩ (i 1) else 0
  have hE : E (ix2 ⟨6 + o + r.val, by omega⟩ C : S40x512.Idx) = tail A B ⟨o + r.val, by omega⟩ C := by
    show dite _ _ _ = _
    rw [dif_pos (by show 6 + o + r.val - 6 < 34; omega)]
    exact congrArg (fun u => tail A B u C) (Fin.ext (by show 6 + o + r.val - 6 = o + r.val; omega))
  refine Eq.trans ?_ hE
  refine View.canon_apply_of_pieces (Val := Elt Ideal) (S := S40x512) (e := .f32) E _ ?_ _ ?_
  · refine List.forall_mem_cons.mpr ⟨fun i => ?_, List.forall_mem_cons.mpr ⟨fun i => ?_, List.forall_mem_nil _⟩⟩
    · obtain ⟨a, d, rfl⟩ : ∃ (a : Fin 32) (d : Fin 512), i = (ix2 a d : S32x512.Idx) := ⟨i 0, i 1, eq_ix2 i⟩
      have ha := a.isLt
      have e0 : ((Rect.unit (s := S40x512) ![8, 0] ![32, 512] h1).emb (ix2 a d : S32x512.Idx) 0).val = 8 + a.val := by show 8 + 1 * a.val = _; omega
      have e1 : (Rect.unit (s := S40x512) ![8, 0] ![32, 512] h1).emb (ix2 a d : S32x512.Idx) 1 = d := Fin.ext (by show 0 + 1 * d.val = d.val; omega)
      show _ = dite _ _ _
      rw [dif_pos (by rw [e0]; omega)]
      unfold tail
      rw [dif_neg (by show ¬ _ - 6 < 2; rw [e0]; omega)]
      refine congrArg B (congrArg₂ (fun u w => (ix2 u w : S32x512.Idx)) (Fin.ext ?_) e1.symm)
      show a.val = _ - 6 - 2
      rw [e0]; omega
    · obtain ⟨a, d, rfl⟩ : ∃ (a : Fin 2) (d : Fin 512), i = (ix2 a d : S2x512.Idx) := ⟨i 0, i 1, eq_ix2 i⟩
      have ha := a.isLt
      have e0 : ((Rect.unit (s := S40x512) ![6, 0] ![2, 512] h2).emb (ix2 a d : S2x512.Idx) 0).val = 6 + a.val := by show 6 + 1 * a.val = _; omega
      have e1 : (Rect.unit (s := S40x512) ![6, 0] ![2, 512] h2).emb (ix2 a d : S2x512.Idx) 1 = d := Fin.ext (by show 0 + 1 * d.val = d.val; omega)
      show _ = dite _ _ _
      rw [dif_pos (by rw [e0]; omega)]
      unfold tail
      rw [dif_pos (by show _ - 6 < 2; rw [e0]; omega)]
      refine congrArg A (congrArg₂ (fun u w => (ix2 u w : S2x512.Idx)) (Fin.ext ?_) e1.symm)
      show a.val = _ - 6
      rw [e0]; omega
  · by_cases h : o + r.val < 2
    · refine ⟨⟨Rect.unit (s := S40x512) ![6, 0] ![2, 512] h2, A⟩, List.mem_cons_of_mem _ List.mem_cons_self, (Rect.mem_set_unit (inb := h2)).mpr fun a => ?_⟩
      fin_cases a
      · exact ⟨by show 6 ≤ 6 + o + r.val; omega, by show 6 + o + r.val < 6 + 2; omega⟩
      · exact ⟨Nat.zero_le _, by show C.val < 0 + 512; omega⟩
    · refine ⟨⟨Rect.unit (s := S40x512) ![8, 0] ![32, 512] h1, B⟩, List.mem_cons_self, (Rect.mem_set_unit (inb := h1)).mpr fun a => ?_⟩
      fin_cases a
      · exact ⟨by show 8 ≤ 6 + o + r.val; omega, by show 6 + o + r.val < 8 + 32; omega⟩
      · exact ⟨Nat.zero_le _, by show C.val < 0 + 512; omega⟩

/-! ## The tiles -/

/-- The keys a point lays out. -/
theorem stack_keys (c : Dev nD) (t : Fin cfg0.N) (j : Fin 544) (C : Fin 512) :
    stack (k0_pay3 (F := Ideal) (iblk m c 3 t)) (k0_pay5 (F := Ideal) (iblk m c 1 t)) j C = kKey m c (smp t) j C := by
  unfold stack kKey
  split_ifs with h
  · exact (pay3_at _ _ C).trans (blk3 m c t _ C)
  · exact (pay5_at _ _ C).trans (blk1 m c t _ C)

/-- The values a point lays out. -/
theorem stack_vals (c : Dev nD) (t : Fin cfg0.N) (j : Fin 544) (C : Fin 512) :
    stack (k0_pay4 (F := Ideal) (iblk m c 4 t)) (k0_pay6 (F := Ideal) (iblk m c 2 t)) j C = kVal m c (smp t) j C := by
  unfold stack kVal
  split_ifs with h
  · exact (pay4_at _ _ C).trans (blk4 m c t _ C)
  · exact (pay6_at _ _ C).trans (blk2 m c t _ C)

/-- The convolution's rows a point lays out. -/
theorem tail_rows (c : Dev nD) (t : Fin cfg0.N) (i : Fin 34) (C : Fin 512) :
    tail (k0_pay7 (F := Ideal) (iblk m c 7 t)) (k0_pay8 (F := Ideal) (iblk m c 5 t)) i C = kConv m c (smp t) i C := by
  unfold tail kConv
  split_ifs with h
  · exact (pay7_at _ _ C).trans (blk7 m c t _ C)
  · exact (pay8_at _ _ C).trans (blk5 m c t _ C)

/-- A slice of 128 columns of the queries. -/
theorem ld_q (c : Dev nD) (t : Fin cfg0.N) (o : ℕ) (ho : o + 128 ≤ 512) (h : _) (r : Fin 32) (x : Fin 128) :
    (show EReal from View.ld (iblk m c 0 t : Vec Ideal S32x512 .bf16) (Rect.unit (s := S32x512) ![0, o] ![32, 128] h) (ix2 r x : S32x128.Idx))
      = kQ m c (row (smp t) r) ⟨o + x.val, by have := x.isLt; omega⟩ := by
  refine Eq.trans (congrArg (iblk m c 0 t : Vec Ideal S32x512 .bf16) (?_ : (Rect.unit (s := S32x512) ![0, o] ![32, 128] h).idx (ix2 r x : S32x128.Idx) = ix2 r ⟨o + x.val, by have := x.isLt; omega⟩)) (blk0 m c t r _)
  funext a; apply Fin.ext; fin_cases a
  · show 0 + 1 * r.val = r.val; omega
  · show o + 1 * x.val = o + x.val; omega

/-- One head's slice of the bias. -/
theorem ld_b (c : Dev nD) (t : Fin cfg0.N) (o : ℕ) (ho : o < 8) (h : _) (r : Fin 32) (j : Fin 544) :
    (show EReal from View.ld (iblk m c 8 t : Vec Ideal S8x32x544 .f32) (Rect.unit (s := S8x32x544) ![o, 0, 0] ![1, 32, 544] h) (ix3 0 r j : S1x32x544.Idx))
      = kBias m c ⟨o, ho⟩ r j := by
  refine Eq.trans (congrArg (iblk m c 8 t : Vec Ideal S8x32x544 .f32) (?_ : (Rect.unit (s := S8x32x544) ![o, 0, 0] ![1, 32, 544] h).idx (ix3 0 r j : S1x32x544.Idx) = ix3 ⟨o, ho⟩ r j)) (blk8 m c t _ r j)
  funext a; apply Fin.ext; fin_cases a
  · show o + 1 * 0 = o; omega
  · show 0 + 1 * r.val = r.val; omega
  · show 0 + 1 * j.val = j.val; omega

/-- One tap of the convolution. -/
theorem ld_w (c : Dev nD) (t : Fin cfg0.N) (o : ℕ) (ho : o < 3) (h : _) (C : Fin 512) :
    (show EReal from View.ld (iblk m c 9 t : Vec Ideal S3x512 .f32) (Rect.unit (s := S3x512) ![o, 0] ![1, 512] h) (ix2 0 C : S1x512.Idx))
      = kTap m c ⟨o, ho⟩ C := by
  refine Eq.trans (congrArg (iblk m c 9 t : Vec Ideal S3x512 .f32) (?_ : (Rect.unit (s := S3x512) ![o, 0] ![1, 512] h).idx (ix2 0 C : S1x512.Idx) = ix2 ⟨o, ho⟩ C)) (blk9 m c t _ C)
  funext a; apply Fin.ext; fin_cases a
  · show o + 1 * 0 = o; omega
  · show 0 + 1 * C.val = C.val; omega

/-- The attention of query `r` of sample `b` at channel `C`. -/
def kAttn (c : Dev nD) (b r : Fin 32) (C : Fin 512) : EReal := attn (kScore m c b r C) (fun j => kVal m c b j C)

/-- A pair of heads of a point's tile. -/
theorem pair_eq (c : Dev nD) (t : Fin cfg0.N) (p : ℕ) (hp : p < 4) (q : FVec Ideal S32x128 .bf16) (k v : FVec Ideal S544x128 .bf16) (b b' : FVec Ideal S1x32x544 .f32)
    (r : Fin 32) (x : Fin 128)
    (hq : ∀ x : Fin 128, q (ix2 r x) = kQ m c (row (smp t) r) ⟨128 * p + x.val, by have := x.isLt; omega⟩)
    (hk : ∀ (j : Fin 544) (x : Fin 128), k (ix2 j x) = kKey m c (smp t) j ⟨128 * p + x.val, by have := x.isLt; omega⟩)
    (hv : ∀ (j : Fin 544) (x : Fin 128), v (ix2 j x) = kVal m c (smp t) j ⟨128 * p + x.val, by have := x.isLt; omega⟩)
    (hb : ∀ j : Fin 544, b (ix3 0 r j) = kBias m c ⟨2 * p, by omega⟩ r j)
    (hb' : ∀ j : Fin 544, b' (ix3 0 r j) = kBias m c ⟨2 * p + 1, by omega⟩ r j) :
    pair q k v b b' r x = kAttn m c (smp t) r ⟨128 * p + x.val, by have := x.isLt; omega⟩ := by
  have hx := x.isLt
  have ch : ∀ (z : ℕ) (d : Fin 64) (hz : z = x.val / 64) (h : _),
      (⟨128 * p + (64 * z + d.val), h⟩ : Fin 512) = chan ⟨128 * p + x.val, by omega⟩ d := fun z d hz h => Fin.ext (by
    show 128 * p + (64 * z + d.val) = 64 * ((128 * p + x.val) / 64) + d.val
    omega)
  unfold pair kAttn
  split_ifs with h
  · refine congrArg₂ attn (funext fun j => ?_) (funext fun j => hv j x)
    unfold kScore
    refine congrArg₂ (· + ·) (Finset.sum_congr rfl fun d _ => ?_) ((hb j).trans (congrArg (fun h => kBias m c h r j) (Fin.ext ?_)))
    · rw [hq, hk]
      have e := ch 0 d (by omega) (by have := d.isLt; omega)
      exact congrArg (fun C => kQ m c (row (smp t) r) C * kKey m c (smp t) j C) e
    · show 2 * p = (128 * p + x.val) / 64; omega
  · refine congrArg₂ attn (funext fun j => ?_) (funext fun j => hv j x)
    unfold kScore
    refine congrArg₂ (· + ·) (Finset.sum_congr rfl fun d _ => ?_) ((hb' j).trans (congrArg (fun h => kBias m c h r j) (Fin.ext ?_)))
    · rw [hq, hk]
      have e := ch 1 d (by omega) (by have := d.isLt; omega)
      exact congrArg (fun C => kQ m c (row (smp t) r) C * kKey m c (smp t) j C) e
    · show 2 * p + 1 = (128 * p + x.val) / 64; omega

/-- The attention's tile. -/
def attnTile (c : Dev nD) (t : Fin cfg0.N) : Vec Ideal S32x512 .bf16 := fun i => kAttn m c (smp t) (i 0) (i 1)

/-- The attention's tile inside 128 columns. -/
theorem attnTile_emb (c : Dev nD) (t : Fin cfg0.N) (o : ℕ) (ho : o + 128 ≤ 512) (h : _) (r : Fin 32) (x : Fin 128) :
    kAttn m c (smp t) r ⟨o + x.val, by have := x.isLt; omega⟩ = attnTile m c t ((Rect.unit (s := S32x512) ![0, o] ![32, 128] h).emb (ix2 r x : S32x128.Idx)) :=
  congrArg₂ (kAttn m c (smp t)) (Fin.ext (by show r.val = 0 + 1 * r.val; omega)) (Fin.ext (by show o + x.val = o + 1 * x.val; omega))

/-- What a point leaves in the attention's tile. -/
theorem body10_at (c : Dev nD) (t : Fin cfg0.N) (r : Fin 32) (C : Fin 512) :
    (show EReal from (outsAt0 m c t).1 (ix2 r C)) = kAttn m c (smp t) r C := by
  have h : (outsAt0 m c t).1 = attnTile m c t := by
    unfold outsAt0
    dsimp only
    frame_out
    funext i
    refine View.canon_apply_of_pieces (Val := Elt Ideal) (S := S32x512) (e := .bf16) (attnTile m c t) _ ?_ i (View.cover_of_tiledL (Val := Elt Ideal) (s := S32x512) (e := .bf16) _ S32x128.size (by sl_kernel_rfl) i)
    refine List.forall_mem_cons.mpr ⟨fun i => ?_, List.forall_mem_cons.mpr ⟨fun i => ?_, List.forall_mem_cons.mpr ⟨fun i => ?_, List.forall_mem_cons.mpr ⟨fun i => ?_, List.forall_mem_nil _⟩⟩⟩⟩
    · obtain ⟨a, x, rfl⟩ : ∃ (a : Fin 32) (x : Fin 128), i = (ix2 a x : S32x128.Idx) := ⟨i 0, i 1, eq_ix2 i⟩
      refine (pay20_at _ _ _ _ _ a x).trans ((pair_eq m c t 3 (by decide) _ _ _ _ _ a x ?_ ?_ ?_ ?_ ?_).trans (attnTile_emb m c t 384 (by decide) (by decide) a x))
      · exact fun x => ld_q m c t 384 (by decide) _ a x
      · exact fun j x => (read_stack _ _ _ _ _ 384 (by decide) _ j x).trans (stack_keys m c t j _)
      · exact fun j x => (read_stack _ _ _ _ _ 384 (by decide) _ j x).trans (stack_vals m c t j _)
      · exact fun j => ld_b m c t 6 (by decide) _ a j
      · exact fun j => ld_b m c t 7 (by decide) _ a j
    · obtain ⟨a, x, rfl⟩ : ∃ (a : Fin 32) (x : Fin 128), i = (ix2 a x : S32x128.Idx) := ⟨i 0, i 1, eq_ix2 i⟩
      refine (pay18_at _ _ _ _ _ a x).trans ((pair_eq m c t 2 (by decide) _ _ _ _ _ a x ?_ ?_ ?_ ?_ ?_).trans (attnTile_emb m c t 256 (by decide) (by decide) a x))
      · exact fun x => ld_q m c t 256 (by decide) _ a x
      · exact fun j x => (read_stack _ _ _ _ _ 256 (by decide) _ j x).trans (stack_keys m c t j _)
      · exact fun j x => (read_stack _ _ _ _ _ 256 (by decide) _ j x).trans (stack_vals m c t j _)
      · exact fun j => ld_b m c t 4 (by decide) _ a j
      · exact fun j => ld_b m c t 5 (by decide) _ a j
    · obtain ⟨a, x, rfl⟩ : ∃ (a : Fin 32) (x : Fin 128), i = (ix2 a x : S32x128.Idx) := ⟨i 0, i 1, eq_ix2 i⟩
      refine (pay15_at _ _ _ _ _ a x).trans ((pair_eq m c t 1 (by decide) _ _ _ _ _ a x ?_ ?_ ?_ ?_ ?_).trans (attnTile_emb m c t 128 (by decide) (by decide) a x))
      · exact fun x => ld_q m c t 128 (by decide) _ a x
      · exact fun j x => (read_stack _ _ _ _ _ 128 (by decide) _ j x).trans (stack_keys m c t j _)
      · exact fun j x => (read_stack _ _ _ _ _ 128 (by decide) _ j x).trans (stack_vals m c t j _)
      · exact fun j => ld_b m c t 2 (by decide) _ a j
      · exact fun j => ld_b m c t 3 (by decide) _ a j
    · obtain ⟨a, x, rfl⟩ : ∃ (a : Fin 32) (x : Fin 128), i = (ix2 a x : S32x128.Idx) := ⟨i 0, i 1, eq_ix2 i⟩
      refine (pay12_at _ _ _ _ _ a x).trans ((pair_eq m c t 0 (by decide) _ _ _ _ _ a x ?_ ?_ ?_ ?_ ?_).trans (attnTile_emb m c t 0 (by decide) (by decide) a x))
      · exact fun x => ld_q m c t 0 (by decide) _ a x
      · exact fun j x => (read_stack _ _ _ _ _ 0 (by decide) _ j x).trans (stack_keys m c t j _)
      · exact fun j x => (read_stack _ _ _ _ _ 0 (by decide) _ j x).trans (stack_vals m c t j _)
      · exact fun j => ld_b m c t 0 (by decide) _ a j
      · exact fun j => ld_b m c t 1 (by decide) _ a j
  exact congrFun h (ix2 r C)

/-- The gated convolution of token `r` of sample `b`. -/
def kGated (c : Dev nD) (b r : Fin 32) (C : Fin 512) : EReal :=
  kGate m c (row b r) C * (kConv m c b ⟨0 + r.val, by have := r.isLt; omega⟩ C * kTap m c ⟨0, by decide⟩ C
    + kConv m c b ⟨1 + r.val, by have := r.isLt; omega⟩ C * kTap m c ⟨1, by decide⟩ C
    + kConv m c b ⟨2 + r.val, by have := r.isLt; omega⟩ C * kTap m c ⟨2, by decide⟩ C)

/-- What a point leaves in the convolution's tile. -/
theorem body11_at (c : Dev nD) (t : Fin cfg0.N) (r : Fin 32) (C : Fin 512) :
    (show EReal from (outsAt0 m c t).2.1 (ix2 r C)) = kGated m c (smp t) r C := by
  have h : (outsAt0 m c t).2.1 = fun i => kGated m c (smp t) (i 0) (i 1) := by
    unfold outsAt0
    dsimp only
    frame_out
    funext i
    obtain ⟨a, x, rfl⟩ : ∃ (a : Fin 32) (x : Fin 512), i = (ix2 a x : S32x512.Idx) := ⟨i 0, i 1, eq_ix2 i⟩
    refine (pay1_at _ _ _ _ _ _ _ a x).trans ?_
    refine congrArg₂ (· * ·) (blk6 m c t a x) (congrArg₂ (· + ·) (congrArg₂ (· + ·) (congrArg₂ (· * ·) ?_ (ld_w m c t 0 (by decide) _ x))
      (congrArg₂ (· * ·) ?_ (ld_w m c t 1 (by decide) _ x))) (congrArg₂ (· * ·) ?_ (ld_w m c t 2 (by decide) _ x)))
    · exact (read_tail _ _ _ _ _ 0 32 (by decide) _ a x).trans (tail_rows m c t _ x)
    · exact (read_tail _ _ _ _ _ 1 32 (by decide) _ a x).trans (tail_rows m c t _ x)
    · exact (read_tail _ _ _ _ _ 2 32 (by decide) _ a x).trans (tail_rows m c t _ x)
  exact congrFun h (ix2 r C)

/-- What a point leaves in the new state's tile. -/
theorem body12_at (c : Dev nD) (t : Fin cfg0.N) (i : Fin 2) (C : Fin 512) :
    (show EReal from (outsAt0 m c t).2.2 (ix3 0 i C)) = kConv m c (smp t) ⟨32 + i.val, by have := i.isLt; omega⟩ C := by
  have h : (outsAt0 m c t).2.2 = fun x => kConv m c (smp t) ⟨32 + (x 1).val, by have : (x 1).val < 2 := (x 1).isLt; omega⟩ (x 2) := by
    unfold outsAt0
    dsimp only
    frame_out
    funext x
    obtain ⟨z, a, d, rfl⟩ : ∃ (z : Fin 1) (a : Fin 2) (d : Fin 512), x = (ix3 z a d : S1x2x512.Idx) := ⟨x 0, x 1, x 2, eq_ix3 x⟩
    obtain rfl : z = 0 := Subsingleton.elim _ _
    exact (pay2_at _ a d).trans ((read_tail _ _ _ _ _ 32 2 (by decide) _ a d).trans (tail_rows m c t _ d))
  exact congrFun h (ix3 0 i C)

/-! ## The arrays -/

/-- The index map of output window 10, decided over the grid. -/
theorem idx10 : ∀ t : Fin cfg0.N, win0_10.index t = ![t.val, 0] := (by decide +kernel : ∀ t : Fin grid0.N, _)

/-- The attention's array at an element. -/
theorem out10_at (c : Dev nD) (b r : Fin 32) (C : Fin 512) :
    (show EReal from (dats m 0 c).arrAt 10 cfg0.N (ix2 (row b r) C)) = kAttn m c b r C := by
  obtain ⟨t, rfl⟩ := exists_point b
  have h := congrFun (Value.blocks10 m c t (flush0_10 t)) (ix2 r C)
  rw [Value.flushed10] at h
  have e : ((cfg0.win 10).blk t).view.emb (ix2 r C : S32x512.Idx) = ix2 (row (smp t) r) C := by
    have i := idx10 t
    funext a; apply Fin.ext
    fin_cases a
    · show win0_10.index t 0 * 32 + 1 * r.val = 32 * t.val + r.val
      rw [i]; show t.val * 32 + 1 * r.val = _; omega
    · show win0_10.index t 1 * 512 + 1 * C.val = C.val
      rw [i]; show 0 * 512 + 1 * C.val = _; omega
  exact ((congrArg ((dats m 0 c).arrAt 10 cfg0.N) e).symm.trans h).trans (body10_at m c t r C)

/-- The index map of output window 11, decided over the grid. -/
theorem idx11 : ∀ t : Fin cfg0.N, win0_11.index t = ![t.val, 0] := (by decide +kernel : ∀ t : Fin grid0.N, _)

/-- The convolution's array at an element. -/
theorem out11_at (c : Dev nD) (b r : Fin 32) (C : Fin 512) :
    (show EReal from (dats m 0 c).arrAt 11 cfg0.N (ix2 (row b r) C)) = kGated m c b r C := by
  obtain ⟨t, rfl⟩ := exists_point b
  have h := congrFun (Value.blocks11 m c t (flush0_11 t)) (ix2 r C)
  rw [Value.flushed11] at h
  have e : ((cfg0.win 11).blk t).view.emb (ix2 r C : S32x512.Idx) = ix2 (row (smp t) r) C := by
    have i := idx11 t
    funext a; apply Fin.ext
    fin_cases a
    · show win0_11.index t 0 * 32 + 1 * r.val = 32 * t.val + r.val
      rw [i]; show t.val * 32 + 1 * r.val = _; omega
    · show win0_11.index t 1 * 512 + 1 * C.val = C.val
      rw [i]; show 0 * 512 + 1 * C.val = _; omega
  exact ((congrArg ((dats m 0 c).arrAt 11 cfg0.N) e).symm.trans h).trans (body11_at m c t r C)

/-- The index map of output window 12, decided over the grid. -/
theorem idx12 : ∀ t : Fin cfg0.N, win0_12.index t = ![t.val, 0, 0] := (by decide +kernel : ∀ t : Fin grid0.N, _)

/-- The new state's array at an element. -/
theorem out12_at (c : Dev nD) (b : Fin 32) (i : Fin 2) (C : Fin 512) :
    (show EReal from (dats m 0 c).arrAt 12 cfg0.N (ix3 b i C)) = kConv m c b ⟨32 + i.val, by have := i.isLt; omega⟩ C := by
  obtain ⟨t, rfl⟩ := exists_point b
  have h := congrFun (Value.blocks12 m c t (flush0_12 t)) (ix3 0 i C)
  rw [Value.flushed12] at h
  have e : ((cfg0.win 12).blk t).view.emb (ix3 0 i C : S1x2x512.Idx) = ix3 (smp t) i C := by
    have j := idx12 t
    funext a; apply Fin.ext
    fin_cases a
    · show win0_12.index t 0 * 1 + 1 * 0 = t.val
      rw [j]; show t.val * 1 + 1 * 0 = _; omega
    · show win0_12.index t 1 * 2 + 1 * i.val = i.val
      rw [j]; show 0 * 2 + 1 * i.val = _; omega
    · show win0_12.index t 2 * 512 + 1 * C.val = C.val
      rw [j]; show 0 * 512 + 1 * C.val = _; omega
  exact ((congrArg ((dats m 0 c).arrAt 12 cfg0.N) e).symm.trans h).trans (body12_at m c t i C)

end Cert.Layer.Seq
end
-- ==== Proof.SeqRef.lean ====
module
public import proofs.«01_k».proof.Proof.Gen.SeqRefIdeal.Run
public import proofs.«01_k».proof.Proof.Seq
public import Idealize.ShloMosaic.Lib.Pipeline.ValueKit

/-!
The attention and the short convolution of a sample batch: the reference's operations, element by element, and the two
orders of a softmax average.
-/

@[expose] public section

set_option maxRecDepth 16384

noncomputable section
open Idealize.ShloMosaic Idealize.ShloMosaic.TcCoe Idealize.SL.Sem

namespace Cert.Layer.Seq

/-! ## A softmax average, in the two orders -/

/-- A finite sum of extended reals times a non-negative real, term by term. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The greatest of scores below `+∞`, one of them real, is real. -/
theorem top_real {s : Fin 544 → EReal} (h : ∀ j, s j ≠ ⊤) (j0 : Fin 544) (h0 : IsReal (s j0)) : IsReal (top s) := by
  have hlt : top s < ⊤ := by
    unfold top
    rw [Finset.fold_max_lt, ofBits_neg_inf]
    exact ⟨bot_lt_top, fun j _ => lt_top_iff_ne_top.mpr (h j)⟩
  have hgt : s j0 ≤ top s := by
    unfold top
    rw [Finset.le_fold_max]
    exact Or.inr ⟨j0, Finset.mem_univ _, le_rfl⟩
  obtain ⟨x, hx⟩ := h0
  generalize top s = z at hlt hgt
  induction z using EReal.rec with
  | bot => rw [hx] at hgt; exact absurd (le_bot_iff.mp hgt) (EReal.coe_ne_bot x)
  | top => exact absurd hlt (lt_irrefl _)
  | coe r => exact ⟨r, rfl⟩

/-- Dividing the average at the end or every weight before is the same, when no score is `+∞` and one is real. -/
theorem attn_eq {s : Fin 544 → EReal} (h : ∀ j, s j ≠ ⊤) (j0 : Fin 544) (h0 : IsReal (s j0)) (v : Fin 544 → EReal) :
    attn s v = ∑ j, Ideal.div (rel s j) (∑ k, rel s k) * v j := by
  obtain ⟨M, hM⟩ := top_real h j0 h0
  have hr : ∀ j, ∃ r : ℝ, 0 ≤ r ∧ rel s j = (r : EReal) := fun j => by
    unfold rel
    rw [hM]
    have hj := h j
    generalize s j = z at hj
    induction z using EReal.rec with
    | bot => exact ⟨0, le_rfl, by rw [EReal.bot_sub]; rfl⟩
    | top => exact absurd rfl hj
    | coe x => exact ⟨Real.exp (x - M), (Real.exp_pos _).le, by rw [← EReal.coe_sub, Ideal.exp_coe]⟩
  choose e he hE using hr
  have hp : 0 < e j0 := by
    obtain ⟨x, hx⟩ := h0
    have : rel s j0 = ((Real.exp (x - M) : ℝ) : EReal) := by
      unfold rel; rw [hM, hx, ← EReal.coe_sub, Ideal.exp_coe]
    rw [hE] at this
    rw [EReal.coe_eq_coe_iff.mp this]
    exact Real.exp_pos _
  have hL : (∑ j, rel s j) = ((∑ j, e j : ℝ) : EReal) := by
    rw [coe_sum]; exact Finset.sum_congr rfl fun j _ => hE j
  have hpos : 0 < ∑ j, e j := Finset.sum_pos' (fun j _ => he j) ⟨j0, Finset.mem_univ _, hp⟩
  unfold attn
  rw [hL, Ideal.div_coe hpos.ne', sum_mul_coe _ _ (by positivity)]
  refine Finset.sum_congr rfl fun j _ => ?_
  rw [Ideal.div_coe hpos.ne', mul_assoc, mul_comm (v j), ← mul_assoc]

/-! ## The reference -/

section
open Cert.SeqRefIdeal Cert.SeqRefIdeal.Gen Cert.SeqRefIdeal.Value

/-- The clipped distance of a query and a key, from zero. -/
def relDist : IVec S32x544 32 :=
  addi (minsi (broadcastInDim S32x544 ![] bcast_S_S32x544 (id (constantI S_ 32 128#32))) (maxsi (broadcastInDim S32x544 ![] bcast_S_S32x544 (id (constantI S_ 32 4294967168#32)))
    (subi (broadcastInDim S32x544 ![0, 1] bcast_S32x1_S32x544_0_1 (addi (broadcastInDim S32x1 ![] bcast_S_S32x1 (constantI S_ 32 512#32)) (broadcastInDim S32x1 ![0] bcast_S32_S32x1_0 (iotaInDim S32 32 0))))
      (broadcastInDim S32x544 ![0, 1] bcast_S1x544_S32x544_0_1 (broadcastInDim S1x544 ![1] bcast_S544_S1x544_1 (iotaInDim S544 32 0)))))) (broadcastInDim S32x544 ![] bcast_S_S32x544 (constantI S_ 32 128#32))

/-- The entry of the table a query and a key take. -/
def relIdx : IVec S32x544x1 32 :=
  broadcastInDim S32x544x1 ![0, 1] bcast_S32x544_S32x544x1_0_1 (select (cmpi .slt relDist (broadcastInDim S32x544 ![] bcast_S_S32x544 (constantI S_ 32 0#32)))
    (addi relDist (broadcastInDim S32x544 ![] bcast_S_S32x544 (constantI S_ 32 257#32))) relDist)

/-- Whether that entry exists. -/
def inTable : IVec S32x544 1 :=
  Host.reduce IntOp.andi (andi (cmpi .sge relIdx (broadcastInDim S32x544x1 ![] bcast_S_S32x544x1 (constantI S_ 32 0#32)))
    (cmpi .sle relIdx (broadcastInDim S32x544x1 ![0, 1, 2] bcast_S1x1x1_S32x544x1_0_1_2 (broadcastInDim S1x1x1 ![2] bcast_S1_S1x1x1_2 (constantI S1 32 256#32))))) (constantI S_ 1 1#1) reducesTo_S32x544x1_S32x544_d2 h_S_

/-- The biases of every head, query and key, taken from the table. -/
def biasArr (T : FVec Ideal S8x257 .f32) : FVec Ideal S8x32x544 .f32 :=
  select (broadcastInDim S8x32x544 ![1, 2] bcast_S32x544_S8x32x544_1_2 inTable) (Host.gather gather_S8x257_S32x544x1_S8x32x544_0_1_n_n_1_2_81 T relIdx)
    (broadcastInDim S8x32x544 ![] bcast_S_S8x32x544 (constant S_ .f32 0x7FC00000#32))

/-- The scores of every sample, head, query and key. -/
def scoreArr (q : FVec Ideal S32x32x8x64 .f32) (k : FVec Ideal S32x544x8x64 .f32) (B : FVec Ideal S8x32x544 .f32) : FVec Ideal S32x8x32x544 .f32 :=
  addf (Host.dotGeneral dot_S32x32x8x64_S32x544x8x64_S32x8x32x544_3_3_1_1_02_02 none q k)
    (broadcastInDim S32x8x32x544 ![0, 1, 2, 3] bcast_S1x8x32x544_S32x8x32x544_0_1_2_3 (broadcastInDim S1x8x32x544 ![1, 2, 3] bcast_S8x32x544_S1x8x32x544_1_2_3 B))

/-- A score. -/
theorem scoreArr_at (q : FVec Ideal S32x32x8x64 .f32) (k : FVec Ideal S32x544x8x64 .f32) (B : FVec Ideal S8x32x544 .f32) (b : Fin 32) (h : Fin 8) (r : Fin 32) (j : Fin 544) :
    scoreArr q k B (ix4 b h r j) = ∑ d : Fin 64, q (ix4 b r h d) * k (ix4 b j h d) + B (ix3 h r j) := by
  pointwise [scoreArr]
  try rfl

/-- The greatest along the last axis, from minus infinity: of any four sizes. -/
theorem reduce_max {n0 n1 n2 n3 : Nat} {u : Shape} (s : FVec Ideal (⟨4, ![n0, n1, n2, n3]⟩ : Shape) .f32) (z : FVec Ideal u .f32)
    (h : (⟨4, ![n0, n1, n2, n3]⟩ : Shape).ReducesTo [3] (⟨3, ![n0, n1, n2]⟩ : Shape)) (hu : 0 < u.numel) (a : Fin n0) (b : Fin n1) (c : Fin n2) :
    Host.reduce (FloatOps.maximumf : Ideal .f32 → Ideal .f32 → Ideal .f32) s z h hu (ix3 a b c)
      = (Finset.univ : Finset (Fin n3)).fold max (z (Shape.Idx.first hu)) (fun k => s (ix4 a b c k)) := by
  rw [Ideal.maximumf_eq_max]
  refine (Host.reduce_eq_fold (α := EReal) max s z h hu (ix3 a b c)).trans ?_
  exact Shape.ReducesTo.fold_fiber_r4_a3 h (ix3 a b c) max _ s

/-- The greatest score of every sample, head and query. -/
def maxArr (s : FVec Ideal S32x8x32x544 .f32) : FVec Ideal S32x8x32 .f32 :=
  Host.reduce FloatOps.maximumf s (constant S_ .f32 0xFF800000#32) reducesTo_S32x8x32x544_S32x8x32_d3 h_S_

theorem maxArr_at (s : FVec Ideal S32x8x32x544 .f32) (b : Fin 32) (h : Fin 8) (r : Fin 32) :
    maxArr s (ix3 b h r) = top (fun j => s (ix4 b h r j)) :=
  reduce_max s (constant S_ .f32 0xFF800000#32) reducesTo_S32x8x32x544_S32x8x32_d3 h_S_ b h r

/-- The exponentials of the scores relative to given numbers, one for every sample, head and query. -/
def relOf (s : FVec Ideal S32x8x32x544 .f32) (M : FVec Ideal S32x8x32 .f32) : FVec Ideal S32x8x32x544 .f32 :=
  Host.exp (subf s (broadcastInDim S32x8x32x544 ![0, 1, 2, 3] bcast_S32x8x32x1_S32x8x32x544_0_1_2_3 (broadcastInDim S32x8x32x1 ![0, 1, 2] bcast_S32x8x32_S32x8x32x1_0_1_2
    (maximumf (broadcastInDim S32x8x32 ![] bcast_S_S32x8x32 (constant S_ .f32 0xFF800000#32)) M))))

theorem relOf_at (s : FVec Ideal S32x8x32x544 .f32) (M : FVec Ideal S32x8x32 .f32) (b : Fin 32) (h : Fin 8) (r : Fin 32) (j : Fin 544) :
    relOf s M (ix4 b h r j) = Ideal.exp (s (ix4 b h r j) - M (ix3 b h r)) := by
  pointwise [relOf]
  rw [ofBits_neg_inf, max_eq_right bot_le]

/-- The exponentials of the scores relative to the greatest. -/
def relArr (s : FVec Ideal S32x8x32x544 .f32) : FVec Ideal S32x8x32x544 .f32 := relOf s (maxArr s)

theorem relArr_at (s : FVec Ideal S32x8x32x544 .f32) (b : Fin 32) (h : Fin 8) (r : Fin 32) (j : Fin 544) :
    relArr s (ix4 b h r j) = rel (fun j => s (ix4 b h r j)) j :=
  (relOf_at s (maxArr s) b h r j).trans (congrArg (fun t => Ideal.exp (s (ix4 b h r j) - t)) (maxArr_at s b h r))

/-- The softmax's average of the values. -/
def avgArr (v : FVec Ideal S32x544x8x64 .f32) (e : FVec Ideal S32x8x32x544 .f32) : FVec Ideal S32x32x8x64 .f32 :=
  transpose S32x32x8x64 [0, 3, 1, 2] (Host.dotGeneral dot_S32x544x8x64_S32x8x32x544_S32x8x64x32_1_3_3_2_02_01 none v
    (Host.divf e (broadcastInDim S32x8x32x544 ![0, 1, 2, 3] bcast_S32x8x32x1_S32x8x32x544_0_1_2_3 (broadcastInDim S32x8x32x1 ![0, 1, 2] bcast_S32x8x32_S32x8x32x1_0_1_2
      (Host.reduceAdd e (constant S_ .f32 0x00000000#32) reducesTo_S32x8x32x544_S32x8x32_d3 h_S_))))) transposes_S32x8x64x32_S32x32x8x64_0_3_1_2

theorem avgArr_at (v : FVec Ideal S32x544x8x64 .f32) (e : FVec Ideal S32x8x32x544 .f32) (b r : Fin 32) (h : Fin 8) (d : Fin 64) :
    avgArr v e (ix4 b r h d) = ∑ j, v (ix4 b j h d) * Ideal.div (e (ix4 b h r j)) (∑ k, e (ix4 b h r k)) := by
  pointwise [avgArr]
  try rfl

/-- 512 kept rows, then the 32 new ones, of heads side by side. -/
def joinArr (a : FVec Ideal S32x512x8x64 .f32) (n : FVec Ideal S1024x512 .f32) : FVec Ideal S32x544x8x64 .f32 :=
  concatenate S32x544x8x64 1 [⟨S32x512x8x64, a⟩, ⟨S32x32x8x64, (shapeCast _ n shapeCasts_S1024x512_S32x32x8x64)⟩] concatenates_S32x512x8x64_S32x32x8x64_S32x544x8x64_d1

/-- A token's heads, from its channels. -/
theorem heads_at {φ : FTy} (n : FVec Ideal S1024x512 φ) (hs : _) (b r : Fin 32) (C : Fin 512) (d : Fin 64) :
    shapeCast S32x32x8x64 n hs (ix4 b r (head C) d) = n (ix2 (row b r) (chan C d)) := by
  refine shapeCast_apply _ _ _ _ ?_
  refine (Shape.rowMajor_val_two _).trans (Eq.trans ?_ (Shape.rowMajor_val_four _).symm)
  show (32 * b.val + r.val) * 512 + (64 * (C.val / 64) + d.val) = ((b.val * 32 + r.val) * 8 + C.val / 64) * 64 + d.val
  omega

theorem joinArr_at (a : FVec Ideal S32x512x8x64 .f32) (n : FVec Ideal S1024x512 .f32) (b : Fin 32) (j : Fin 544) (C : Fin 512) (d : Fin 64) :
    joinArr a n (ix4 b j (head C) d) = if h : j.val < 512 then a (ix4 b ⟨j.val, h⟩ (head C) d)
      else n (ix2 (row b ⟨j.val - 512, by have := j.isLt; omega⟩) (chan C d)) := by
  by_cases h : j.val < 512
  · rw [dif_pos h]
    pointwise [joinArr]
    exact dif_pos h
  · rw [dif_neg h]
    rw [← heads_at n shapeCasts_S1024x512_S32x32x8x64]
    pointwise [joinArr]
    exact dif_neg h

/-- A query's and a key's entry exists: the first key of every query. -/
theorem inTable_first : ∀ r : Fin 32, inTable (ix2 r 0) = 1#1 := by
  intro r
  pointwise [inTable, relIdx, relDist]
  revert r
  decide

theorem nan_bot : Ideal.ofBits .f32 0x7FC00000#32 = (⊥ : EReal) := by
  simp [Ideal.ofBits, Ideal.ieee]

theorem select_one {S : Shape} {α : Type} (c : IVec S 1) (x y : S.Idx → α) (i : S.Idx) (h : c i = 1#1) : select c x y i = x i := if_pos h
theorem select_other {S : Shape} {α : Type} (c : IVec S 1) (x y : S.Idx → α) (i : S.Idx) (h : ¬ c i = 1#1) : select c x y i = y i := if_neg h

/-- What is gathered is an element of the table. -/
theorem gather_mem {s si t : Shape} {α : Type} {w : Nat} (d : GatherDims s si t) (x : s.Idx → α) (idx : IVec si w) (j : t.Idx) :
    ∃ k, Host.gather d x idx j = x k := ⟨_, rfl⟩

/-- A bias is an entry of the table, or the least extended real. -/
theorem bias_cases (T : FVec Ideal S8x257 .f32) (i : S8x32x544.Idx) : biasArr T i = (⊥ : EReal) ∨ ∃ k, biasArr T i = T k := by
  unfold biasArr
  by_cases h : (broadcastInDim S8x32x544 ![1, 2] bcast_S32x544_S8x32x544_1_2 inTable) i = 1#1
  · rw [select_one _ _ _ _ h]
    exact Or.inr (gather_mem _ _ _ _)
  · rw [select_other _ _ _ _ h]
    exact Or.inl nan_bot

/-- The first key's bias is an entry of the table. -/
theorem bias_first (T : FVec Ideal S8x257 .f32) (h : Fin 8) (r : Fin 32) : ∃ k, biasArr T (ix3 h r 0) = T k := by
  have e : (broadcastInDim S8x32x544 ![1, 2] bcast_S32x544_S8x32x544_1_2 inTable) (ix3 h r 0) = 1#1 := by
    generalize hI : inTable = I
    have e0 : I (ix2 r 0) = 1#1 := hI ▸ inTable_first r
    refine Eq.trans ?_ e0
    clear hI e0
    pointwise
    try rfl
  unfold biasArr
  rw [select_one _ _ _ _ e]
  exact gather_mem _ _ _ _

/-- A key of the 544: kept, or new. -/
def joined (a : FVec Ideal S32x512x8x64 .f32) (n : FVec Ideal S1024x512 .f32) (b : Fin 32) (j : Fin 544) (C : Fin 512) (d : Fin 64) : EReal :=
  if h : j.val < 512 then a (ix4 b ⟨j.val, h⟩ (head C) d) else n (ix2 (row b ⟨j.val - 512, by have := j.isLt; omega⟩) (chan C d))

/-- The reference's score of one key. -/
def rScore (q : FVec Ideal S1024x512 .bf16) (n : FVec Ideal S1024x512 .f32) (a : FVec Ideal S32x512x8x64 .f32) (B : FVec Ideal S8x32x544 .f32)
    (b r : Fin 32) (C : Fin 512) (j : Fin 544) : EReal :=
  ∑ d : Fin 64, q (ix2 (row b r) (chan C d)) * joined a n b j C d + B (ix3 (head C) r j)

/-- The reference's attention, whole, of queries, new and kept keys and values, and the table of biases. -/
def refAttn (q : FVec Ideal S1024x512 .bf16) (k v : FVec Ideal S1024x512 .f32) (ck cv : FVec Ideal S32x512x8x64 .f32) (B : FVec Ideal S8x32x544 .f32) : FVec Ideal S1024x512 .bf16 :=
  truncf .bf16 (shapeCast S1024x512 (avgArr (joinArr cv v) (relArr (scoreArr (shapeCast S32x32x8x64 (extf .f32 q bitsLt_bf16_f32) shapeCasts_S1024x512_S32x32x8x64) (joinArr ck k) B))) shapeCasts_S32x32x8x64_S1024x512) bitsLt_bf16_f32

theorem chan_self (C : Fin 512) : chan C ⟨C.val % 64, by omega⟩ = C := by
  apply Fin.ext
  show 64 * (C.val / 64) + C.val % 64 = C.val
  omega

/-- The heads of a token side by side again. -/
theorem flat_at (n : FVec Ideal S32x32x8x64 .f32) (b r : Fin 32) (C : Fin 512) :
    shapeCast S1024x512 n shapeCasts_S32x32x8x64_S1024x512 (ix2 (row b r) C) = n (ix4 b r (head C) ⟨C.val % 64, by omega⟩) := by
  refine shapeCast_apply _ _ _ _ ?_
  refine (Shape.rowMajor_val_four _).trans (Eq.trans ?_ (Shape.rowMajor_val_two _).symm)
  show ((b.val * 32 + r.val) * 8 + C.val / 64) * 64 + C.val % 64 = (32 * b.val + r.val) * 512 + C.val
  omega

theorem truncf_same {S : Shape} (x : FVec Ideal S .f32) (h : _) (i : S.Idx) : (truncf .bf16 x h i : EReal) = x i := rfl

/-- The reference's attention at an element: the values' average under the softmax of the scores. -/
theorem refAttn_at (q : FVec Ideal S1024x512 .bf16) (k v : FVec Ideal S1024x512 .f32) (ck cv : FVec Ideal S32x512x8x64 .f32) (B : FVec Ideal S8x32x544 .f32) (b r : Fin 32) (C : Fin 512) :
    refAttn q k v ck cv B (ix2 (row b r) C) = ∑ j, joined cv v b j C ⟨C.val % 64, by omega⟩
      * Ideal.div (rel (rScore q k ck B b r C) j) (∑ i, rel (rScore q k ck B b r C) i) := by
  unfold refAttn
  refine (truncf_same _ _ _).trans ?_
  rw [flat_at]
  have es : ∀ j, scoreArr (shapeCast S32x32x8x64 (extf .f32 q bitsLt_bf16_f32) shapeCasts_S1024x512_S32x32x8x64) (joinArr ck k) B (ix4 b (head C) r j) = rScore q k ck B b r C j := fun j => by
    rw [scoreArr_at]
    unfold rScore
    refine congrArg (· + B (ix3 (head C) r j)) (Finset.sum_congr rfl fun d _ => ?_)
    rw [joinArr_at, heads_at]
    rfl
  rw [avgArr_at]
  simp only [joinArr_at, relArr_at, es]
  rfl

/-- The two kept rows, then the 32 new ones. -/
def catArr (a : FVec Ideal S32x2x512 .f32) (n : FVec Ideal S1024x512 .f32) : FVec Ideal S32x34x512 .f32 :=
  concatenate S32x34x512 1 [⟨S32x2x512, a⟩, ⟨S32x32x512, (shapeCast _ n shapeCasts_S1024x512_S32x32x512)⟩] concatenates_S32x2x512_S32x32x512_S32x34x512_d1

/-- A sample's tokens. -/
theorem tokens_at {φ : FTy} (n : FVec Ideal S1024x512 φ) (hs : _) (b r : Fin 32) (C : Fin 512) :
    shapeCast S32x32x512 n hs (ix3 b r C) = n (ix2 (row b r) C) := by
  refine shapeCast_apply _ _ _ _ ?_
  refine (Shape.rowMajor_val_two _).trans (Eq.trans ?_ (Shape.rowMajor_val_three _).symm)
  show (32 * b.val + r.val) * 512 + C.val = (b.val * 32 + r.val) * 512 + C.val
  omega

theorem untokens_at {φ : FTy} (n : FVec Ideal S32x32x512 φ) (hs : _) (b r : Fin 32) (C : Fin 512) :
    shapeCast S1024x512 n hs (ix2 (row b r) C) = n (ix3 b r C) := by
  refine shapeCast_apply _ _ _ _ ?_
  refine (Shape.rowMajor_val_three _).trans (Eq.trans ?_ (Shape.rowMajor_val_two _).symm)
  show (b.val * 32 + r.val) * 512 + C.val = (32 * b.val + r.val) * 512 + C.val
  omega

theorem catArr_at (a : FVec Ideal S32x2x512 .f32) (n : FVec Ideal S1024x512 .f32) (b : Fin 32) (i : Fin 34) (C : Fin 512) :
    catArr a n (ix3 b i C) = if h : i.val < 2 then a (ix3 b ⟨i.val, h⟩ C) else n (ix2 (row b ⟨i.val - 2, by have := i.isLt; omega⟩) C) := by
  by_cases h : i.val < 2
  · rw [dif_pos h]
    pointwise [catArr]
    exact dif_pos h
  · rw [dif_neg h]
    rw [← tokens_at n shapeCasts_S1024x512_S32x32x512]
    pointwise [catArr]
    exact dif_neg h

/-- The short convolution under its gate, from the 34 rows. -/
def gatedArr (g : FVec Ideal S1024x512 .bf16) (z : FVec Ideal S32x34x512 .f32) (w : FVec Ideal S3x512 .f32) : FVec Ideal S32x32x512 .f32 :=
  mulf (shapeCast S32x32x512 (extf .f32 g bitsLt_bf16_f32) shapeCasts_S1024x512_S32x32x512) (addf (addf (mulf (extractStridedSlice S32x32x512 ![0, 0, 0] z slices_S32x34x512_S32x32x512_0_0_0) (broadcastInDim S32x32x512 ![0, 1, 2] bcast_S1x1x512_S32x32x512_0_1_2 (broadcastInDim S1x1x512 ![2] bcast_S512_S1x1x512_2 (shapeCast _ (extractStridedSlice S1x512 ![0, 0] w slices_S3x512_S1x512_0_0) shapeCasts_S1x512_S512)))) (mulf (extractStridedSlice S32x32x512 ![0, 1, 0] z slices_S32x34x512_S32x32x512_0_1_0) (broadcastInDim S32x32x512 ![0, 1, 2] bcast_S1x1x512_S32x32x512_0_1_2 (broadcastInDim S1x1x512 ![2] bcast_S512_S1x1x512_2 (shapeCast _ (extractStridedSlice S1x512 ![1, 0] w slices_S3x512_S1x512_1_0) shapeCasts_S1x512_S512))))) (mulf (extractStridedSlice S32x32x512 ![0, 2, 0] z slices_S32x34x512_S32x32x512_0_2_0) (broadcastInDim S32x32x512 ![0, 1, 2] bcast_S1x1x512_S32x32x512_0_1_2 (broadcastInDim S1x1x512 ![2] bcast_S512_S1x1x512_2 (shapeCast _ (extractStridedSlice S1x512 ![2, 0] w slices_S3x512_S1x512_2_0) shapeCasts_S1x512_S512)))))

theorem gatedArr_at (g : FVec Ideal S1024x512 .bf16) (z : FVec Ideal S32x34x512 .f32) (w : FVec Ideal S3x512 .f32) (b r : Fin 32) (C : Fin 512) :
    gatedArr g z w (ix3 b r C) = g (ix2 (row b r) C) * (z (ix3 b ⟨0 + r.val, by omega⟩ C) * w (ix2 0 C) + z (ix3 b ⟨1 + r.val, by omega⟩ C) * w (ix2 1 C) + z (ix3 b ⟨2 + r.val, by omega⟩ C) * w (ix2 2 C)) := by
  have e : shapeCast S32x32x512 (extf .f32 g bitsLt_bf16_f32) shapeCasts_S1024x512_S32x32x512 (ix3 b r C) = g (ix2 (row b r) C) := (tokens_at _ _ b r C).trans rfl
  rw [← e]
  pointwise [gatedArr]
  try rfl

end

end Cert.Layer.Seq
end
-- ==== Proof.SeqClaims.lean ====
module
public import proofs.«01_k».proof.Defs
public import proofs.«01_k».proof.Proof.Seq
public import proofs.«01_k».proof.Proof.SeqRef
public import proofs.«01_k».proof.Proof.Gen.Seq.Frame
public import proofs.«01_k».proof.Proof.Gen.SeqRefIdeal.Run
public import Idealize.ShloMosaic.Lib.Quiescent
public import Idealize.ShloMosaic.Adequacy
public import Idealize.ShloMosaic.Init

/-!
The claims about the sample batch's attention and short convolution.
-/

@[expose] public section

set_option maxRecDepth 16384

noncomputable section
open Idealize.ShloMosaic Idealize.ShloMosaic.TcCoe Idealize.SL.Sem

namespace Cert.Proof.SeqClaims
open Cert.Layer Cert.Layer.Seq

/-- The precondition's side conditions hold. -/
theorem preFacts : Cert.Pre_attention_finite.Facts :=
  ⟨by decide, by decide, by decide⟩

theorem frame_p : Cert.quiescent_Seq := fun m ρ _ => Cert.Seq.Gen.frame m ρ
theorem frame_pi : Cert.quiescent_SeqIdeal := fun m ρ _ => Cert.SeqIdeal.Gen.frame m ρ
theorem frame_pi_pre [Cert.Pre_attention_finite.Facts] : Cert.quiescent_SeqIdeal_pre_attention_finite :=
  fun m ρ _ => Cert.SeqIdeal.Gen.frame m ρ
theorem frame_ri : Cert.quiescent_SeqRefIdeal := fun m ρ _ =>
  (θ_run Cert.SeqRefIdeal.defs _ _).mono (fun r h => ⟨fun c => (h c).2.2.2, Idealize.ShloMosaic.sem_eq_zero_of_no_sems (by decide) r.2⟩)
    (Cert.SeqRefIdeal.Value.run (F := Ideal) m ρ)
theorem frame_ri_pre [Cert.Pre_attention_finite.Facts] : Cert.quiescent_SeqRefIdeal_pre_attention_finite :=
  fun m ρ _ => frame_ri m ρ trivial

/-- An array whose absolute values lie below plus infinity is an array of reals. -/
theorem reals_of_lt {S : Shape} {φ : FTy} (X Z : FVec Ideal S φ) (hz : ∀ i, (Z i : EReal) = ⊤)
    (h : cmpf .olt (Host.absf X) Z = fun _ => 1#1) (i : S.Idx) : IsReal (X i) := by
  have hi := congrFun h i
  have hd : BitVec.ofBool (decide (max (X i : EReal) (-(X i)) < (Z i : EReal))) = 1#1 := hi
  rw [hz] at hd
  refine isReal_of_abs_lt_top (of_decide_eq_true ?_)
  generalize decide (max (X i : EReal) (-(X i)) < ⊤) = z at hd
  revert hd
  cases z
  · intro h; exact absurd h (by decide)
  · intro _; rfl

/-- The half-width pattern of plus infinity. -/
theorem ofBits_half_inf : Ideal.ofBits .bf16 0x7F80#16 = (⊤ : EReal) := by
  simp [Ideal.ofBits, Ideal.ieee]

/-- Under the precondition the queries, both kinds of keys and the table are real. -/
theorem args_real [Cert.Pre_attention_finite.Facts] (m : (ℓ : Loc Cert.SeqIdeal.nD Cert.SeqIdeal.τ Cert.SeqIdeal.sig) → Buf (Elt Ideal) ℓ)
    (hp : Cert.Pre_SeqIdeal_attention_finite m) (c : Dev Cert.SeqIdeal.nD) :
    (∀ i, IsReal (m ((c.tc : Thread Cert.SeqIdeal.nD Cert.SeqIdeal.τ).loc Cert.SeqIdeal.main_arg0) i))
    ∧ (∀ i, IsReal (m ((c.tc : Thread Cert.SeqIdeal.nD Cert.SeqIdeal.τ).loc Cert.SeqIdeal.main_arg1) i))
    ∧ (∀ i, IsReal (m ((c.tc : Thread Cert.SeqIdeal.nD Cert.SeqIdeal.τ).loc Cert.SeqIdeal.main_arg3) i))
    ∧ (∀ i, IsReal (m ((c.tc : Thread Cert.SeqIdeal.nD Cert.SeqIdeal.τ).loc Cert.SeqIdeal.main_arg8) i)) := by
  obtain ⟨p0, p1, p2, p3⟩ := hp c
  refine ⟨?_, ?_, ?_, ?_⟩
  · exact reals_of_lt _ _ (fun _ => ofBits_half_inf) p0
  · exact reals_of_lt _ _ (fun _ => ofBits_pos_inf) p1
  · exact reals_of_lt _ _ (fun _ => ofBits_pos_inf) p2
  · exact reals_of_lt _ _ (fun _ => ofBits_pos_inf) p3

section
open Cert.SeqIdeal Cert.SeqIdeal.Gen Cert.SeqIdeal.Value

/-- The kernel's biases are the reference's. -/
theorem biases (m : (ℓ : Loc nD τ sig) → Buf (Elt Ideal) ℓ) (c : Dev nD) :
    (V m c main_v14 : FVec Ideal Cert.SeqRefIdeal.S8x32x544 .f32) = biasArr (m ((c : Thread nD τ).loc main_arg8)) := by
  show (StableHlo.after [hostOps0, hostOps0_1, hostOps0_2, hostOps0_3].flatten (fun b => m (c, b)) (Proc.tc.devRef main_v14)) = _
  simp only [hostOps0, hostOps0_1, hostOps0_2, hostOps0_3, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  unfold biasArr inTable relIdx relDist
  try rfl

theorem head_chan (C : Fin 512) (d : Fin 64) : head (chan C d) = head C := by
  apply Fin.ext
  show (64 * (C.val / 64) + d.val) / 64 = C.val / 64
  omega

theorem chan_rem (C : Fin 512) (d : Fin 64) (h : (chan C d).val % 64 < 64) : (⟨(chan C d).val % 64, h⟩ : Fin 64) = d := by
  apply Fin.ext
  show (64 * (C.val / 64) + d.val) % 64 = d.val
  omega

/-- The keys of the two sides agree. -/
theorem keys_eq (m : (ℓ : Loc nD τ sig) → Buf (Elt Ideal) ℓ) (c : Dev nD) (b : Fin 32) (j : Fin 544) (C : Fin 512) (d : Fin 64) :
    kKey m c b j (chan C d) = joined (m ((c : Thread nD τ).loc main_arg3)) (m ((c : Thread nD τ).loc main_arg1)) b j C d := by
  unfold kKey joined
  by_cases h : j.val < 512
  · rw [dif_pos h, dif_pos h, head_chan, chan_rem]
  · rw [dif_neg h, dif_neg h]

/-- The values of the two sides agree. -/
theorem vals_eq (m : (ℓ : Loc nD τ sig) → Buf (Elt Ideal) ℓ) (c : Dev nD) (b : Fin 32) (j : Fin 544) (C : Fin 512) :
    kVal m c b j C = joined (m ((c : Thread nD τ).loc main_arg4)) (m ((c : Thread nD τ).loc main_arg2)) b j C ⟨C.val % 64, by omega⟩ := by
  unfold kVal joined
  by_cases h : j.val < 512
  · rw [dif_pos h, dif_pos h]
  · rw [dif_neg h, dif_neg h, chan_self]

/-- The scores of the two sides agree. -/
theorem scores_eq (m : (ℓ : Loc nD τ sig) → Buf (Elt Ideal) ℓ) (c : Dev nD) (b r : Fin 32) (C : Fin 512) :
    rScore (m ((c : Thread nD τ).loc main_arg0)) (m ((c : Thread nD τ).loc main_arg1)) (m ((c : Thread nD τ).loc main_arg3))
      (biasArr (m ((c : Thread nD τ).loc main_arg8))) b r C = kScore m c b r C := by
  funext j
  unfold rScore kScore
  simp only [keys_eq]
  rw [← biases m c]
  rfl

/-- Under the precondition no score is plus infinity, and every query's score with the first key is real. -/
theorem scores_real [Cert.Pre_attention_finite.Facts] (m : (ℓ : Loc nD τ sig) → Buf (Elt Ideal) ℓ)
    (hp : Cert.Pre_SeqIdeal_attention_finite m) (c : Dev nD) (b r : Fin 32) (C : Fin 512) :
    (∀ j, kScore m c b r C j ≠ ⊤) ∧ IsReal (kScore m c b r C 0) := by
  obtain ⟨r0, r1, r3, r8⟩ := args_real m hp c
  have hj : ∀ j d, IsReal (kKey m c b j d) := fun j d => by
    unfold kKey
    by_cases h : j.val < 512
    · rw [dif_pos h]; exact r3 _
    · rw [dif_neg h]; exact r1 _
  have hs : ∀ j, IsReal (∑ d : Fin 64, kQ m c (row b r) (chan C d) * kKey m c b j (chan C d)) :=
    fun j => IsReal.sum _ _ fun d => (r0 _).mul (hj j _)
  have hb : ∀ j, kBias m c (head C) r j = biasArr (m ((c : Thread nD τ).loc main_arg8)) (ix3 (head C) r j) :=
    fun j => congrFun (biases m c) _
  unfold kScore
  simp only [hb]
  refine ⟨fun j => ?_, ?_⟩
  · obtain ⟨x, hx⟩ := hs j
    rw [hx]
    rcases bias_cases (m ((c : Thread nD τ).loc main_arg8)) (ix3 (head C) r j) with h | ⟨k, h⟩
    · rw [h, EReal.add_bot]; exact bot_ne_top
    · obtain ⟨y, hy⟩ := r8 k
      rw [h, hy, ← EReal.coe_add]; exact EReal.coe_ne_top _
  · obtain ⟨k, h⟩ := bias_first (m ((c : Thread nD τ).loc main_arg8)) (head C) r
    rw [h]
    exact (hs 0).add (r8 k)

/-- The 34 rows the convolution reads agree. -/
theorem conv_eq (m : (ℓ : Loc nD τ sig) → Buf (Elt Ideal) ℓ) (c : Dev nD) (b : Fin 32) (i : Fin 34) (C : Fin 512) :
    catArr (m ((c : Thread nD τ).loc main_arg7)) (m ((c : Thread nD τ).loc main_arg5)) (ix3 b i C) = kConv m c b i C :=
  catArr_at _ _ b i C

end

/-- The reference's attention is the whole of its operations. -/
theorem attn_whole (m : (ℓ : Loc Cert.SeqRefIdeal.nD Cert.SeqRefIdeal.τ Cert.SeqRefIdeal.sig) → Buf (Elt Ideal) ℓ) (c : Dev Cert.SeqRefIdeal.nD) :
    Cert.SeqRefIdeal.Value.res_main_v62 m c = refAttn (m ((c.tc : Thread Cert.SeqRefIdeal.nD Cert.SeqRefIdeal.τ).loc Cert.SeqRefIdeal.main_arg0))
      (m ((c.tc : Thread Cert.SeqRefIdeal.nD Cert.SeqRefIdeal.τ).loc Cert.SeqRefIdeal.main_arg1)) (m ((c.tc : Thread Cert.SeqRefIdeal.nD Cert.SeqRefIdeal.τ).loc Cert.SeqRefIdeal.main_arg2))
      (m ((c.tc : Thread Cert.SeqRefIdeal.nD Cert.SeqRefIdeal.τ).loc Cert.SeqRefIdeal.main_arg3)) (m ((c.tc : Thread Cert.SeqRefIdeal.nD Cert.SeqRefIdeal.τ).loc Cert.SeqRefIdeal.main_arg4))
      (biasArr (m ((c.tc : Thread Cert.SeqRefIdeal.nD Cert.SeqRefIdeal.τ).loc Cert.SeqRefIdeal.main_arg8))) := by
  unfold Cert.SeqRefIdeal.Value.res_main_v62 refAttn avgArr relArr relOf maxArr scoreArr joinArr biasArr inTable relIdx relDist
  rfl

/-- At the extended reals the kernel and the reference end with the same three arrays: the attention, the gated
    convolution and its new state. -/
theorem algebraic [Cert.Pre_attention_finite.Facts] : Cert.algebraic_SeqIdeal_SeqRefIdeal_pre_attention_finite := by
  intro m ρ m' ρ' hp hagree
  refine ⟨_, _, _, Cert.SeqIdeal.Value.run_blocks (F := Ideal) m ρ, ?_⟩
  refine (θ_run Cert.SeqRefIdeal.defs _ _).mono (fun _ h c => ?_)
    (Cert.SeqRefIdeal.Value.run (F := Ideal) m' ρ')
  obtain ⟨a0, a1, a2, a3, a4, a5, a6, a7, a8, a9⟩ := hagree c
  obtain ⟨h0, h1, h2, hargs⟩ := h c
  refine ⟨h0.trans ?_, h1.trans ?_, h2.trans ?_, hargs⟩
  · clear h0 h1 h2 hargs
    rw [attn_whole, a0, a1, a2, a3, a4, a8]
    funext i
    obtain ⟨R, C, rfl⟩ : ∃ (a : Fin 1024) (b : Fin 512), i = ix2 a b := ⟨i 0, i 1, eq_ix2 i⟩
    obtain ⟨b, r, rfl⟩ := exists_row R
    refine Eq.trans ?_ (out10_at m c b r C).symm
    refine (refAttn_at _ _ _ _ _ _ b r C).trans ?_
    obtain ⟨ht, h0⟩ := scores_real m hp c b r C
    unfold kAttn
    rw [attn_eq ht 0 h0, scores_eq m c b r C]
    refine Finset.sum_congr rfl fun j _ => ?_
    rw [vals_eq, mul_comm]
  · clear h0 h1 h2 hargs
    rw [a5, a6, a7, a9]
    funext i
    obtain ⟨R, C, rfl⟩ : ∃ (a : Fin 1024) (b : Fin 512), i = ix2 a b := ⟨i 0, i 1, eq_ix2 i⟩
    obtain ⟨b, r, rfl⟩ := exists_row R
    refine Eq.trans ?_ (out11_at m c b r C).symm
    refine (truncf_same _ _ _).trans ?_
    refine (untokens_at _ _ b r C).trans ?_
    refine (gatedArr_at (m ((c.tc : Thread Cert.SeqIdeal.nD Cert.SeqIdeal.τ).loc Cert.SeqIdeal.main_arg6))
      (catArr (m ((c.tc : Thread Cert.SeqIdeal.nD Cert.SeqIdeal.τ).loc Cert.SeqIdeal.main_arg7)) (m ((c.tc : Thread Cert.SeqIdeal.nD Cert.SeqIdeal.τ).loc Cert.SeqIdeal.main_arg5)))
      (m ((c.tc : Thread Cert.SeqIdeal.nD Cert.SeqIdeal.τ).loc Cert.SeqIdeal.main_arg9)) b r C).trans ?_
    simp only [conv_eq]
    rfl
  · clear h0 h1 h2 hargs
    rw [a5, a7]
    funext i
    obtain ⟨b, k, C, rfl⟩ : ∃ (a : Fin 32) (k : Fin 2) (b : Fin 512), i = ix3 a k b := ⟨i 0, i 1, i 2, eq_ix3 i⟩
    refine Eq.trans ?_ (out12_at m c b k C).symm
    rw [← conv_eq]
    generalize hz : catArr (m ((c.tc : Thread Cert.SeqIdeal.nD Cert.SeqIdeal.τ).loc Cert.SeqIdeal.main_arg7)) (m ((c.tc : Thread Cert.SeqIdeal.nD Cert.SeqIdeal.τ).loc Cert.SeqIdeal.main_arg5)) = z
    unfold catArr at hz
    rw [hz]
    pointwise
    try rfl

end Cert.Proof.SeqClaims
end
-- ==== Proof.lean ====
/- The claims about the layer's calls, put together; each is proved in its own module. -/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeIdeal.Value
public import proofs.«01_k».proof.Proof.Gen.MoeRefIdeal.Run
public import proofs.«01_k».proof.Proof.Claims
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.FfnClaims
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.InprojClaims
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.MergeClaims
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.NormClaims
public import proofs.«01_k».proof.Proof.Gen.Seq
public import proofs.«01_k».proof.Proof.Gen.Seq.Frame
public import proofs.«01_k».proof.Proof.Gen.SeqIdeal
public import proofs.«01_k».proof.Proof.Gen.SeqIdeal.Frame
public import proofs.«01_k».proof.Proof.Gen.SeqIdeal.Value
public import proofs.«01_k».proof.Proof.Gen.SeqRefIdeal
public import proofs.«01_k».proof.Proof.Gen.SeqRefIdeal.Run
public import proofs.«01_k».proof.Proof.SeqClaims
public import Idealize.ShloMosaic.Adequacy
public import Idealize.ShloMosaic.Init

@[expose] public section

noncomputable section

-- The claims about the frames also say that every semaphore counter ends at zero; the proof must show that too.

namespace Cert.Proof

open Idealize.ShloMosaic Idealize.SL.Sem Cert.Moe

/-- Every claim of `proof/Defs.lean`, with the programs' stated facts. -/
theorem claim : Cert.Claim :=
  ⟨Cert.Moe.Gen.facts, Cert.MoeIdeal.Gen.facts, Cert.MoeRefIdeal.Gen.facts,
    Cert.Ffn.Gen.facts, Cert.FfnIdeal.Gen.facts, Cert.FfnRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Norm.Gen.facts, Cert.NormIdeal.Gen.facts, Cert.NormRefIdeal.Gen.facts,
    Cert.Seq.Gen.facts, Cert.SeqIdeal.Gen.facts, Cert.SeqRefIdeal.Gen.facts,
    MoeClaims.preFacts, SeqClaims.preFacts,
    MoeClaims.frame_p, MoeClaims.frame_pi, @MoeClaims.frame_pi_pre MoeClaims.preFacts, MoeClaims.frame_ri, @MoeClaims.frame_ri_pre MoeClaims.preFacts,
    FfnClaims.frame_p, FfnClaims.frame_pi, FfnClaims.frame_ri,
    InprojClaims.frame_p, InprojClaims.frame_pi, InprojClaims.frame_ri,
    MergeClaims.frame_p, MergeClaims.frame_pi, MergeClaims.frame_ri,
    NormClaims.frame_p, NormClaims.frame_pi, NormClaims.frame_ri,
    SeqClaims.frame_p, SeqClaims.frame_pi, @SeqClaims.frame_pi_pre SeqClaims.preFacts, SeqClaims.frame_ri, @SeqClaims.frame_ri_pre SeqClaims.preFacts,
    MoeClaims.preserves, @MoeClaims.algebraic MoeClaims.preFacts,
    trivial, FfnClaims.algebraic,
    trivial, InprojClaims.algebraic,
    trivial, MergeClaims.algebraic,
    trivial, NormClaims.algebraic,
    trivial, @SeqClaims.algebraic SeqClaims.preFacts⟩

end Cert.Proof

end
